-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hPre_finite_inputs : Cert.Pre_finite_inputs.Facts),
    quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x16x4096x64 : Shape := ⟨4, ![2, 16, 4096, 64]⟩
abbrev S16x1x64 : Shape := ⟨3, ![16, 1, 64]⟩
abbrev S_ : Shape := ⟨0, ![]⟩

class Facts : Prop where
  bcast_S_S2x16x4096x64 : S_.BroadcastsInDim S2x16x4096x64 (![] : Fin 0 → Fin S2x16x4096x64.rank)
  reducesTo_S2x16x4096x64_S_d0_1_2_3 : S2x16x4096x64.ReducesTo [0, 1, 2, 3] S_
  h_S_ : 0 < S_.numel
  bcast_S_S16x1x64 : S_.BroadcastsInDim S16x1x64 (![] : Fin 0 → Fin S16x1x64.rank)
  reducesTo_S16x1x64_S_d0_1_2 : S16x1x64.ReducesTo [0, 1, 2] S_

variable [Facts]

def fn_part1 {F : FTy → Type} [FloatOps F] (main_arg4 : FVec F S16x1x64 .f32) (main_v13 : IVec S_ 1) (main_v16 : IVec S16x1x64 1) : IVec S_ 1 :=
  let main_c_5 : IVec S_ 1 := constantI S_ 1 1#1
  let main_v17 : IVec S_ 1 := (fun x v => Host.reduce IntOp.andi x v reducesTo_S16x1x64_S_d0_1_2 h_S_) main_v16 main_c_5
  let main_v18 : IVec S_ 1 := andi main_v13 main_v17
  let main_v19 : FVec F S16x1x64 .f32 := Host.absf main_arg4
  let main_cst_6 : FVec F S_ .f32 := constant S_ .f32 0x7F800000#32
  let main_v20 : FVec F S16x1x64 .f32 := broadcastInDim S16x1x64 ![] bcast_S_S16x1x64 main_cst_6
  let main_v21 : IVec S16x1x64 1 := cmpf .olt main_v19 main_v20
  let main_c_7 : IVec S_ 1 := constantI S_ 1 1#1
  let main_v22 : IVec S_ 1 := (fun x v => Host.reduce IntOp.andi x v reducesTo_S16x1x64_S_d0_1_2 h_S_) main_v21 main_c_7
  let main_v23 : IVec S_ 1 := andi main_v18 main_v22
  main_v23

def fn {F : FTy → Type} [FloatOps F] (main_arg0 : FVec F S2x16x4096x64 .f32) (main_arg1 : FVec F S2x16x4096x64 .f32) (main_arg2 : FVec F S2x16x4096x64 .f32) (main_arg3 : FVec F S16x1x64 .f32) (main_arg4 : FVec F S16x1x64 .f32) : IVec S_ 1 :=
  let main_v0 : FVec F S2x16x4096x64 .f32 := Host.absf main_arg0
  let main_cst : FVec F S_ .f32 := constant S_ .f32 0x7F800000#32
  let main_v1 : FVec F S2x16x4096x64 .f32 := broadcastInDim S2x16x4096x64 ![] bcast_S_S2x16x4096x64 main_cst
  let main_v2 : IVec S2x16x4096x64 1 := cmpf .olt main_v0 main_v1
  let main_c : IVec S_ 1 := constantI S_ 1 1#1
  let main_v3 : IVec S_ 1 := (fun x v => Host.reduce IntOp.andi x v reducesTo_S2x16x4096x64_S_d0_1_2_3 h_S_) main_v2 main_c
  let main_v4 : FVec F S2x16x4096x64 .f32 := Host.absf main_arg1
  let main_cst_0 : FVec F S_ .f32 := constant S_ .f32 0x7F800000#32
  let main_v5 : FVec F S2x16x4096x64 .f32 := broadcastInDim S2x16x4096x64 ![] bcast_S_S2x16x4096x64 main_cst_0
  let main_v6 : IVec S2x16x4096x64 1 := cmpf .olt main_v4 main_v5
  let main_c_1 : IVec S_ 1 := constantI S_ 1 1#1
  let main_v7 : IVec S_ 1 := (fun x v => Host.reduce IntOp.andi x v reducesTo_S2x16x4096x64_S_d0_1_2_3 h_S_) main_v6 main_c_1
  let main_v8 : IVec S_ 1 := andi main_v3 main_v7
  let main_v9 : FVec F S2x16x4096x64 .f32 := Host.absf main_arg2
  let main_cst_2 : FVec F S_ .f32 := constant S_ .f32 0x7F800000#32
  let main_v10 : FVec F S2x16x4096x64 .f32 := broadcastInDim S2x16x4096x64 ![] bcast_S_S2x16x4096x64 main_cst_2
  let main_v11 : IVec S2x16x4096x64 1 := cmpf .olt main_v9 main_v10
  let main_c_3 : IVec S_ 1 := constantI S_ 1 1#1
  let main_v12 : IVec S_ 1 := (fun x v => Host.reduce IntOp.andi x v reducesTo_S2x16x4096x64_S_d0_1_2_3 h_S_) main_v11 main_c_3
  let main_v13 : IVec S_ 1 := andi main_v8 main_v12
  let main_v14 : FVec F S16x1x64 .f32 := Host.absf main_arg3
  let main_cst_4 : FVec F S_ .f32 := constant S_ .f32 0x7F800000#32
  let main_v15 : FVec F S16x1x64 .f32 := broadcastInDim S16x1x64 ![] bcast_S_S16x1x64 main_cst_4
  let main_v16 : IVec S16x1x64 1 := cmpf .olt main_v14 main_v15
  fn_part1 (F := F) main_arg4 main_v13 main_v16
-- ==== KernelIdeal.lean ====
abbrev S2x16x4096x64 : Shape := ⟨4, ![2, 16, 4096, 64]⟩
abbrev S16x1x64 : Shape := ⟨3, ![16, 1, 64]⟩
abbrev S4096 : Shape := ⟨1, ![4096]⟩
abbrev S32x128 : Shape := ⟨2, ![32, 128]⟩
abbrev S_ : Shape := ⟨0, ![]⟩
abbrev S32x128x128 : Shape := ⟨3, ![32, 128, 128]⟩
abbrev S32x1x128 : Shape := ⟨3, ![32, 1, 128]⟩
abbrev S4096x1 : Shape := ⟨2, ![4096, 1]⟩
abbrev S4096x64 : Shape := ⟨2, ![4096, 64]⟩
abbrev S32x1 : Shape := ⟨2, ![32, 1]⟩
abbrev S32x64 : Shape := ⟨2, ![32, 64]⟩
abbrev S2x2x8x4096x64 : Shape := ⟨5, ![2, 2, 8, 4096, 64]⟩
abbrev S2x8x1x64 : Shape := ⟨4, ![2, 8, 1, 64]⟩
abbrev S1x2x1x4096x64 : Shape := ⟨5, ![1, 2, 1, 4096, 64]⟩
abbrev S2x1x1x64 : Shape := ⟨4, ![2, 1, 1, 64]⟩
abbrev S64x128 : Shape := ⟨2, ![64, 128]⟩
abbrev S1x1x1x3969x64 : Shape := ⟨5, ![1, 1, 1, 3969, 64]⟩
abbrev S3969x64 : Shape := ⟨2, ![3969, 64]⟩
abbrev S1x1x1x127x64 : Shape := ⟨5, ![1, 1, 1, 127, 64]⟩
abbrev S127x64 : Shape := ⟨2, ![127, 64]⟩
abbrev S32x33 : Shape := ⟨2, ![32, 33]⟩
abbrev S1x1x1x128x64 : Shape := ⟨5, ![1, 1, 1, 128, 64]⟩
abbrev S128x64 : Shape := ⟨2, ![128, 64]⟩
abbrev S64 : Shape := ⟨1, ![64]⟩
abbrev S1x64 : Shape := ⟨2, ![1, 64]⟩
abbrev S31x64 : Shape := ⟨2, ![31, 64]⟩
abbrev S2x64 : Shape := ⟨2, ![2, 64]⟩
abbrev S30x64 : Shape := ⟨2, ![30, 64]⟩
abbrev S4x64 : Shape := ⟨2, ![4, 64]⟩
abbrev S28x64 : Shape := ⟨2, ![28, 64]⟩
abbrev S8x64 : Shape := ⟨2, ![8, 64]⟩
abbrev S24x64 : Shape := ⟨2, ![24, 64]⟩
abbrev S16x64 : Shape := ⟨2, ![16, 64]⟩
abbrev S33x64 : Shape := ⟨2, ![33, 64]⟩
abbrev S32 : Shape := ⟨1, ![32]⟩
abbrev S1x1x1x64 : Shape := ⟨4, ![1, 1, 1, 64]⟩
abbrev S128x128 : Shape := ⟨2, ![128, 128]⟩
abbrev S128 : Shape := ⟨1, ![128]⟩
abbrev S128x1 : Shape := ⟨2, ![128, 1]⟩
abbrev S1x1 : Shape := ⟨2, ![1, 1]⟩
abbrev S1024x64 : Shape := ⟨2, ![1024, 64]⟩
abbrev S1x1024x64 : Shape := ⟨3, ![1, 1024, 64]⟩
abbrev S1x1x1x1024x64 : Shape := ⟨5, ![1, 1, 1, 1024, 64]⟩
abbrev S1x897x64 : Shape := ⟨3, ![1, 897, 64]⟩
abbrev S1x1x1x897x64 : Shape := ⟨5, ![1, 1, 1, 897, 64]⟩
abbrev S1x127x64 : Shape := ⟨3, ![1, 127, 64]⟩

abbrev nBuf : Space → Nat
  | .hbm => 36
  | .vmem => 18
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S2x16x4096x64, .f32⟩
  | .hbm, ⟨3, _⟩ => ⟨S16x1x64, .f32⟩
  | .hbm, ⟨4, _⟩ => ⟨S16x1x64, .f32⟩
  | .hbm, ⟨5, _⟩ => ⟨S4096, .i32⟩
  | .hbm, ⟨6, _⟩ => ⟨S4096, .f32⟩
  | .hbm, ⟨7, _⟩ => ⟨S32x128, .f32⟩
  | .hbm, ⟨8, _⟩ => ⟨S_, .f32⟩
  | .hbm, ⟨9, _⟩ => ⟨S32x128, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S32x128, .f32⟩
  | .hbm, ⟨14, _⟩ => ⟨S32x128x128, .i32⟩
  | .hbm, ⟨15, _⟩ => ⟨S32x128x128, .i32⟩
  | .hbm, ⟨16, _⟩ => ⟨S32x128x128, .i1⟩
  | .hbm, ⟨17, _⟩ => ⟨S32x1x128, .f32⟩
  | .hbm, ⟨18, _⟩ => ⟨S_, .f32⟩
  | .hbm, ⟨19, _⟩ => ⟨S_, .f32⟩
  | .hbm, ⟨20, _⟩ => ⟨S32x128x128, .f32⟩
  | .hbm, ⟨21, _⟩ => ⟨S32x128x128, .f32⟩
  | .hbm, ⟨22, _⟩ => ⟨S32x128x128, .f32⟩
  | .hbm, ⟨23, _⟩ => ⟨S_, .f32⟩
  | .hbm, ⟨24, _⟩ => ⟨S32x128, .f32⟩
  | .hbm, ⟨25, _⟩ => ⟨S4096x1, .f32⟩
  | .hbm, ⟨26, _⟩ => ⟨S4096x64, .f32⟩
  | .hbm, ⟨27, _⟩ => ⟨S32x1, .f32⟩
  | .hbm, ⟨28, _⟩ => ⟨S32x64, .f32⟩
  | .hbm, ⟨29, _⟩ => ⟨S2x2x8x4096x64, .f32⟩
  | .hbm, ⟨30, _⟩ => ⟨S2x2x8x4096x64, .f32⟩
  | .hbm, ⟨31, _⟩ => ⟨S2x2x8x4096x64, .f32⟩
  | .hbm, ⟨32, _⟩ => ⟨S2x8x1x64, .f32⟩
  | .hbm, ⟨33, _⟩ => ⟨S2x8x1x64, .f32⟩
  | .hbm, ⟨34, _⟩ => ⟨S2x2x8x4096x64, .f32⟩
  | .hbm, ⟨35, _⟩ => ⟨S2x16x4096x64, .f32⟩
  | .local _ .vmem, ⟨0, _⟩ => ⟨S4096x64, .f32⟩
  | .local _ .vmem, ⟨1, _⟩ => ⟨S32x64, .f32⟩
  | .local _ .vmem, ⟨2, _⟩ => ⟨S1x2x1x4096x64, .f32⟩
  | .local _ .vmem, ⟨3, _⟩ => ⟨S1x2x1x4096x64, .f32⟩
  | .local _ .vmem, ⟨4, _⟩ => ⟨S1x2x1x4096x64, .f32⟩
  | .local _ .vmem, ⟨5, _⟩ => ⟨S1x2x1x4096x64, .f32⟩
  | .local _ .vmem, ⟨6, _⟩ => ⟨S1x2x1x4096x64, .f32⟩
  | .local _ .vmem, ⟨7, _⟩ => ⟨S1x2x1x4096x64, .f32⟩
  | .local _ .vmem, ⟨8, _⟩ => ⟨S2x1x1x64, .f32⟩
  | .local _ .vmem, ⟨9, _⟩ => ⟨S2x1x1x64, .f32⟩
  | .local _ .vmem, ⟨10, _⟩ => ⟨S2x1x1x64, .f32⟩
  | .local _ .vmem, ⟨11, _⟩ => ⟨S2x1x1x64, .f32⟩
  | .local _ .vmem, ⟨12, _⟩ => ⟨S1x2x1x4096x64, .f32⟩
  | .local _ .vmem, ⟨13, _⟩ => ⟨S1x2x1x4096x64, .f32⟩
  | .local _ .vmem, ⟨14, _⟩ => ⟨S64x128, .i32⟩
  | .local _ .vmem, ⟨15, _⟩ => ⟨S4096x64, .f32⟩
  | .local _ .vmem, ⟨16, _⟩ => ⟨S4096x64, .f32⟩
  | .local _ .vmem, ⟨17, _⟩ => ⟨S4096x64, .f32⟩
  | _, _ => ⟨S2x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F] [Named F]

def κ : String → Option EReal := fun
  | "qscale" => some (((1 / 8) * (Real.log 2)⁻¹ : ℝ) : EReal)
  | _ => none

abbrev grid0 : Pipeline.Grid := ⟨1, ![16], ![false]⟩

def k0_mult1 (v1128 : BitVec 32) : BitVec 32 :=
  let c1_i32_893 : BitVec 32 := 1#32
  let v1129 : BitVec 32 := Scalar.subi v1128 c1_i32_893
  let c0_i32 : BitVec 32 := 0#32
  let v1130 : BitVec 32 := Scalar.maxsi v1129 c0_i32
  let c128_i32_894 : BitVec 32 := 128#32
  let v1131 : BitVec 32 := Scalar.muli v1130 c128_i32_894
  v1131

def k0_off1 (v1128 : BitVec 32) : Fin 5 → Nat :=
  let c0_895 : Index := 0#32
  let c0_896 : Index := 0#32
  let c0_897 : Index := 0#32
  let c1_i32_893 : BitVec 32 := 1#32
  let v1129 : BitVec 32 := Scalar.subi v1128 c1_i32_893
  let c0_i32 : BitVec 32 := 0#32
  let v1130 : BitVec 32 := Scalar.maxsi v1129 c0_i32
  let c128_i32_894 : BitVec 32 := 128#32
  let v1131 : BitVec 32 := Scalar.muli v1130 c128_i32_894
  let v1132 : BitVec 32 := v1131
  let v1133 : Index := Scalar.indexCast v1132
  let c0_898 : Index := 0#32
  ![0, 0, 0, v1133.toNat, 0]

def k0_chk1 (v1128 : BitVec 32) : Prop :=
  (128 ∣ (k0_mult1 v1128).toNat) ∧
  (∀ a, (k0_off1 v1128) a + S1x1x1x128x64.size a ≤ S1x2x1x4096x64.size a)
theorem k0_mult1_dvd : ∀ (v1128 : BitVec 32) (k0_hw1 : k0_chk1 v1128), 128 ∣ (k0_mult1 v1128).toNat := fun v1128 k0_hw1 => k0_hw1.1
theorem k0_off1_inb : ∀ (v1128 : BitVec 32) (k0_hw1 : k0_chk1 v1128), ∀ a, (k0_off1 v1128) a + S1x1x1x128x64.size a ≤ S1x2x1x4096x64.size a := fun v1128 k0_hw1 => k0_hw1.2

def k0_mult2 (v1176 : BitVec 32) : BitVec 32 :=
  let c1_i32_919 : BitVec 32 := 1#32
  let v1177 : BitVec 32 := Scalar.subi v1176 c1_i32_919
  let c0_i32_920 : BitVec 32 := 0#32
  let v1178 : BitVec 32 := Scalar.maxsi v1177 c0_i32_920
  let c128_i32_921 : BitVec 32 := 128#32
  let v1179 : BitVec 32 := Scalar.muli v1178 c128_i32_921
  v1179

def k0_off2 (v1176 : BitVec 32) : Fin 2 → Nat :=
  let c0_i32_922 : BitVec 32 := 0#32
  let c1_i32_919 : BitVec 32 := 1#32
  let v1177 : BitVec 32 := Scalar.subi v1176 c1_i32_919
  let c0_i32_920 : BitVec 32 := 0#32
  let v1178 : BitVec 32 := Scalar.maxsi v1177 c0_i32_920
  let c128_i32_921 : BitVec 32 := 128#32
  let v1179 : BitVec 32 := Scalar.muli v1178 c128_i32_921
  let v1180 : BitVec 32 := v1179
  let v1181 : BitVec 32 := Scalar.addi c0_i32_922 v1180
  let v1182 : Index := Scalar.indexCast v1181
  let c0_923 : Index := 0#32
  ![v1182.toNat, 0]

def k0_chk2 (v1176 : BitVec 32) : Prop :=
  (128 ∣ (k0_mult2 v1176).toNat) ∧
  (∀ a, (k0_off2 v1176) a + S128x64.size a ≤ S4096x64.size a)
theorem k0_mult2_dvd : ∀ (v1176 : BitVec 32) (k0_hw2 : k0_chk2 v1176), 128 ∣ (k0_mult2 v1176).toNat := fun v1176 k0_hw2 => k0_hw2.1
theorem k0_off2_inb : ∀ (v1176 : BitVec 32) (k0_hw2 : k0_chk2 v1176), ∀ a, (k0_off2 v1176) a + S128x64.size a ≤ S4096x64.size a := fun v1176 k0_hw2 => k0_hw2.2

def k0_mult3 (v1227 : BitVec 32) : BitVec 32 :=
  let c1_i32_951 : BitVec 32 := 1#32
  let v1228 : BitVec 32 := Scalar.subi v1227 c1_i32_951
  let c0_i32_952 : BitVec 32 := 0#32
  let v1229 : BitVec 32 := Scalar.maxsi v1228 c0_i32_952
  let c128_i32_953 : BitVec 32 := 128#32
  let v1230 : BitVec 32 := Scalar.muli v1229 c128_i32_953
  v1230

def k0_off3 (v1227 : BitVec 32) : Fin 5 → Nat :=
  let c0_954 : Index := 0#32
  let c0_955 : Index := 0#32
  let c0_956 : Index := 0#32
  let c1_i32_951 : BitVec 32 := 1#32
  let v1228 : BitVec 32 := Scalar.subi v1227 c1_i32_951
  let c0_i32_952 : BitVec 32 := 0#32
  let v1229 : BitVec 32 := Scalar.maxsi v1228 c0_i32_952
  let c128_i32_953 : BitVec 32 := 128#32
  let v1230 : BitVec 32 := Scalar.muli v1229 c128_i32_953
  let v1231 : BitVec 32 := v1230
  let v1232 : Index := Scalar.indexCast v1231
  let c0_957 : Index := 0#32
  ![0, 0, 0, v1232.toNat, 0]

def k0_chk3 (v1227 : BitVec 32) : Prop :=
  (128 ∣ (k0_mult3 v1227).toNat) ∧
  (∀ a, (k0_off3 v1227) a + S1x1x1x128x64.size a ≤ S1x2x1x4096x64.size a)
theorem k0_mult3_dvd : ∀ (v1227 : BitVec 32) (k0_hw3 : k0_chk3 v1227), 128 ∣ (k0_mult3 v1227).toNat := fun v1227 k0_hw3 => k0_hw3.1
theorem k0_off3_inb : ∀ (v1227 : BitVec 32) (k0_hw3 : k0_chk3 v1227), ∀ a, (k0_off3 v1227) a + S1x1x1x128x64.size a ≤ S1x2x1x4096x64.size a := fun v1227 k0_hw3 => k0_hw3.2

def k0_mult4 (v1275 : BitVec 32) : BitVec 32 :=
  let c1_i32_978 : BitVec 32 := 1#32
  let v1276 : BitVec 32 := Scalar.subi v1275 c1_i32_978
  let c0_i32_979 : BitVec 32 := 0#32
  let v1277 : BitVec 32 := Scalar.maxsi v1276 c0_i32_979
  let c128_i32_980 : BitVec 32 := 128#32
  let v1278 : BitVec 32 := Scalar.muli v1277 c128_i32_980
  v1278

def k0_off4 (v1275 : BitVec 32) : Fin 2 → Nat :=
  let c0_i32_981 : BitVec 32 := 0#32
  let c1_i32_978 : BitVec 32 := 1#32
  let v1276 : BitVec 32 := Scalar.subi v1275 c1_i32_978
  let c0_i32_979 : BitVec 32 := 0#32
  let v1277 : BitVec 32 := Scalar.maxsi v1276 c0_i32_979
  let c128_i32_980 : BitVec 32 := 128#32
  let v1278 : BitVec 32 := Scalar.muli v1277 c128_i32_980
  let v1279 : BitVec 32 := v1278
  let v1280 : BitVec 32 := Scalar.addi c0_i32_981 v1279
  let v1281 : Index := Scalar.indexCast v1280
  let c0_982 : Index := 0#32
  ![v1281.toNat, 0]

def k0_chk4 (v1275 : BitVec 32) : Prop :=
  (128 ∣ (k0_mult4 v1275).toNat) ∧
  (∀ a, (k0_off4 v1275) a + S128x64.size a ≤ S4096x64.size a)
theorem k0_mult4_dvd : ∀ (v1275 : BitVec 32) (k0_hw4 : k0_chk4 v1275), 128 ∣ (k0_mult4 v1275).toNat := fun v1275 k0_hw4 => k0_hw4.1
theorem k0_off4_inb : ∀ (v1275 : BitVec 32) (k0_hw4 : k0_chk4 v1275), ∀ a, (k0_off4 v1275) a + S128x64.size a ≤ S4096x64.size a := fun v1275 k0_hw4 => k0_hw4.2

def k0_mult5 (v1326 : BitVec 32) : BitVec 32 :=
  let c1_i32_1010 : BitVec 32 := 1#32
  let v1327 : BitVec 32 := Scalar.subi v1326 c1_i32_1010
  let c0_i32_1011 : BitVec 32 := 0#32
  let v1328 : BitVec 32 := Scalar.maxsi v1327 c0_i32_1011
  let c128_i32_1012 : BitVec 32 := 128#32
  let v1329 : BitVec 32 := Scalar.muli v1328 c128_i32_1012
  v1329

def k0_off5 (v1326 : BitVec 32) : Fin 5 → Nat :=
  let c0_1013 : Index := 0#32
  let c0_1014 : Index := 0#32
  let c0_1015 : Index := 0#32
  let c1_i32_1010 : BitVec 32 := 1#32
  let v1327 : BitVec 32 := Scalar.subi v1326 c1_i32_1010
  let c0_i32_1011 : BitVec 32 := 0#32
  let v1328 : BitVec 32 := Scalar.maxsi v1327 c0_i32_1011
  let c128_i32_1012 : BitVec 32 := 128#32
  let v1329 : BitVec 32 := Scalar.muli v1328 c128_i32_1012
  let v1330 : BitVec 32 := v1329
  let v1331 : Index := Scalar.indexCast v1330
  let c0_1016 : Index := 0#32
  ![0, 0, 0, v1331.toNat, 0]

def k0_chk5 (v1326 : BitVec 32) : Prop :=
  (128 ∣ (k0_mult5 v1326).toNat) ∧
  (∀ a, (k0_off5 v1326) a + S1x1x1x128x64.size a ≤ S1x2x1x4096x64.size a)
theorem k0_mult5_dvd : ∀ (v1326 : BitVec 32) (k0_hw5 : k0_chk5 v1326), 128 ∣ (k0_mult5 v1326).toNat := fun v1326 k0_hw5 => k0_hw5.1
theorem k0_off5_inb : ∀ (v1326 : BitVec 32) (k0_hw5 : k0_chk5 v1326), ∀ a, (k0_off5 v1326) a + S1x1x1x128x64.size a ≤ S1x2x1x4096x64.size a := fun v1326 k0_hw5 => k0_hw5.2

def k0_mult6 (v1374 : BitVec 32) : BitVec 32 :=
  let c1_i32_1037 : BitVec 32 := 1#32
  let v1375 : BitVec 32 := Scalar.subi v1374 c1_i32_1037
  let c0_i32_1038 : BitVec 32 := 0#32
  let v1376 : BitVec 32 := Scalar.maxsi v1375 c0_i32_1038
  let c128_i32_1039 : BitVec 32 := 128#32
  let v1377 : BitVec 32 := Scalar.muli v1376 c128_i32_1039
  v1377

def k0_off6 (v1374 : BitVec 32) : Fin 2 → Nat :=
  let c0_i32_1040 : BitVec 32 := 0#32
  let c1_i32_1037 : BitVec 32 := 1#32
  let v1375 : BitVec 32 := Scalar.subi v1374 c1_i32_1037
  let c0_i32_1038 : BitVec 32 := 0#32
  let v1376 : BitVec 32 := Scalar.maxsi v1375 c0_i32_1038
  let c128_i32_1039 : BitVec 32 := 128#32
  let v1377 : BitVec 32 := Scalar.muli v1376 c128_i32_1039
  let v1378 : BitVec 32 := v1377
  let v1379 : BitVec 32 := Scalar.addi c0_i32_1040 v1378
  let v1380 : Index := Scalar.indexCast v1379
  let c0_1041 : Index := 0#32
  ![v1380.toNat, 0]

def k0_chk6 (v1374 : BitVec 32) : Prop :=
  (128 ∣ (k0_mult6 v1374).toNat) ∧
  (∀ a, (k0_off6 v1374) a + S128x64.size a ≤ S4096x64.size a)
theorem k0_mult6_dvd : ∀ (v1374 : BitVec 32) (k0_hw6 : k0_chk6 v1374), 128 ∣ (k0_mult6 v1374).toNat := fun v1374 k0_hw6 => k0_hw6.1
theorem k0_off6_inb : ∀ (v1374 : BitVec 32) (k0_hw6 : k0_chk6 v1374), ∀ a, (k0_off6 v1374) a + S128x64.size a ≤ S4096x64.size a := fun v1374 k0_hw6 => k0_hw6.2

def k0_mult7 (v1425 : BitVec 32) : BitVec 32 :=
  let c1_i32_1069 : BitVec 32 := 1#32
  let v1426 : BitVec 32 := Scalar.subi v1425 c1_i32_1069
  let c0_i32_1070 : BitVec 32 := 0#32
  let v1427 : BitVec 32 := Scalar.maxsi v1426 c0_i32_1070
  let c128_i32_1071 : BitVec 32 := 128#32
  let v1428 : BitVec 32 := Scalar.muli v1427 c128_i32_1071
  v1428

def k0_off7 (v1425 : BitVec 32) : Fin 5 → Nat :=
  let c0_1072 : Index := 0#32
  let c0_1073 : Index := 0#32
  let c0_1074 : Index := 0#32
  let c1_i32_1069 : BitVec 32 := 1#32
  let v1426 : BitVec 32 := Scalar.subi v1425 c1_i32_1069
  let c0_i32_1070 : BitVec 32 := 0#32
  let v1427 : BitVec 32 := Scalar.maxsi v1426 c0_i32_1070
  let c128_i32_1071 : BitVec 32 := 128#32
  let v1428 : BitVec 32 := Scalar.muli v1427 c128_i32_1071
  let v1429 : BitVec 32 := v1428
  let v1430 : Index := Scalar.indexCast v1429
  let c0_1075 : Index := 0#32
  ![0, 0, 0, v1430.toNat, 0]

def k0_chk7 (v1425 : BitVec 32) : Prop :=
  (128 ∣ (k0_mult7 v1425).toNat) ∧
  (∀ a, (k0_off7 v1425) a + S1x1x1x128x64.size a ≤ S1x2x1x4096x64.size a)
theorem k0_mult7_dvd : ∀ (v1425 : BitVec 32) (k0_hw7 : k0_chk7 v1425), 128 ∣ (k0_mult7 v1425).toNat := fun v1425 k0_hw7 => k0_hw7.1
theorem k0_off7_inb : ∀ (v1425 : BitVec 32) (k0_hw7 : k0_chk7 v1425), ∀ a, (k0_off7 v1425) a + S1x1x1x128x64.size a ≤ S1x2x1x4096x64.size a := fun v1425 k0_hw7 => k0_hw7.2

def k0_mult8 (v1473 : BitVec 32) : BitVec 32 :=
  let c1_i32_1096 : BitVec 32 := 1#32
  let v1474 : BitVec 32 := Scalar.subi v1473 c1_i32_1096
  let c0_i32_1097 : BitVec 32 := 0#32
  let v1475 : BitVec 32 := Scalar.maxsi v1474 c0_i32_1097
  let c128_i32_1098 : BitVec 32 := 128#32
  let v1476 : BitVec 32 := Scalar.muli v1475 c128_i32_1098
  v1476

def k0_off8 (v1473 : BitVec 32) : Fin 2 → Nat :=
  let c0_i32_1099 : BitVec 32 := 0#32
  let c1_i32_1096 : BitVec 32 := 1#32
  let v1474 : BitVec 32 := Scalar.subi v1473 c1_i32_1096
  let c0_i32_1097 : BitVec 32 := 0#32
  let v1475 : BitVec 32 := Scalar.maxsi v1474 c0_i32_1097
  let c128_i32_1098 : BitVec 32 := 128#32
  let v1476 : BitVec 32 := Scalar.muli v1475 c128_i32_1098
  let v1477 : BitVec 32 := v1476
  let v1478 : BitVec 32 := Scalar.addi c0_i32_1099 v1477
  let v1479 : Index := Scalar.indexCast v1478
  let c0_1100 : Index := 0#32
  ![v1479.toNat, 0]

def k0_chk8 (v1473 : BitVec 32) : Prop :=
  (128 ∣ (k0_mult8 v1473).toNat) ∧
  (∀ a, (k0_off8 v1473) a + S128x64.size a ≤ S4096x64.size a)
theorem k0_mult8_dvd : ∀ (v1473 : BitVec 32) (k0_hw8 : k0_chk8 v1473), 128 ∣ (k0_mult8 v1473).toNat := fun v1473 k0_hw8 => k0_hw8.1
theorem k0_off8_inb : ∀ (v1473 : BitVec 32) (k0_hw8 : k0_chk8 v1473), ∀ a, (k0_off8 v1473) a + S128x64.size a ≤ S4096x64.size a := fun v1473 k0_hw8 => k0_hw8.2

def k0_mult9 (v1524 : BitVec 32) : BitVec 32 :=
  let c1_i32_1128 : BitVec 32 := 1#32
  let v1525 : BitVec 32 := Scalar.subi v1524 c1_i32_1128
  let c0_i32_1129 : BitVec 32 := 0#32
  let v1526 : BitVec 32 := Scalar.maxsi v1525 c0_i32_1129
  let c128_i32_1130 : BitVec 32 := 128#32
  let v1527 : BitVec 32 := Scalar.muli v1526 c128_i32_1130
  v1527

def k0_off9 (v1524 : BitVec 32) : Fin 5 → Nat :=
  let c0_1131 : Index := 0#32
  let c0_1132 : Index := 0#32
  let c0_1133 : Index := 0#32
  let c1_i32_1128 : BitVec 32 := 1#32
  let v1525 : BitVec 32 := Scalar.subi v1524 c1_i32_1128
  let c0_i32_1129 : BitVec 32 := 0#32
  let v1526 : BitVec 32 := Scalar.maxsi v1525 c0_i32_1129
  let c128_i32_1130 : BitVec 32 := 128#32
  let v1527 : BitVec 32 := Scalar.muli v1526 c128_i32_1130
  let v1528 : BitVec 32 := v1527
  let v1529 : Index := Scalar.indexCast v1528
  let c0_1134 : Index := 0#32
  ![0, 0, 0, v1529.toNat, 0]

def k0_chk9 (v1524 : BitVec 32) : Prop :=
  (128 ∣ (k0_mult9 v1524).toNat) ∧
  (∀ a, (k0_off9 v1524) a + S1x1x1x128x64.size a ≤ S1x2x1x4096x64.size a)
theorem k0_mult9_dvd : ∀ (v1524 : BitVec 32) (k0_hw9 : k0_chk9 v1524), 128 ∣ (k0_mult9 v1524).toNat := fun v1524 k0_hw9 => k0_hw9.1
theorem k0_off9_inb : ∀ (v1524 : BitVec 32) (k0_hw9 : k0_chk9 v1524), ∀ a, (k0_off9 v1524) a + S1x1x1x128x64.size a ≤ S1x2x1x4096x64.size a := fun v1524 k0_hw9 => k0_hw9.2

def k0_mult10 (v1572 : BitVec 32) : BitVec 32 :=
  let c1_i32_1155 : BitVec 32 := 1#32
  let v1573 : BitVec 32 := Scalar.subi v1572 c1_i32_1155
  let c0_i32_1156 : BitVec 32 := 0#32
  let v1574 : BitVec 32 := Scalar.maxsi v1573 c0_i32_1156
  let c128_i32_1157 : BitVec 32 := 128#32
  let v1575 : BitVec 32 := Scalar.muli v1574 c128_i32_1157
  v1575

def k0_off10 (v1572 : BitVec 32) : Fin 2 → Nat :=
  let c0_i32_1158 : BitVec 32 := 0#32
  let c1_i32_1155 : BitVec 32 := 1#32
  let v1573 : BitVec 32 := Scalar.subi v1572 c1_i32_1155
  let c0_i32_1156 : BitVec 32 := 0#32
  let v1574 : BitVec 32 := Scalar.maxsi v1573 c0_i32_1156
  let c128_i32_1157 : BitVec 32 := 128#32
  let v1575 : BitVec 32 := Scalar.muli v1574 c128_i32_1157
  let v1576 : BitVec 32 := v1575
  let v1577 : BitVec 32 := Scalar.addi c0_i32_1158 v1576
  let v1578 : Index := Scalar.indexCast v1577
  let c0_1159 : Index := 0#32
  ![v1578.toNat, 0]

def k0_chk10 (v1572 : BitVec 32) : Prop :=
  (128 ∣ (k0_mult10 v1572).toNat) ∧
  (∀ a, (k0_off10 v1572) a + S128x64.size a ≤ S4096x64.size a)
theorem k0_mult10_dvd : ∀ (v1572 : BitVec 32) (k0_hw10 : k0_chk10 v1572), 128 ∣ (k0_mult10 v1572).toNat := fun v1572 k0_hw10 => k0_hw10.1
theorem k0_off10_inb : ∀ (v1572 : BitVec 32) (k0_hw10 : k0_chk10 v1572), ∀ a, (k0_off10 v1572) a + S128x64.size a ≤ S4096x64.size a := fun v1572 k0_hw10 => k0_hw10.2

def k0_mult11 (v1623 : BitVec 32) : BitVec 32 :=
  let c1_i32_1187 : BitVec 32 := 1#32
  let v1624 : BitVec 32 := Scalar.subi v1623 c1_i32_1187
  let c0_i32_1188 : BitVec 32 := 0#32
  let v1625 : BitVec 32 := Scalar.maxsi v1624 c0_i32_1188
  let c128_i32_1189 : BitVec 32 := 128#32
  let v1626 : BitVec 32 := Scalar.muli v1625 c128_i32_1189
  v1626

def k0_off11 (v1623 : BitVec 32) : Fin 5 → Nat :=
  let c0_1190 : Index := 0#32
  let c0_1191 : Index := 0#32
  let c0_1192 : Index := 0#32
  let c1_i32_1187 : BitVec 32 := 1#32
  let v1624 : BitVec 32 := Scalar.subi v1623 c1_i32_1187
  let c0_i32_1188 : BitVec 32 := 0#32
  let v1625 : BitVec 32 := Scalar.maxsi v1624 c0_i32_1188
  let c128_i32_1189 : BitVec 32 := 128#32
  let v1626 : BitVec 32 := Scalar.muli v1625 c128_i32_1189
  let v1627 : BitVec 32 := v1626
  let v1628 : Index := Scalar.indexCast v1627
  let c0_1193 : Index := 0#32
  ![0, 0, 0, v1628.toNat, 0]

def k0_chk11 (v1623 : BitVec 32) : Prop :=
  (128 ∣ (k0_mult11 v1623).toNat) ∧
  (∀ a, (k0_off11 v1623) a + S1x1x1x128x64.size a ≤ S1x2x1x4096x64.size a)
theorem k0_mult11_dvd : ∀ (v1623 : BitVec 32) (k0_hw11 : k0_chk11 v1623), 128 ∣ (k0_mult11 v1623).toNat := fun v1623 k0_hw11 => k0_hw11.1
theorem k0_off11_inb : ∀ (v1623 : BitVec 32) (k0_hw11 : k0_chk11 v1623), ∀ a, (k0_off11 v1623) a + S1x1x1x128x64.size a ≤ S1x2x1x4096x64.size a := fun v1623 k0_hw11 => k0_hw11.2

def k0_mult12 (v1671 : BitVec 32) : BitVec 32 :=
  let c1_i32_1214 : BitVec 32 := 1#32
  let v1672 : BitVec 32 := Scalar.subi v1671 c1_i32_1214
  let c0_i32_1215 : BitVec 32 := 0#32
  let v1673 : BitVec 32 := Scalar.maxsi v1672 c0_i32_1215
  let c128_i32_1216 : BitVec 32 := 128#32
  let v1674 : BitVec 32 := Scalar.muli v1673 c128_i32_1216
  v1674

def k0_off12 (v1671 : BitVec 32) : Fin 2 → Nat :=
  let c0_i32_1217 : BitVec 32 := 0#32
  let c1_i32_1214 : BitVec 32 := 1#32
  let v1672 : BitVec 32 := Scalar.subi v1671 c1_i32_1214
  let c0_i32_1215 : BitVec 32 := 0#32
  let v1673 : BitVec 32 := Scalar.maxsi v1672 c0_i32_1215
  let c128_i32_1216 : BitVec 32 := 128#32
  let v1674 : BitVec 32 := Scalar.muli v1673 c128_i32_1216
  let v1675 : BitVec 32 := v1674
  let v1676 : BitVec 32 := Scalar.addi c0_i32_1217 v1675
  let v1677 : Index := Scalar.indexCast v1676
  let c0_1218 : Index := 0#32
  ![v1677.toNat, 0]

def k0_chk12 (v1671 : BitVec 32) : Prop :=
  (128 ∣ (k0_mult12 v1671).toNat) ∧
  (∀ a, (k0_off12 v1671) a + S128x64.size a ≤ S4096x64.size a)
theorem k0_mult12_dvd : ∀ (v1671 : BitVec 32) (k0_hw12 : k0_chk12 v1671), 128 ∣ (k0_mult12 v1671).toNat := fun v1671 k0_hw12 => k0_hw12.1
theorem k0_off12_inb : ∀ (v1671 : BitVec 32) (k0_hw12 : k0_chk12 v1671), ∀ a, (k0_off12 v1671) a + S128x64.size a ≤ S4096x64.size a := fun v1671 k0_hw12 => k0_hw12.2

def k0_mult13 (v1722 : BitVec 32) : BitVec 32 :=
  let c1_i32_1246 : BitVec 32 := 1#32
  let v1723 : BitVec 32 := Scalar.subi v1722 c1_i32_1246
  let c0_i32_1247 : BitVec 32 := 0#32
  let v1724 : BitVec 32 := Scalar.maxsi v1723 c0_i32_1247
  let c128_i32_1248 : BitVec 32 := 128#32
  let v1725 : BitVec 32 := Scalar.muli v1724 c128_i32_1248
  v1725

def k0_off13 (v1722 : BitVec 32) : Fin 5 → Nat :=
  let c0_1249 : Index := 0#32
  let c0_1250 : Index := 0#32
  let c0_1251 : Index := 0#32
  let c1_i32_1246 : BitVec 32 := 1#32
  let v1723 : BitVec 32 := Scalar.subi v1722 c1_i32_1246
  let c0_i32_1247 : BitVec 32 := 0#32
  let v1724 : BitVec 32 := Scalar.maxsi v1723 c0_i32_1247
  let c128_i32_1248 : BitVec 32 := 128#32
  let v1725 : BitVec 32 := Scalar.muli v1724 c128_i32_1248
  let v1726 : BitVec 32 := v1725
  let v1727 : Index := Scalar.indexCast v1726
  let c0_1252 : Index := 0#32
  ![0, 0, 0, v1727.toNat, 0]

def k0_chk13 (v1722 : BitVec 32) : Prop :=
  (128 ∣ (k0_mult13 v1722).toNat) ∧
  (∀ a, (k0_off13 v1722) a + S1x1x1x128x64.size a ≤ S1x2x1x4096x64.size a)
theorem k0_mult13_dvd : ∀ (v1722 : BitVec 32) (k0_hw13 : k0_chk13 v1722), 128 ∣ (k0_mult13 v1722).toNat := fun v1722 k0_hw13 => k0_hw13.1
theorem k0_off13_inb : ∀ (v1722 : BitVec 32) (k0_hw13 : k0_chk13 v1722), ∀ a, (k0_off13 v1722) a + S1x1x1x128x64.size a ≤ S1x2x1x4096x64.size a := fun v1722 k0_hw13 => k0_hw13.2

def k0_mult14 (v1770 : BitVec 32) : BitVec 32 :=
  let c1_i32_1273 : BitVec 32 := 1#32
  let v1771 : BitVec 32 := Scalar.subi v1770 c1_i32_1273
  let c0_i32_1274 : BitVec 32 := 0#32
  let v1772 : BitVec 32 := Scalar.maxsi v1771 c0_i32_1274
  let c128_i32_1275 : BitVec 32 := 128#32
  let v1773 : BitVec 32 := Scalar.muli v1772 c128_i32_1275
  v1773

def k0_off14 (v1770 : BitVec 32) : Fin 2 → Nat :=
  let c0_i32_1276 : BitVec 32 := 0#32
  let c1_i32_1273 : BitVec 32 := 1#32
  let v1771 : BitVec 32 := Scalar.subi v1770 c1_i32_1273
  let c0_i32_1274 : BitVec 32 := 0#32
  let v1772 : BitVec 32 := Scalar.maxsi v1771 c0_i32_1274
  let c128_i32_1275 : BitVec 32 := 128#32
  let v1773 : BitVec 32 := Scalar.muli v1772 c128_i32_1275
  let v1774 : BitVec 32 := v1773
  let v1775 : BitVec 32 := Scalar.addi c0_i32_1276 v1774
  let v1776 : Index := Scalar.indexCast v1775
  let c0_1277 : Index := 0#32
  ![v1776.toNat, 0]

def k0_chk14 (v1770 : BitVec 32) : Prop :=
  (128 ∣ (k0_mult14 v1770).toNat) ∧
  (∀ a, (k0_off14 v1770) a + S128x64.size a ≤ S4096x64.size a)
theorem k0_mult14_dvd : ∀ (v1770 : BitVec 32) (k0_hw14 : k0_chk14 v1770), 128 ∣ (k0_mult14 v1770).toNat := fun v1770 k0_hw14 => k0_hw14.1
theorem k0_off14_inb : ∀ (v1770 : BitVec 32) (k0_hw14 : k0_chk14 v1770), ∀ a, (k0_off14 v1770) a + S128x64.size a ≤ S4096x64.size a := fun v1770 k0_hw14 => k0_hw14.2

def k0_mult15 (v1831 : BitVec 32) : BitVec 32 :=
  let c1_i32_1315 : BitVec 32 := 1#32
  let v1832 : BitVec 32 := Scalar.subi v1831 c1_i32_1315
  let c0_i32_1316 : BitVec 32 := 0#32
  let v1833 : BitVec 32 := Scalar.maxsi v1832 c0_i32_1316
  let c128_i32_1317 : BitVec 32 := 128#32
  let v1834 : BitVec 32 := Scalar.muli v1833 c128_i32_1317
  v1834

def k0_off15 (v1831 : BitVec 32) : Fin 5 → Nat :=
  let c0_1318 : Index := 0#32
  let c0_1319 : Index := 0#32
  let c0_1320 : Index := 0#32
  let c1_i32_1315 : BitVec 32 := 1#32
  let v1832 : BitVec 32 := Scalar.subi v1831 c1_i32_1315
  let c0_i32_1316 : BitVec 32 := 0#32
  let v1833 : BitVec 32 := Scalar.maxsi v1832 c0_i32_1316
  let c128_i32_1317 : BitVec 32 := 128#32
  let v1834 : BitVec 32 := Scalar.muli v1833 c128_i32_1317
  let v1835 : BitVec 32 := v1834
  let v1836 : Index := Scalar.indexCast v1835
  let c0_1321 : Index := 0#32
  ![0, 0, 0, v1836.toNat, 0]

def k0_chk15 (v1831 : BitVec 32) : Prop :=
  (128 ∣ (k0_mult15 v1831).toNat) ∧
  (∀ a, (k0_off15 v1831) a + S1x1x1x128x64.size a ≤ S1x2x1x4096x64.size a)
theorem k0_mult15_dvd : ∀ (v1831 : BitVec 32) (k0_hw15 : k0_chk15 v1831), 128 ∣ (k0_mult15 v1831).toNat := fun v1831 k0_hw15 => k0_hw15.1
theorem k0_off15_inb : ∀ (v1831 : BitVec 32) (k0_hw15 : k0_chk15 v1831), ∀ a, (k0_off15 v1831) a + S1x1x1x128x64.size a ≤ S1x2x1x4096x64.size a := fun v1831 k0_hw15 => k0_hw15.2

def k0_mult16 (v1879 : BitVec 32) : BitVec 32 :=
  let c1_i32_1342 : BitVec 32 := 1#32
  let v1880 : BitVec 32 := Scalar.subi v1879 c1_i32_1342
  let c0_i32_1343 : BitVec 32 := 0#32
  let v1881 : BitVec 32 := Scalar.maxsi v1880 c0_i32_1343
  let c128_i32_1344 : BitVec 32 := 128#32
  let v1882 : BitVec 32 := Scalar.muli v1881 c128_i32_1344
  v1882

def k0_off16 (v1879 : BitVec 32) : Fin 2 → Nat :=
  let c0_i32_1345 : BitVec 32 := 0#32
  let c1_i32_1342 : BitVec 32 := 1#32
  let v1880 : BitVec 32 := Scalar.subi v1879 c1_i32_1342
  let c0_i32_1343 : BitVec 32 := 0#32
  let v1881 : BitVec 32 := Scalar.maxsi v1880 c0_i32_1343
  let c128_i32_1344 : BitVec 32 := 128#32
  let v1882 : BitVec 32 := Scalar.muli v1881 c128_i32_1344
  let v1883 : BitVec 32 := v1882
  let v1884 : BitVec 32 := Scalar.addi c0_i32_1345 v1883
  let v1885 : Index := Scalar.indexCast v1884
  let c0_1346 : Index := 0#32
  ![v1885.toNat, 0]

def k0_chk16 (v1879 : BitVec 32) : Prop :=
  (128 ∣ (k0_mult16 v1879).toNat) ∧
  (∀ a, (k0_off16 v1879) a + S128x64.size a ≤ S4096x64.size a)
theorem k0_mult16_dvd : ∀ (v1879 : BitVec 32) (k0_hw16 : k0_chk16 v1879), 128 ∣ (k0_mult16 v1879).toNat := fun v1879 k0_hw16 => k0_hw16.1
theorem k0_off16_inb : ∀ (v1879 : BitVec 32) (k0_hw16 : k0_chk16 v1879), ∀ a, (k0_off16 v1879) a + S128x64.size a ≤ S4096x64.size a := fun v1879 k0_hw16 => k0_hw16.2

def k0_mult17 (v1930 : BitVec 32) : BitVec 32 :=
  let c1_i32_1374 : BitVec 32 := 1#32
  let v1931 : BitVec 32 := Scalar.subi v1930 c1_i32_1374
  let c0_i32_1375 : BitVec 32 := 0#32
  let v1932 : BitVec 32 := Scalar.maxsi v1931 c0_i32_1375
  let c128_i32_1376 : BitVec 32 := 128#32
  let v1933 : BitVec 32 := Scalar.muli v1932 c128_i32_1376
  v1933

def k0_off17 (v1930 : BitVec 32) : Fin 5 → Nat :=
  let c0_1377 : Index := 0#32
  let c0_1378 : Index := 0#32
  let c0_1379 : Index := 0#32
  let c1_i32_1374 : BitVec 32 := 1#32
  let v1931 : BitVec 32 := Scalar.subi v1930 c1_i32_1374
  let c0_i32_1375 : BitVec 32 := 0#32
  let v1932 : BitVec 32 := Scalar.maxsi v1931 c0_i32_1375
  let c128_i32_1376 : BitVec 32 := 128#32
  let v1933 : BitVec 32 := Scalar.muli v1932 c128_i32_1376
  let v1934 : BitVec 32 := v1933
  let v1935 : Index := Scalar.indexCast v1934
  let c0_1380 : Index := 0#32
  ![0, 0, 0, v1935.toNat, 0]

def k0_chk17 (v1930 : BitVec 32) : Prop :=
  (128 ∣ (k0_mult17 v1930).toNat) ∧
  (∀ a, (k0_off17 v1930) a + S1x1x1x128x64.size a ≤ S1x2x1x4096x64.size a)
theorem k0_mult17_dvd : ∀ (v1930 : BitVec 32) (k0_hw17 : k0_chk17 v1930), 128 ∣ (k0_mult17 v1930).toNat := fun v1930 k0_hw17 => k0_hw17.1
theorem k0_off17_inb : ∀ (v1930 : BitVec 32) (k0_hw17 : k0_chk17 v1930), ∀ a, (k0_off17 v1930) a + S1x1x1x128x64.size a ≤ S1x2x1x4096x64.size a := fun v1930 k0_hw17 => k0_hw17.2

def k0_mult18 (v1978 : BitVec 32) : BitVec 32 :=
  let c1_i32_1401 : BitVec 32 := 1#32
  let v1979 : BitVec 32 := Scalar.subi v1978 c1_i32_1401
  let c0_i32_1402 : BitVec 32 := 0#32
  let v1980 : BitVec 32 := Scalar.maxsi v1979 c0_i32_1402
  let c128_i32_1403 : BitVec 32 := 128#32
  let v1981 : BitVec 32 := Scalar.muli v1980 c128_i32_1403
  v1981

def k0_off18 (v1978 : BitVec 32) : Fin 2 → Nat :=
  let c0_i32_1404 : BitVec 32 := 0#32
  let c1_i32_1401 : BitVec 32 := 1#32
  let v1979 : BitVec 32 := Scalar.subi v1978 c1_i32_1401
  let c0_i32_1402 : BitVec 32 := 0#32
  let v1980 : BitVec 32 := Scalar.maxsi v1979 c0_i32_1402
  let c128_i32_1403 : BitVec 32 := 128#32
  let v1981 : BitVec 32 := Scalar.muli v1980 c128_i32_1403
  let v1982 : BitVec 32 := v1981
  let v1983 : BitVec 32 := Scalar.addi c0_i32_1404 v1982
  let v1984 : Index := Scalar.indexCast v1983
  let c0_1405 : Index := 0#32
  ![v1984.toNat, 0]

def k0_chk18 (v1978 : BitVec 32) : Prop :=
  (128 ∣ (k0_mult18 v1978).toNat) ∧
  (∀ a, (k0_off18 v1978) a + S128x64.size a ≤ S4096x64.size a)
theorem k0_mult18_dvd : ∀ (v1978 : BitVec 32) (k0_hw18 : k0_chk18 v1978), 128 ∣ (k0_mult18 v1978).toNat := fun v1978 k0_hw18 => k0_hw18.1
theorem k0_off18_inb : ∀ (v1978 : BitVec 32) (k0_hw18 : k0_chk18 v1978), ∀ a, (k0_off18 v1978) a + S128x64.size a ≤ S4096x64.size a := fun v1978 k0_hw18 => k0_hw18.2

def k0_mult19 (v2029 : BitVec 32) : BitVec 32 :=
  let c1_i32_1433 : BitVec 32 := 1#32
  let v2030 : BitVec 32 := Scalar.subi v2029 c1_i32_1433
  let c0_i32_1434 : BitVec 32 := 0#32
  let v2031 : BitVec 32 := Scalar.maxsi v2030 c0_i32_1434
  let c128_i32_1435 : BitVec 32 := 128#32
  let v2032 : BitVec 32 := Scalar.muli v2031 c128_i32_1435
  v2032

def k0_off19 (v2029 : BitVec 32) : Fin 5 → Nat :=
  let c0_1436 : Index := 0#32
  let c0_1437 : Index := 0#32
  let c0_1438 : Index := 0#32
  let c1_i32_1433 : BitVec 32 := 1#32
  let v2030 : BitVec 32 := Scalar.subi v2029 c1_i32_1433
  let c0_i32_1434 : BitVec 32 := 0#32
  let v2031 : BitVec 32 := Scalar.maxsi v2030 c0_i32_1434
  let c128_i32_1435 : BitVec 32 := 128#32
  let v2032 : BitVec 32 := Scalar.muli v2031 c128_i32_1435
  let v2033 : BitVec 32 := v2032
  let v2034 : Index := Scalar.indexCast v2033
  let c0_1439 : Index := 0#32
  ![0, 0, 0, v2034.toNat, 0]

def k0_chk19 (v2029 : BitVec 32) : Prop :=
  (128 ∣ (k0_mult19 v2029).toNat) ∧
  (∀ a, (k0_off19 v2029) a + S1x1x1x128x64.size a ≤ S1x2x1x4096x64.size a)
theorem k0_mult19_dvd : ∀ (v2029 : BitVec 32) (k0_hw19 : k0_chk19 v2029), 128 ∣ (k0_mult19 v2029).toNat := fun v2029 k0_hw19 => k0_hw19.1
theorem k0_off19_inb : ∀ (v2029 : BitVec 32) (k0_hw19 : k0_chk19 v2029), ∀ a, (k0_off19 v2029) a + S1x1x1x128x64.size a ≤ S1x2x1x4096x64.size a := fun v2029 k0_hw19 => k0_hw19.2

def k0_mult20 (v2077 : BitVec 32) : BitVec 32 :=
  let c1_i32_1460 : BitVec 32 := 1#32
  let v2078 : BitVec 32 := Scalar.subi v2077 c1_i32_1460
  let c0_i32_1461 : BitVec 32 := 0#32
  let v2079 : BitVec 32 := Scalar.maxsi v2078 c0_i32_1461
  let c128_i32_1462 : BitVec 32 := 128#32
  let v2080 : BitVec 32 := Scalar.muli v2079 c128_i32_1462
  v2080

def k0_off20 (v2077 : BitVec 32) : Fin 2 → Nat :=
  let c0_i32_1463 : BitVec 32 := 0#32
  let c1_i32_1460 : BitVec 32 := 1#32
  let v2078 : BitVec 32 := Scalar.subi v2077 c1_i32_1460
  let c0_i32_1461 : BitVec 32 := 0#32
  let v2079 : BitVec 32 := Scalar.maxsi v2078 c0_i32_1461
  let c128_i32_1462 : BitVec 32 := 128#32
  let v2080 : BitVec 32 := Scalar.muli v2079 c128_i32_1462
  let v2081 : BitVec 32 := v2080
  let v2082 : BitVec 32 := Scalar.addi c0_i32_1463 v2081
  let v2083 : Index := Scalar.indexCast v2082
  let c0_1464 : Index := 0#32
  ![v2083.toNat, 0]

def k0_chk20 (v2077 : BitVec 32) : Prop :=
  (128 ∣ (k0_mult20 v2077).toNat) ∧
  (∀ a, (k0_off20 v2077) a + S128x64.size a ≤ S4096x64.size a)
theorem k0_mult20_dvd : ∀ (v2077 : BitVec 32) (k0_hw20 : k0_chk20 v2077), 128 ∣ (k0_mult20 v2077).toNat := fun v2077 k0_hw20 => k0_hw20.1
theorem k0_off20_inb : ∀ (v2077 : BitVec 32) (k0_hw20 : k0_chk20 v2077), ∀ a, (k0_off20 v2077) a + S128x64.size a ≤ S4096x64.size a := fun v2077 k0_hw20 => k0_hw20.2

def k0_mult21 (v2128 : BitVec 32) : BitVec 32 :=
  let c1_i32_1492 : BitVec 32 := 1#32
  let v2129 : BitVec 32 := Scalar.subi v2128 c1_i32_1492
  let c0_i32_1493 : BitVec 32 := 0#32
  let v2130 : BitVec 32 := Scalar.maxsi v2129 c0_i32_1493
  let c128_i32_1494 : BitVec 32 := 128#32
  let v2131 : BitVec 32 := Scalar.muli v2130 c128_i32_1494
  v2131

def k0_off21 (v2128 : BitVec 32) : Fin 5 → Nat :=
  let c0_1495 : Index := 0#32
  let c0_1496 : Index := 0#32
  let c0_1497 : Index := 0#32
  let c1_i32_1492 : BitVec 32 := 1#32
  let v2129 : BitVec 32 := Scalar.subi v2128 c1_i32_1492
  let c0_i32_1493 : BitVec 32 := 0#32
  let v2130 : BitVec 32 := Scalar.maxsi v2129 c0_i32_1493
  let c128_i32_1494 : BitVec 32 := 128#32
  let v2131 : BitVec 32 := Scalar.muli v2130 c128_i32_1494
  let v2132 : BitVec 32 := v2131
  let v2133 : Index := Scalar.indexCast v2132
  let c0_1498 : Index := 0#32
  ![0, 0, 0, v2133.toNat, 0]

def k0_chk21 (v2128 : BitVec 32) : Prop :=
  (128 ∣ (k0_mult21 v2128).toNat) ∧
  (∀ a, (k0_off21 v2128) a + S1x1x1x128x64.size a ≤ S1x2x1x4096x64.size a)
theorem k0_mult21_dvd : ∀ (v2128 : BitVec 32) (k0_hw21 : k0_chk21 v2128), 128 ∣ (k0_mult21 v2128).toNat := fun v2128 k0_hw21 => k0_hw21.1
theorem k0_off21_inb : ∀ (v2128 : BitVec 32) (k0_hw21 : k0_chk21 v2128), ∀ a, (k0_off21 v2128) a + S1x1x1x128x64.size a ≤ S1x2x1x4096x64.size a := fun v2128 k0_hw21 => k0_hw21.2

def k0_mult22 (v2176 : BitVec 32) : BitVec 32 :=
  let c1_i32_1519 : BitVec 32 := 1#32
  let v2177 : BitVec 32 := Scalar.subi v2176 c1_i32_1519
  let c0_i32_1520 : BitVec 32 := 0#32
  let v2178 : BitVec 32 := Scalar.maxsi v2177 c0_i32_1520
  let c128_i32_1521 : BitVec 32 := 128#32
  let v2179 : BitVec 32 := Scalar.muli v2178 c128_i32_1521
  v2179

def k0_off22 (v2176 : BitVec 32) : Fin 2 → Nat :=
  let c0_i32_1522 : BitVec 32 := 0#32
  let c1_i32_1519 : BitVec 32 := 1#32
  let v2177 : BitVec 32 := Scalar.subi v2176 c1_i32_1519
  let c0_i32_1520 : BitVec 32 := 0#32
  let v2178 : BitVec 32 := Scalar.maxsi v2177 c0_i32_1520
  let c128_i32_1521 : BitVec 32 := 128#32
  let v2179 : BitVec 32 := Scalar.muli v2178 c128_i32_1521
  let v2180 : BitVec 32 := v2179
  let v2181 : BitVec 32 := Scalar.addi c0_i32_1522 v2180
  let v2182 : Index := Scalar.indexCast v2181
  let c0_1523 : Index := 0#32
  ![v2182.toNat, 0]

def k0_chk22 (v2176 : BitVec 32) : Prop :=
  (128 ∣ (k0_mult22 v2176).toNat) ∧
  (∀ a, (k0_off22 v2176) a + S128x64.size a ≤ S4096x64.size a)
theorem k0_mult22_dvd : ∀ (v2176 : BitVec 32) (k0_hw22 : k0_chk22 v2176), 128 ∣ (k0_mult22 v2176).toNat := fun v2176 k0_hw22 => k0_hw22.1
theorem k0_off22_inb : ∀ (v2176 : BitVec 32) (k0_hw22 : k0_chk22 v2176), ∀ a, (k0_off22 v2176) a + S128x64.size a ≤ S4096x64.size a := fun v2176 k0_hw22 => k0_hw22.2

def k0_mult23 (v2227 : BitVec 32) : BitVec 32 :=
  let c1_i32_1551 : BitVec 32 := 1#32
  let v2228 : BitVec 32 := Scalar.subi v2227 c1_i32_1551
  let c0_i32_1552 : BitVec 32 := 0#32
  let v2229 : BitVec 32 := Scalar.maxsi v2228 c0_i32_1552
  let c128_i32_1553 : BitVec 32 := 128#32
  let v2230 : BitVec 32 := Scalar.muli v2229 c128_i32_1553
  v2230

def k0_off23 (v2227 : BitVec 32) : Fin 5 → Nat :=
  let c0_1554 : Index := 0#32
  let c0_1555 : Index := 0#32
  let c0_1556 : Index := 0#32
  let c1_i32_1551 : BitVec 32 := 1#32
  let v2228 : BitVec 32 := Scalar.subi v2227 c1_i32_1551
  let c0_i32_1552 : BitVec 32 := 0#32
  let v2229 : BitVec 32 := Scalar.maxsi v2228 c0_i32_1552
  let c128_i32_1553 : BitVec 32 := 128#32
  let v2230 : BitVec 32 := Scalar.muli v2229 c128_i32_1553
  let v2231 : BitVec 32 := v2230
  let v2232 : Index := Scalar.indexCast v2231
  let c0_1557 : Index := 0#32
  ![0, 0, 0, v2232.toNat, 0]

def k0_chk23 (v2227 : BitVec 32) : Prop :=
  (128 ∣ (k0_mult23 v2227).toNat) ∧
  (∀ a, (k0_off23 v2227) a + S1x1x1x128x64.size a ≤ S1x2x1x4096x64.size a)
theorem k0_mult23_dvd : ∀ (v2227 : BitVec 32) (k0_hw23 : k0_chk23 v2227), 128 ∣ (k0_mult23 v2227).toNat := fun v2227 k0_hw23 => k0_hw23.1
theorem k0_off23_inb : ∀ (v2227 : BitVec 32) (k0_hw23 : k0_chk23 v2227), ∀ a, (k0_off23 v2227) a + S1x1x1x128x64.size a ≤ S1x2x1x4096x64.size a := fun v2227 k0_hw23 => k0_hw23.2

def k0_mult24 (v2275 : BitVec 32) : BitVec 32 :=
  let c1_i32_1578 : BitVec 32 := 1#32
  let v2276 : BitVec 32 := Scalar.subi v2275 c1_i32_1578
  let c0_i32_1579 : BitVec 32 := 0#32
  let v2277 : BitVec 32 := Scalar.maxsi v2276 c0_i32_1579
  let c128_i32_1580 : BitVec 32 := 128#32
  let v2278 : BitVec 32 := Scalar.muli v2277 c128_i32_1580
  v2278

def k0_off24 (v2275 : BitVec 32) : Fin 2 → Nat :=
  let c0_i32_1581 : BitVec 32 := 0#32
  let c1_i32_1578 : BitVec 32 := 1#32
  let v2276 : BitVec 32 := Scalar.subi v2275 c1_i32_1578
  let c0_i32_1579 : BitVec 32 := 0#32
  let v2277 : BitVec 32 := Scalar.maxsi v2276 c0_i32_1579
  let c128_i32_1580 : BitVec 32 := 128#32
  let v2278 : BitVec 32 := Scalar.muli v2277 c128_i32_1580
  let v2279 : BitVec 32 := v2278
  let v2280 : BitVec 32 := Scalar.addi c0_i32_1581 v2279
  let v2281 : Index := Scalar.indexCast v2280
  let c0_1582 : Index := 0#32
  ![v2281.toNat, 0]

def k0_chk24 (v2275 : BitVec 32) : Prop :=
  (128 ∣ (k0_mult24 v2275).toNat) ∧
  (∀ a, (k0_off24 v2275) a + S128x64.size a ≤ S4096x64.size a)
theorem k0_mult24_dvd : ∀ (v2275 : BitVec 32) (k0_hw24 : k0_chk24 v2275), 128 ∣ (k0_mult24 v2275).toNat := fun v2275 k0_hw24 => k0_hw24.1
theorem k0_off24_inb : ∀ (v2275 : BitVec 32) (k0_hw24 : k0_chk24 v2275), ∀ a, (k0_off24 v2275) a + S128x64.size a ≤ S4096x64.size a := fun v2275 k0_hw24 => k0_hw24.2

def k0_mult25 (v2326 : BitVec 32) : BitVec 32 :=
  let c1_i32_1610 : BitVec 32 := 1#32
  let v2327 : BitVec 32 := Scalar.subi v2326 c1_i32_1610
  let c0_i32_1611 : BitVec 32 := 0#32
  let v2328 : BitVec 32 := Scalar.maxsi v2327 c0_i32_1611
  let c128_i32_1612 : BitVec 32 := 128#32
  let v2329 : BitVec 32 := Scalar.muli v2328 c128_i32_1612
  v2329

def k0_off25 (v2326 : BitVec 32) : Fin 5 → Nat :=
  let c0_1613 : Index := 0#32
  let c0_1614 : Index := 0#32
  let c0_1615 : Index := 0#32
  let c1_i32_1610 : BitVec 32 := 1#32
  let v2327 : BitVec 32 := Scalar.subi v2326 c1_i32_1610
  let c0_i32_1611 : BitVec 32 := 0#32
  let v2328 : BitVec 32 := Scalar.maxsi v2327 c0_i32_1611
  let c128_i32_1612 : BitVec 32 := 128#32
  let v2329 : BitVec 32 := Scalar.muli v2328 c128_i32_1612
  let v2330 : BitVec 32 := v2329
  let v2331 : Index := Scalar.indexCast v2330
  let c0_1616 : Index := 0#32
  ![0, 0, 0, v2331.toNat, 0]

def k0_chk25 (v2326 : BitVec 32) : Prop :=
  (128 ∣ (k0_mult25 v2326).toNat) ∧
  (∀ a, (k0_off25 v2326) a + S1x1x1x128x64.size a ≤ S1x2x1x4096x64.size a)
theorem k0_mult25_dvd : ∀ (v2326 : BitVec 32) (k0_hw25 : k0_chk25 v2326), 128 ∣ (k0_mult25 v2326).toNat := fun v2326 k0_hw25 => k0_hw25.1
theorem k0_off25_inb : ∀ (v2326 : BitVec 32) (k0_hw25 : k0_chk25 v2326), ∀ a, (k0_off25 v2326) a + S1x1x1x128x64.size a ≤ S1x2x1x4096x64.size a := fun v2326 k0_hw25 => k0_hw25.2

def k0_mult26 (v2374 : BitVec 32) : BitVec 32 :=
  let c1_i32_1637 : BitVec 32 := 1#32
  let v2375 : BitVec 32 := Scalar.subi v2374 c1_i32_1637
  let c0_i32_1638 : BitVec 32 := 0#32
  let v2376 : BitVec 32 := Scalar.maxsi v2375 c0_i32_1638
  let c128_i32_1639 : BitVec 32 := 128#32
  let v2377 : BitVec 32 := Scalar.muli v2376 c128_i32_1639
  v2377

def k0_off26 (v2374 : BitVec 32) : Fin 2 → Nat :=
  let c0_i32_1640 : BitVec 32 := 0#32
  let c1_i32_1637 : BitVec 32 := 1#32
  let v2375 : BitVec 32 := Scalar.subi v2374 c1_i32_1637
  let c0_i32_1638 : BitVec 32 := 0#32
  let v2376 : BitVec 32 := Scalar.maxsi v2375 c0_i32_1638
  let c128_i32_1639 : BitVec 32 := 128#32
  let v2377 : BitVec 32 := Scalar.muli v2376 c128_i32_1639
  let v2378 : BitVec 32 := v2377
  let v2379 : BitVec 32 := Scalar.addi c0_i32_1640 v2378
  let v2380 : Index := Scalar.indexCast v2379
  let c0_1641 : Index := 0#32
  ![v2380.toNat, 0]

def k0_chk26 (v2374 : BitVec 32) : Prop :=
  (128 ∣ (k0_mult26 v2374).toNat) ∧
  (∀ a, (k0_off26 v2374) a + S128x64.size a ≤ S4096x64.size a)
theorem k0_mult26_dvd : ∀ (v2374 : BitVec 32) (k0_hw26 : k0_chk26 v2374), 128 ∣ (k0_mult26 v2374).toNat := fun v2374 k0_hw26 => k0_hw26.1
theorem k0_off26_inb : ∀ (v2374 : BitVec 32) (k0_hw26 : k0_chk26 v2374), ∀ a, (k0_off26 v2374) a + S128x64.size a ≤ S4096x64.size a := fun v2374 k0_hw26 => k0_hw26.2

def k0_mult27 (v2425 : BitVec 32) : BitVec 32 :=
  let c1_i32_1669 : BitVec 32 := 1#32
  let v2426 : BitVec 32 := Scalar.subi v2425 c1_i32_1669
  let c0_i32_1670 : BitVec 32 := 0#32
  let v2427 : BitVec 32 := Scalar.maxsi v2426 c0_i32_1670
  let c128_i32_1671 : BitVec 32 := 128#32
  let v2428 : BitVec 32 := Scalar.muli v2427 c128_i32_1671
  v2428

def k0_off27 (v2425 : BitVec 32) : Fin 5 → Nat :=
  let c0_1672 : Index := 0#32
  let c0_1673 : Index := 0#32
  let c0_1674 : Index := 0#32
  let c1_i32_1669 : BitVec 32 := 1#32
  let v2426 : BitVec 32 := Scalar.subi v2425 c1_i32_1669
  let c0_i32_1670 : BitVec 32 := 0#32
  let v2427 : BitVec 32 := Scalar.maxsi v2426 c0_i32_1670
  let c128_i32_1671 : BitVec 32 := 128#32
  let v2428 : BitVec 32 := Scalar.muli v2427 c128_i32_1671
  let v2429 : BitVec 32 := v2428
  let v2430 : Index := Scalar.indexCast v2429
  let c0_1675 : Index := 0#32
  ![0, 0, 0, v2430.toNat, 0]

def k0_chk27 (v2425 : BitVec 32) : Prop :=
  (128 ∣ (k0_mult27 v2425).toNat) ∧
  (∀ a, (k0_off27 v2425) a + S1x1x1x128x64.size a ≤ S1x2x1x4096x64.size a)
theorem k0_mult27_dvd : ∀ (v2425 : BitVec 32) (k0_hw27 : k0_chk27 v2425), 128 ∣ (k0_mult27 v2425).toNat := fun v2425 k0_hw27 => k0_hw27.1
theorem k0_off27_inb : ∀ (v2425 : BitVec 32) (k0_hw27 : k0_chk27 v2425), ∀ a, (k0_off27 v2425) a + S1x1x1x128x64.size a ≤ S1x2x1x4096x64.size a := fun v2425 k0_hw27 => k0_hw27.2

def k0_mult28 (v2473 : BitVec 32) : BitVec 32 :=
  let c1_i32_1696 : BitVec 32 := 1#32
  let v2474 : BitVec 32 := Scalar.subi v2473 c1_i32_1696
  let c0_i32_1697 : BitVec 32 := 0#32
  let v2475 : BitVec 32 := Scalar.maxsi v2474 c0_i32_1697
  let c128_i32_1698 : BitVec 32 := 128#32
  let v2476 : BitVec 32 := Scalar.muli v2475 c128_i32_1698
  v2476

def k0_off28 (v2473 : BitVec 32) : Fin 2 → Nat :=
  let c0_i32_1699 : BitVec 32 := 0#32
  let c1_i32_1696 : BitVec 32 := 1#32
  let v2474 : BitVec 32 := Scalar.subi v2473 c1_i32_1696
  let c0_i32_1697 : BitVec 32 := 0#32
  let v2475 : BitVec 32 := Scalar.maxsi v2474 c0_i32_1697
  let c128_i32_1698 : BitVec 32 := 128#32
  let v2476 : BitVec 32 := Scalar.muli v2475 c128_i32_1698
  let v2477 : BitVec 32 := v2476
  let v2478 : BitVec 32 := Scalar.addi c0_i32_1699 v2477
  let v2479 : Index := Scalar.indexCast v2478
  let c0_1700 : Index := 0#32
  ![v2479.toNat, 0]

def k0_chk28 (v2473 : BitVec 32) : Prop :=
  (128 ∣ (k0_mult28 v2473).toNat) ∧
  (∀ a, (k0_off28 v2473) a + S128x64.size a ≤ S4096x64.size a)
theorem k0_mult28_dvd : ∀ (v2473 : BitVec 32) (k0_hw28 : k0_chk28 v2473), 128 ∣ (k0_mult28 v2473).toNat := fun v2473 k0_hw28 => k0_hw28.1
theorem k0_off28_inb : ∀ (v2473 : BitVec 32) (k0_hw28 : k0_chk28 v2473), ∀ a, (k0_off28 v2473) a + S128x64.size a ≤ S4096x64.size a := fun v2473 k0_hw28 => k0_hw28.2

def k0_mult29 (v2524 : BitVec 32) : BitVec 32 :=
  let c1_i32_1728 : BitVec 32 := 1#32
  let v2525 : BitVec 32 := Scalar.subi v2524 c1_i32_1728
  let c0_i32_1729 : BitVec 32 := 0#32
  let v2526 : BitVec 32 := Scalar.maxsi v2525 c0_i32_1729
  let c128_i32_1730 : BitVec 32 := 128#32
  let v2527 : BitVec 32 := Scalar.muli v2526 c128_i32_1730
  v2527

def k0_off29 (v2524 : BitVec 32) : Fin 5 → Nat :=
  let c0_1731 : Index := 0#32
  let c0_1732 : Index := 0#32
  let c0_1733 : Index := 0#32
  let c1_i32_1728 : BitVec 32 := 1#32
  let v2525 : BitVec 32 := Scalar.subi v2524 c1_i32_1728
  let c0_i32_1729 : BitVec 32 := 0#32
  let v2526 : BitVec 32 := Scalar.maxsi v2525 c0_i32_1729
  let c128_i32_1730 : BitVec 32 := 128#32
  let v2527 : BitVec 32 := Scalar.muli v2526 c128_i32_1730
  let v2528 : BitVec 32 := v2527
  let v2529 : Index := Scalar.indexCast v2528
  let c0_1734 : Index := 0#32
  ![0, 0, 0, v2529.toNat, 0]

def k0_chk29 (v2524 : BitVec 32) : Prop :=
  (128 ∣ (k0_mult29 v2524).toNat) ∧
  (∀ a, (k0_off29 v2524) a + S1x1x1x128x64.size a ≤ S1x2x1x4096x64.size a)
theorem k0_mult29_dvd : ∀ (v2524 : BitVec 32) (k0_hw29 : k0_chk29 v2524), 128 ∣ (k0_mult29 v2524).toNat := fun v2524 k0_hw29 => k0_hw29.1
theorem k0_off29_inb : ∀ (v2524 : BitVec 32) (k0_hw29 : k0_chk29 v2524), ∀ a, (k0_off29 v2524) a + S1x1x1x128x64.size a ≤ S1x2x1x4096x64.size a := fun v2524 k0_hw29 => k0_hw29.2

def k0_mult30 (v2572 : BitVec 32) : BitVec 32 :=
  let c1_i32_1755 : BitVec 32 := 1#32
  let v2573 : BitVec 32 := Scalar.subi v2572 c1_i32_1755
  let c0_i32_1756 : BitVec 32 := 0#32
  let v2574 : BitVec 32 := Scalar.maxsi v2573 c0_i32_1756
  let c128_i32_1757 : BitVec 32 := 128#32
  let v2575 : BitVec 32 := Scalar.muli v2574 c128_i32_1757
  v2575

def k0_off30 (v2572 : BitVec 32) : Fin 2 → Nat :=
  let c0_i32_1758 : BitVec 32 := 0#32
  let c1_i32_1755 : BitVec 32 := 1#32
  let v2573 : BitVec 32 := Scalar.subi v2572 c1_i32_1755
  let c0_i32_1756 : BitVec 32 := 0#32
  let v2574 : BitVec 32 := Scalar.maxsi v2573 c0_i32_1756
  let c128_i32_1757 : BitVec 32 := 128#32
  let v2575 : BitVec 32 := Scalar.muli v2574 c128_i32_1757
  let v2576 : BitVec 32 := v2575
  let v2577 : BitVec 32 := Scalar.addi c0_i32_1758 v2576
  let v2578 : Index := Scalar.indexCast v2577
  let c0_1759 : Index := 0#32
  ![v2578.toNat, 0]

def k0_chk30 (v2572 : BitVec 32) : Prop :=
  (128 ∣ (k0_mult30 v2572).toNat) ∧
  (∀ a, (k0_off30 v2572) a + S128x64.size a ≤ S4096x64.size a)
theorem k0_mult30_dvd : ∀ (v2572 : BitVec 32) (k0_hw30 : k0_chk30 v2572), 128 ∣ (k0_mult30 v2572).toNat := fun v2572 k0_hw30 => k0_hw30.1
theorem k0_off30_inb : ∀ (v2572 : BitVec 32) (k0_hw30 : k0_chk30 v2572), ∀ a, (k0_off30 v2572) a + S128x64.size a ≤ S4096x64.size a := fun v2572 k0_hw30 => k0_hw30.2

def k0_mult31 (v2633 : BitVec 32) : BitVec 32 :=
  let c1_i32_1796 : BitVec 32 := 1#32
  let v2634 : BitVec 32 := Scalar.subi v2633 c1_i32_1796
  let c0_i32_1797 : BitVec 32 := 0#32
  let v2635 : BitVec 32 := Scalar.maxsi v2634 c0_i32_1797
  let c128_i32_1798 : BitVec 32 := 128#32
  let v2636 : BitVec 32 := Scalar.muli v2635 c128_i32_1798
  v2636

def k0_off31 (v2633 : BitVec 32) : Fin 5 → Nat :=
  let c0_1799 : Index := 0#32
  let c0_1800 : Index := 0#32
  let c0_1801 : Index := 0#32
  let c1_i32_1796 : BitVec 32 := 1#32
  let v2634 : BitVec 32 := Scalar.subi v2633 c1_i32_1796
  let c0_i32_1797 : BitVec 32 := 0#32
  let v2635 : BitVec 32 := Scalar.maxsi v2634 c0_i32_1797
  let c128_i32_1798 : BitVec 32 := 128#32
  let v2636 : BitVec 32 := Scalar.muli v2635 c128_i32_1798
  let v2637 : BitVec 32 := v2636
  let v2638 : Index := Scalar.indexCast v2637
  let c0_1802 : Index := 0#32
  ![0, 0, 0, v2638.toNat, 0]

def k0_chk31 (v2633 : BitVec 32) : Prop :=
  (128 ∣ (k0_mult31 v2633).toNat) ∧
  (∀ a, (k0_off31 v2633) a + S1x1x1x128x64.size a ≤ S1x2x1x4096x64.size a)
theorem k0_mult31_dvd : ∀ (v2633 : BitVec 32) (k0_hw31 : k0_chk31 v2633), 128 ∣ (k0_mult31 v2633).toNat := fun v2633 k0_hw31 => k0_hw31.1
theorem k0_off31_inb : ∀ (v2633 : BitVec 32) (k0_hw31 : k0_chk31 v2633), ∀ a, (k0_off31 v2633) a + S1x1x1x128x64.size a ≤ S1x2x1x4096x64.size a := fun v2633 k0_hw31 => k0_hw31.2

def k0_mult32 (v2681 : BitVec 32) : BitVec 32 :=
  let c1_i32_1823 : BitVec 32 := 1#32
  let v2682 : BitVec 32 := Scalar.subi v2681 c1_i32_1823
  let c0_i32_1824 : BitVec 32 := 0#32
  let v2683 : BitVec 32 := Scalar.maxsi v2682 c0_i32_1824
  let c128_i32_1825 : BitVec 32 := 128#32
  let v2684 : BitVec 32 := Scalar.muli v2683 c128_i32_1825
  v2684

def k0_off32 (v2681 : BitVec 32) : Fin 2 → Nat :=
  let c0_i32_1826 : BitVec 32 := 0#32
  let c1_i32_1823 : BitVec 32 := 1#32
  let v2682 : BitVec 32 := Scalar.subi v2681 c1_i32_1823
  let c0_i32_1824 : BitVec 32 := 0#32
  let v2683 : BitVec 32 := Scalar.maxsi v2682 c0_i32_1824
  let c128_i32_1825 : BitVec 32 := 128#32
  let v2684 : BitVec 32 := Scalar.muli v2683 c128_i32_1825
  let v2685 : BitVec 32 := v2684
  let v2686 : BitVec 32 := Scalar.addi c0_i32_1826 v2685
  let v2687 : Index := Scalar.indexCast v2686
  let c0_1827 : Index := 0#32
  ![v2687.toNat, 0]

def k0_chk32 (v2681 : BitVec 32) : Prop :=
  (128 ∣ (k0_mult32 v2681).toNat) ∧
  (∀ a, (k0_off32 v2681) a + S128x64.size a ≤ S4096x64.size a)
theorem k0_mult32_dvd : ∀ (v2681 : BitVec 32) (k0_hw32 : k0_chk32 v2681), 128 ∣ (k0_mult32 v2681).toNat := fun v2681 k0_hw32 => k0_hw32.1
theorem k0_off32_inb : ∀ (v2681 : BitVec 32) (k0_hw32 : k0_chk32 v2681), ∀ a, (k0_off32 v2681) a + S128x64.size a ≤ S4096x64.size a := fun v2681 k0_hw32 => k0_hw32.2

def k0_mult33 (v2732 : BitVec 32) : BitVec 32 :=
  let c1_i32_1855 : BitVec 32 := 1#32
  let v2733 : BitVec 32 := Scalar.subi v2732 c1_i32_1855
  let c0_i32_1856 : BitVec 32 := 0#32
  let v2734 : BitVec 32 := Scalar.maxsi v2733 c0_i32_1856
  let c128_i32_1857 : BitVec 32 := 128#32
  let v2735 : BitVec 32 := Scalar.muli v2734 c128_i32_1857
  v2735

def k0_off33 (v2732 : BitVec 32) : Fin 5 → Nat :=
  let c0_1858 : Index := 0#32
  let c0_1859 : Index := 0#32
  let c0_1860 : Index := 0#32
  let c1_i32_1855 : BitVec 32 := 1#32
  let v2733 : BitVec 32 := Scalar.subi v2732 c1_i32_1855
  let c0_i32_1856 : BitVec 32 := 0#32
  let v2734 : BitVec 32 := Scalar.maxsi v2733 c0_i32_1856
  let c128_i32_1857 : BitVec 32 := 128#32
  let v2735 : BitVec 32 := Scalar.muli v2734 c128_i32_1857
  let v2736 : BitVec 32 := v2735
  let v2737 : Index := Scalar.indexCast v2736
  let c0_1861 : Index := 0#32
  ![0, 0, 0, v2737.toNat, 0]

def k0_chk33 (v2732 : BitVec 32) : Prop :=
  (128 ∣ (k0_mult33 v2732).toNat) ∧
  (∀ a, (k0_off33 v2732) a + S1x1x1x128x64.size a ≤ S1x2x1x4096x64.size a)
theorem k0_mult33_dvd : ∀ (v2732 : BitVec 32) (k0_hw33 : k0_chk33 v2732), 128 ∣ (k0_mult33 v2732).toNat := fun v2732 k0_hw33 => k0_hw33.1
theorem k0_off33_inb : ∀ (v2732 : BitVec 32) (k0_hw33 : k0_chk33 v2732), ∀ a, (k0_off33 v2732) a + S1x1x1x128x64.size a ≤ S1x2x1x4096x64.size a := fun v2732 k0_hw33 => k0_hw33.2

def k0_mult34 (v2780 : BitVec 32) : BitVec 32 :=
  let c1_i32_1882 : BitVec 32 := 1#32
  let v2781 : BitVec 32 := Scalar.subi v2780 c1_i32_1882
  let c0_i32_1883 : BitVec 32 := 0#32
  let v2782 : BitVec 32 := Scalar.maxsi v2781 c0_i32_1883
  let c128_i32_1884 : BitVec 32 := 128#32
  let v2783 : BitVec 32 := Scalar.muli v2782 c128_i32_1884
  v2783

def k0_off34 (v2780 : BitVec 32) : Fin 2 → Nat :=
  let c0_i32_1885 : BitVec 32 := 0#32
  let c1_i32_1882 : BitVec 32 := 1#32
  let v2781 : BitVec 32 := Scalar.subi v2780 c1_i32_1882
  let c0_i32_1883 : BitVec 32 := 0#32
  let v2782 : BitVec 32 := Scalar.maxsi v2781 c0_i32_1883
  let c128_i32_1884 : BitVec 32 := 128#32
  let v2783 : BitVec 32 := Scalar.muli v2782 c128_i32_1884
  let v2784 : BitVec 32 := v2783
  let v2785 : BitVec 32 := Scalar.addi c0_i32_1885 v2784
  let v2786 : Index := Scalar.indexCast v2785
  let c0_1886 : Index := 0#32
  ![v2786.toNat, 0]

def k0_chk34 (v2780 : BitVec 32) : Prop :=
  (128 ∣ (k0_mult34 v2780).toNat) ∧
  (∀ a, (k0_off34 v2780) a + S128x64.size a ≤ S4096x64.size a)
theorem k0_mult34_dvd : ∀ (v2780 : BitVec 32) (k0_hw34 : k0_chk34 v2780), 128 ∣ (k0_mult34 v2780).toNat := fun v2780 k0_hw34 => k0_hw34.1
theorem k0_off34_inb : ∀ (v2780 : BitVec 32) (k0_hw34 : k0_chk34 v2780), ∀ a, (k0_off34 v2780) a + S128x64.size a ≤ S4096x64.size a := fun v2780 k0_hw34 => k0_hw34.2

def k0_mult35 (v2831 : BitVec 32) : BitVec 32 :=
  let c1_i32_1914 : BitVec 32 := 1#32
  let v2832 : BitVec 32 := Scalar.subi v2831 c1_i32_1914
  let c0_i32_1915 : BitVec 32 := 0#32
  let v2833 : BitVec 32 := Scalar.maxsi v2832 c0_i32_1915
  let c128_i32_1916 : BitVec 32 := 128#32
  let v2834 : BitVec 32 := Scalar.muli v2833 c128_i32_1916
  v2834

def k0_off35 (v2831 : BitVec 32) : Fin 5 → Nat :=
  let c0_1917 : Index := 0#32
  let c0_1918 : Index := 0#32
  let c0_1919 : Index := 0#32
  let c1_i32_1914 : BitVec 32 := 1#32
  let v2832 : BitVec 32 := Scalar.subi v2831 c1_i32_1914
  let c0_i32_1915 : BitVec 32 := 0#32
  let v2833 : BitVec 32 := Scalar.maxsi v2832 c0_i32_1915
  let c128_i32_1916 : BitVec 32 := 128#32
  let v2834 : BitVec 32 := Scalar.muli v2833 c128_i32_1916
  let v2835 : BitVec 32 := v2834
  let v2836 : Index := Scalar.indexCast v2835
  let c0_1920 : Index := 0#32
  ![0, 0, 0, v2836.toNat, 0]

def k0_chk35 (v2831 : BitVec 32) : Prop :=
  (128 ∣ (k0_mult35 v2831).toNat) ∧
  (∀ a, (k0_off35 v2831) a + S1x1x1x128x64.size a ≤ S1x2x1x4096x64.size a)
theorem k0_mult35_dvd : ∀ (v2831 : BitVec 32) (k0_hw35 : k0_chk35 v2831), 128 ∣ (k0_mult35 v2831).toNat := fun v2831 k0_hw35 => k0_hw35.1
theorem k0_off35_inb : ∀ (v2831 : BitVec 32) (k0_hw35 : k0_chk35 v2831), ∀ a, (k0_off35 v2831) a + S1x1x1x128x64.size a ≤ S1x2x1x4096x64.size a := fun v2831 k0_hw35 => k0_hw35.2

def k0_mult36 (v2879 : BitVec 32) : BitVec 32 :=
  let c1_i32_1941 : BitVec 32 := 1#32
  let v2880 : BitVec 32 := Scalar.subi v2879 c1_i32_1941
  let c0_i32_1942 : BitVec 32 := 0#32
  let v2881 : BitVec 32 := Scalar.maxsi v2880 c0_i32_1942
  let c128_i32_1943 : BitVec 32 := 128#32
  let v2882 : BitVec 32 := Scalar.muli v2881 c128_i32_1943
  v2882

def k0_off36 (v2879 : BitVec 32) : Fin 2 → Nat :=
  let c0_i32_1944 : BitVec 32 := 0#32
  let c1_i32_1941 : BitVec 32 := 1#32
  let v2880 : BitVec 32 := Scalar.subi v2879 c1_i32_1941
  let c0_i32_1942 : BitVec 32 := 0#32
  let v2881 : BitVec 32 := Scalar.maxsi v2880 c0_i32_1942
  let c128_i32_1943 : BitVec 32 := 128#32
  let v2882 : BitVec 32 := Scalar.muli v2881 c128_i32_1943
  let v2883 : BitVec 32 := v2882
  let v2884 : BitVec 32 := Scalar.addi c0_i32_1944 v2883
  let v2885 : Index := Scalar.indexCast v2884
  let c0_1945 : Index := 0#32
  ![v2885.toNat, 0]

def k0_chk36 (v2879 : BitVec 32) : Prop :=
  (128 ∣ (k0_mult36 v2879).toNat) ∧
  (∀ a, (k0_off36 v2879) a + S128x64.size a ≤ S4096x64.size a)
theorem k0_mult36_dvd : ∀ (v2879 : BitVec 32) (k0_hw36 : k0_chk36 v2879), 128 ∣ (k0_mult36 v2879).toNat := fun v2879 k0_hw36 => k0_hw36.1
theorem k0_off36_inb : ∀ (v2879 : BitVec 32) (k0_hw36 : k0_chk36 v2879), ∀ a, (k0_off36 v2879) a + S128x64.size a ≤ S4096x64.size a := fun v2879 k0_hw36 => k0_hw36.2

def k0_mult37 (v2930 : BitVec 32) : BitVec 32 :=
  let c1_i32_1973 : BitVec 32 := 1#32
  let v2931 : BitVec 32 := Scalar.subi v2930 c1_i32_1973
  let c0_i32_1974 : BitVec 32 := 0#32
  let v2932 : BitVec 32 := Scalar.maxsi v2931 c0_i32_1974
  let c128_i32_1975 : BitVec 32 := 128#32
  let v2933 : BitVec 32 := Scalar.muli v2932 c128_i32_1975
  v2933

def k0_off37 (v2930 : BitVec 32) : Fin 5 → Nat :=
  let c0_1976 : Index := 0#32
  let c0_1977 : Index := 0#32
  let c0_1978 : Index := 0#32
  let c1_i32_1973 : BitVec 32 := 1#32
  let v2931 : BitVec 32 := Scalar.subi v2930 c1_i32_1973
  let c0_i32_1974 : BitVec 32 := 0#32
  let v2932 : BitVec 32 := Scalar.maxsi v2931 c0_i32_1974
  let c128_i32_1975 : BitVec 32 := 128#32
  let v2933 : BitVec 32 := Scalar.muli v2932 c128_i32_1975
  let v2934 : BitVec 32 := v2933
  let v2935 : Index := Scalar.indexCast v2934
  let c0_1979 : Index := 0#32
  ![0, 0, 0, v2935.toNat, 0]

def k0_chk37 (v2930 : BitVec 32) : Prop :=
  (128 ∣ (k0_mult37 v2930).toNat) ∧
  (∀ a, (k0_off37 v2930) a + S1x1x1x128x64.size a ≤ S1x2x1x4096x64.size a)
theorem k0_mult37_dvd : ∀ (v2930 : BitVec 32) (k0_hw37 : k0_chk37 v2930), 128 ∣ (k0_mult37 v2930).toNat := fun v2930 k0_hw37 => k0_hw37.1
theorem k0_off37_inb : ∀ (v2930 : BitVec 32) (k0_hw37 : k0_chk37 v2930), ∀ a, (k0_off37 v2930) a + S1x1x1x128x64.size a ≤ S1x2x1x4096x64.size a := fun v2930 k0_hw37 => k0_hw37.2

def k0_mult38 (v2978 : BitVec 32) : BitVec 32 :=
  let c1_i32_2000 : BitVec 32 := 1#32
  let v2979 : BitVec 32 := Scalar.subi v2978 c1_i32_2000
  let c0_i32_2001 : BitVec 32 := 0#32
  let v2980 : BitVec 32 := Scalar.maxsi v2979 c0_i32_2001
  let c128_i32_2002 : BitVec 32 := 128#32
  let v2981 : BitVec 32 := Scalar.muli v2980 c128_i32_2002
  v2981

def k0_off38 (v2978 : BitVec 32) : Fin 2 → Nat :=
  let c0_i32_2003 : BitVec 32 := 0#32
  let c1_i32_2000 : BitVec 32 := 1#32
  let v2979 : BitVec 32 := Scalar.subi v2978 c1_i32_2000
  let c0_i32_2001 : BitVec 32 := 0#32
  let v2980 : BitVec 32 := Scalar.maxsi v2979 c0_i32_2001
  let c128_i32_2002 : BitVec 32 := 128#32
  let v2981 : BitVec 32 := Scalar.muli v2980 c128_i32_2002
  let v2982 : BitVec 32 := v2981
  let v2983 : BitVec 32 := Scalar.addi c0_i32_2003 v2982
  let v2984 : Index := Scalar.indexCast v2983
  let c0_2004 : Index := 0#32
  ![v2984.toNat, 0]

def k0_chk38 (v2978 : BitVec 32) : Prop :=
  (128 ∣ (k0_mult38 v2978).toNat) ∧
  (∀ a, (k0_off38 v2978) a + S128x64.size a ≤ S4096x64.size a)
theorem k0_mult38_dvd : ∀ (v2978 : BitVec 32) (k0_hw38 : k0_chk38 v2978), 128 ∣ (k0_mult38 v2978).toNat := fun v2978 k0_hw38 => k0_hw38.1
theorem k0_off38_inb : ∀ (v2978 : BitVec 32) (k0_hw38 : k0_chk38 v2978), ∀ a, (k0_off38 v2978) a + S128x64.size a ≤ S4096x64.size a := fun v2978 k0_hw38 => k0_hw38.2

def k0_mult39 (v3029 : BitVec 32) : BitVec 32 :=
  let c1_i32_2032 : BitVec 32 := 1#32
  let v3030 : BitVec 32 := Scalar.subi v3029 c1_i32_2032
  let c0_i32_2033 : BitVec 32 := 0#32
  let v3031 : BitVec 32 := Scalar.maxsi v3030 c0_i32_2033
  let c128_i32_2034 : BitVec 32 := 128#32
  let v3032 : BitVec 32 := Scalar.muli v3031 c128_i32_2034
  v3032

def k0_off39 (v3029 : BitVec 32) : Fin 5 → Nat :=
  let c0_2035 : Index := 0#32
  let c0_2036 : Index := 0#32
  let c0_2037 : Index := 0#32
  let c1_i32_2032 : BitVec 32 := 1#32
  let v3030 : BitVec 32 := Scalar.subi v3029 c1_i32_2032
  let c0_i32_2033 : BitVec 32 := 0#32
  let v3031 : BitVec 32 := Scalar.maxsi v3030 c0_i32_2033
  let c128_i32_2034 : BitVec 32 := 128#32
  let v3032 : BitVec 32 := Scalar.muli v3031 c128_i32_2034
  let v3033 : BitVec 32 := v3032
  let v3034 : Index := Scalar.indexCast v3033
  let c0_2038 : Index := 0#32
  ![0, 0, 0, v3034.toNat, 0]

def k0_chk39 (v3029 : BitVec 32) : Prop :=
  (128 ∣ (k0_mult39 v3029).toNat) ∧
  (∀ a, (k0_off39 v3029) a + S1x1x1x128x64.size a ≤ S1x2x1x4096x64.size a)
theorem k0_mult39_dvd : ∀ (v3029 : BitVec 32) (k0_hw39 : k0_chk39 v3029), 128 ∣ (k0_mult39 v3029).toNat := fun v3029 k0_hw39 => k0_hw39.1
theorem k0_off39_inb : ∀ (v3029 : BitVec 32) (k0_hw39 : k0_chk39 v3029), ∀ a, (k0_off39 v3029) a + S1x1x1x128x64.size a ≤ S1x2x1x4096x64.size a := fun v3029 k0_hw39 => k0_hw39.2

def k0_mult40 (v3077 : BitVec 32) : BitVec 32 :=
  let c1_i32_2059 : BitVec 32 := 1#32
  let v3078 : BitVec 32 := Scalar.subi v3077 c1_i32_2059
  let c0_i32_2060 : BitVec 32 := 0#32
  let v3079 : BitVec 32 := Scalar.maxsi v3078 c0_i32_2060
  let c128_i32_2061 : BitVec 32 := 128#32
  let v3080 : BitVec 32 := Scalar.muli v3079 c128_i32_2061
  v3080

def k0_off40 (v3077 : BitVec 32) : Fin 2 → Nat :=
  let c0_i32_2062 : BitVec 32 := 0#32
  let c1_i32_2059 : BitVec 32 := 1#32
  let v3078 : BitVec 32 := Scalar.subi v3077 c1_i32_2059
  let c0_i32_2060 : BitVec 32 := 0#32
  let v3079 : BitVec 32 := Scalar.maxsi v3078 c0_i32_2060
  let c128_i32_2061 : BitVec 32 := 128#32
  let v3080 : BitVec 32 := Scalar.muli v3079 c128_i32_2061
  let v3081 : BitVec 32 := v3080
  let v3082 : BitVec 32 := Scalar.addi c0_i32_2062 v3081
  let v3083 : Index := Scalar.indexCast v3082
  let c0_2063 : Index := 0#32
  ![v3083.toNat, 0]

def k0_chk40 (v3077 : BitVec 32) : Prop :=
  (128 ∣ (k0_mult40 v3077).toNat) ∧
  (∀ a, (k0_off40 v3077) a + S128x64.size a ≤ S4096x64.size a)
theorem k0_mult40_dvd : ∀ (v3077 : BitVec 32) (k0_hw40 : k0_chk40 v3077), 128 ∣ (k0_mult40 v3077).toNat := fun v3077 k0_hw40 => k0_hw40.1
theorem k0_off40_inb : ∀ (v3077 : BitVec 32) (k0_hw40 : k0_chk40 v3077), ∀ a, (k0_off40 v3077) a + S128x64.size a ≤ S4096x64.size a := fun v3077 k0_hw40 => k0_hw40.2

def k0_mult41 (v3128 : BitVec 32) : BitVec 32 :=
  let c1_i32_2091 : BitVec 32 := 1#32
  let v3129 : BitVec 32 := Scalar.subi v3128 c1_i32_2091
  let c0_i32_2092 : BitVec 32 := 0#32
  let v3130 : BitVec 32 := Scalar.maxsi v3129 c0_i32_2092
  let c128_i32_2093 : BitVec 32 := 128#32
  let v3131 : BitVec 32 := Scalar.muli v3130 c128_i32_2093
  v3131

def k0_off41 (v3128 : BitVec 32) : Fin 5 → Nat :=
  let c0_2094 : Index := 0#32
  let c0_2095 : Index := 0#32
  let c0_2096 : Index := 0#32
  let c1_i32_2091 : BitVec 32 := 1#32
  let v3129 : BitVec 32 := Scalar.subi v3128 c1_i32_2091
  let c0_i32_2092 : BitVec 32 := 0#32
  let v3130 : BitVec 32 := Scalar.maxsi v3129 c0_i32_2092
  let c128_i32_2093 : BitVec 32 := 128#32
  let v3131 : BitVec 32 := Scalar.muli v3130 c128_i32_2093
  let v3132 : BitVec 32 := v3131
  let v3133 : Index := Scalar.indexCast v3132
  let c0_2097 : Index := 0#32
  ![0, 0, 0, v3133.toNat, 0]

def k0_chk41 (v3128 : BitVec 32) : Prop :=
  (128 ∣ (k0_mult41 v3128).toNat) ∧
  (∀ a, (k0_off41 v3128) a + S1x1x1x128x64.size a ≤ S1x2x1x4096x64.size a)
theorem k0_mult41_dvd : ∀ (v3128 : BitVec 32) (k0_hw41 : k0_chk41 v3128), 128 ∣ (k0_mult41 v3128).toNat := fun v3128 k0_hw41 => k0_hw41.1
theorem k0_off41_inb : ∀ (v3128 : BitVec 32) (k0_hw41 : k0_chk41 v3128), ∀ a, (k0_off41 v3128) a + S1x1x1x128x64.size a ≤ S1x2x1x4096x64.size a := fun v3128 k0_hw41 => k0_hw41.2

def k0_mult42 (v3176 : BitVec 32) : BitVec 32 :=
  let c1_i32_2118 : BitVec 32 := 1#32
  let v3177 : BitVec 32 := Scalar.subi v3176 c1_i32_2118
  let c0_i32_2119 : BitVec 32 := 0#32
  let v3178 : BitVec 32 := Scalar.maxsi v3177 c0_i32_2119
  let c128_i32_2120 : BitVec 32 := 128#32
  let v3179 : BitVec 32 := Scalar.muli v3178 c128_i32_2120
  v3179

def k0_off42 (v3176 : BitVec 32) : Fin 2 → Nat :=
  let c0_i32_2121 : BitVec 32 := 0#32
  let c1_i32_2118 : BitVec 32 := 1#32
  let v3177 : BitVec 32 := Scalar.subi v3176 c1_i32_2118
  let c0_i32_2119 : BitVec 32 := 0#32
  let v3178 : BitVec 32 := Scalar.maxsi v3177 c0_i32_2119
  let c128_i32_2120 : BitVec 32 := 128#32
  let v3179 : BitVec 32 := Scalar.muli v3178 c128_i32_2120
  let v3180 : BitVec 32 := v3179
  let v3181 : BitVec 32 := Scalar.addi c0_i32_2121 v3180
  let v3182 : Index := Scalar.indexCast v3181
  let c0_2122 : Index := 0#32
  ![v3182.toNat, 0]

def k0_chk42 (v3176 : BitVec 32) : Prop :=
  (128 ∣ (k0_mult42 v3176).toNat) ∧
  (∀ a, (k0_off42 v3176) a + S128x64.size a ≤ S4096x64.size a)
theorem k0_mult42_dvd : ∀ (v3176 : BitVec 32) (k0_hw42 : k0_chk42 v3176), 128 ∣ (k0_mult42 v3176).toNat := fun v3176 k0_hw42 => k0_hw42.1
theorem k0_off42_inb : ∀ (v3176 : BitVec 32) (k0_hw42 : k0_chk42 v3176), ∀ a, (k0_off42 v3176) a + S128x64.size a ≤ S4096x64.size a := fun v3176 k0_hw42 => k0_hw42.2

def k0_mult43 (v3227 : BitVec 32) : BitVec 32 :=
  let c1_i32_2150 : BitVec 32 := 1#32
  let v3228 : BitVec 32 := Scalar.subi v3227 c1_i32_2150
  let c0_i32_2151 : BitVec 32 := 0#32
  let v3229 : BitVec 32 := Scalar.maxsi v3228 c0_i32_2151
  let c128_i32_2152 : BitVec 32 := 128#32
  let v3230 : BitVec 32 := Scalar.muli v3229 c128_i32_2152
  v3230

def k0_off43 (v3227 : BitVec 32) : Fin 5 → Nat :=
  let c0_2153 : Index := 0#32
  let c0_2154 : Index := 0#32
  let c0_2155 : Index := 0#32
  let c1_i32_2150 : BitVec 32 := 1#32
  let v3228 : BitVec 32 := Scalar.subi v3227 c1_i32_2150
  let c0_i32_2151 : BitVec 32 := 0#32
  let v3229 : BitVec 32 := Scalar.maxsi v3228 c0_i32_2151
  let c128_i32_2152 : BitVec 32 := 128#32
  let v3230 : BitVec 32 := Scalar.muli v3229 c128_i32_2152
  let v3231 : BitVec 32 := v3230
  let v3232 : Index := Scalar.indexCast v3231
  let c0_2156 : Index := 0#32
  ![0, 0, 0, v3232.toNat, 0]

def k0_chk43 (v3227 : BitVec 32) : Prop :=
  (128 ∣ (k0_mult43 v3227).toNat) ∧
  (∀ a, (k0_off43 v3227) a + S1x1x1x128x64.size a ≤ S1x2x1x4096x64.size a)
theorem k0_mult43_dvd : ∀ (v3227 : BitVec 32) (k0_hw43 : k0_chk43 v3227), 128 ∣ (k0_mult43 v3227).toNat := fun v3227 k0_hw43 => k0_hw43.1
theorem k0_off43_inb : ∀ (v3227 : BitVec 32) (k0_hw43 : k0_chk43 v3227), ∀ a, (k0_off43 v3227) a + S1x1x1x128x64.size a ≤ S1x2x1x4096x64.size a := fun v3227 k0_hw43 => k0_hw43.2

def k0_mult44 (v3275 : BitVec 32) : BitVec 32 :=
  let c1_i32_2177 : BitVec 32 := 1#32
  let v3276 : BitVec 32 := Scalar.subi v3275 c1_i32_2177
  let c0_i32_2178 : BitVec 32 := 0#32
  let v3277 : BitVec 32 := Scalar.maxsi v3276 c0_i32_2178
  let c128_i32_2179 : BitVec 32 := 128#32
  let v3278 : BitVec 32 := Scalar.muli v3277 c128_i32_2179
  v3278

def k0_off44 (v3275 : BitVec 32) : Fin 2 → Nat :=
  let c0_i32_2180 : BitVec 32 := 0#32
  let c1_i32_2177 : BitVec 32 := 1#32
  let v3276 : BitVec 32 := Scalar.subi v3275 c1_i32_2177
  let c0_i32_2178 : BitVec 32 := 0#32
  let v3277 : BitVec 32 := Scalar.maxsi v3276 c0_i32_2178
  let c128_i32_2179 : BitVec 32 := 128#32
  let v3278 : BitVec 32 := Scalar.muli v3277 c128_i32_2179
  let v3279 : BitVec 32 := v3278
  let v3280 : BitVec 32 := Scalar.addi c0_i32_2180 v3279
  let v3281 : Index := Scalar.indexCast v3280
  let c0_2181 : Index := 0#32
  ![v3281.toNat, 0]

def k0_chk44 (v3275 : BitVec 32) : Prop :=
  (128 ∣ (k0_mult44 v3275).toNat) ∧
  (∀ a, (k0_off44 v3275) a + S128x64.size a ≤ S4096x64.size a)
theorem k0_mult44_dvd : ∀ (v3275 : BitVec 32) (k0_hw44 : k0_chk44 v3275), 128 ∣ (k0_mult44 v3275).toNat := fun v3275 k0_hw44 => k0_hw44.1
theorem k0_off44_inb : ∀ (v3275 : BitVec 32) (k0_hw44 : k0_chk44 v3275), ∀ a, (k0_off44 v3275) a + S128x64.size a ≤ S4096x64.size a := fun v3275 k0_hw44 => k0_hw44.2

def k0_mult45 (v3326 : BitVec 32) : BitVec 32 :=
  let c1_i32_2209 : BitVec 32 := 1#32
  let v3327 : BitVec 32 := Scalar.subi v3326 c1_i32_2209
  let c0_i32_2210 : BitVec 32 := 0#32
  let v3328 : BitVec 32 := Scalar.maxsi v3327 c0_i32_2210
  let c128_i32_2211 : BitVec 32 := 128#32
  let v3329 : BitVec 32 := Scalar.muli v3328 c128_i32_2211
  v3329

def k0_off45 (v3326 : BitVec 32) : Fin 5 → Nat :=
  let c0_2212 : Index := 0#32
  let c0_2213 : Index := 0#32
  let c0_2214 : Index := 0#32
  let c1_i32_2209 : BitVec 32 := 1#32
  let v3327 : BitVec 32 := Scalar.subi v3326 c1_i32_2209
  let c0_i32_2210 : BitVec 32 := 0#32
  let v3328 : BitVec 32 := Scalar.maxsi v3327 c0_i32_2210
  let c128_i32_2211 : BitVec 32 := 128#32
  let v3329 : BitVec 32 := Scalar.muli v3328 c128_i32_2211
  let v3330 : BitVec 32 := v3329
  let v3331 : Index := Scalar.indexCast v3330
  let c0_2215 : Index := 0#32
  ![0, 0, 0, v3331.toNat, 0]

def k0_chk45 (v3326 : BitVec 32) : Prop :=
  (128 ∣ (k0_mult45 v3326).toNat) ∧
  (∀ a, (k0_off45 v3326) a + S1x1x1x128x64.size a ≤ S1x2x1x4096x64.size a)
theorem k0_mult45_dvd : ∀ (v3326 : BitVec 32) (k0_hw45 : k0_chk45 v3326), 128 ∣ (k0_mult45 v3326).toNat := fun v3326 k0_hw45 => k0_hw45.1
theorem k0_off45_inb : ∀ (v3326 : BitVec 32) (k0_hw45 : k0_chk45 v3326), ∀ a, (k0_off45 v3326) a + S1x1x1x128x64.size a ≤ S1x2x1x4096x64.size a := fun v3326 k0_hw45 => k0_hw45.2

def k0_mult46 (v3374 : BitVec 32) : BitVec 32 :=
  let c1_i32_2236 : BitVec 32 := 1#32
  let v3375 : BitVec 32 := Scalar.subi v3374 c1_i32_2236
  let c0_i32_2237 : BitVec 32 := 0#32
  let v3376 : BitVec 32 := Scalar.maxsi v3375 c0_i32_2237
  let c128_i32_2238 : BitVec 32 := 128#32
  let v3377 : BitVec 32 := Scalar.muli v3376 c128_i32_2238
  v3377

def k0_off46 (v3374 : BitVec 32) : Fin 2 → Nat :=
  let c0_i32_2239 : BitVec 32 := 0#32
  let c1_i32_2236 : BitVec 32 := 1#32
  let v3375 : BitVec 32 := Scalar.subi v3374 c1_i32_2236
  let c0_i32_2237 : BitVec 32 := 0#32
  let v3376 : BitVec 32 := Scalar.maxsi v3375 c0_i32_2237
  let c128_i32_2238 : BitVec 32 := 128#32
  let v3377 : BitVec 32 := Scalar.muli v3376 c128_i32_2238
  let v3378 : BitVec 32 := v3377
  let v3379 : BitVec 32 := Scalar.addi c0_i32_2239 v3378
  let v3380 : Index := Scalar.indexCast v3379
  let c0_2240 : Index := 0#32
  ![v3380.toNat, 0]

def k0_chk46 (v3374 : BitVec 32) : Prop :=
  (128 ∣ (k0_mult46 v3374).toNat) ∧
  (∀ a, (k0_off46 v3374) a + S128x64.size a ≤ S4096x64.size a)
theorem k0_mult46_dvd : ∀ (v3374 : BitVec 32) (k0_hw46 : k0_chk46 v3374), 128 ∣ (k0_mult46 v3374).toNat := fun v3374 k0_hw46 => k0_hw46.1
theorem k0_off46_inb : ∀ (v3374 : BitVec 32) (k0_hw46 : k0_chk46 v3374), ∀ a, (k0_off46 v3374) a + S128x64.size a ≤ S4096x64.size a := fun v3374 k0_hw46 => k0_hw46.2

def k0_mult47 (v3435 : BitVec 32) : BitVec 32 :=
  let c1_i32_2277 : BitVec 32 := 1#32
  let v3436 : BitVec 32 := Scalar.subi v3435 c1_i32_2277
  let c0_i32_2278 : BitVec 32 := 0#32
  let v3437 : BitVec 32 := Scalar.maxsi v3436 c0_i32_2278
  let c128_i32_2279 : BitVec 32 := 128#32
  let v3438 : BitVec 32 := Scalar.muli v3437 c128_i32_2279
  v3438

def k0_off47 (v3435 : BitVec 32) : Fin 5 → Nat :=
  let c0_2280 : Index := 0#32
  let c0_2281 : Index := 0#32
  let c0_2282 : Index := 0#32
  let c1_i32_2277 : BitVec 32 := 1#32
  let v3436 : BitVec 32 := Scalar.subi v3435 c1_i32_2277
  let c0_i32_2278 : BitVec 32 := 0#32
  let v3437 : BitVec 32 := Scalar.maxsi v3436 c0_i32_2278
  let c128_i32_2279 : BitVec 32 := 128#32
  let v3438 : BitVec 32 := Scalar.muli v3437 c128_i32_2279
  let v3439 : BitVec 32 := v3438
  let v3440 : Index := Scalar.indexCast v3439
  let c0_2283 : Index := 0#32
  ![0, 0, 0, v3440.toNat, 0]

def k0_chk47 (v3435 : BitVec 32) : Prop :=
  (128 ∣ (k0_mult47 v3435).toNat) ∧
  (∀ a, (k0_off47 v3435) a + S1x1x1x128x64.size a ≤ S1x2x1x4096x64.size a)
theorem k0_mult47_dvd : ∀ (v3435 : BitVec 32) (k0_hw47 : k0_chk47 v3435), 128 ∣ (k0_mult47 v3435).toNat := fun v3435 k0_hw47 => k0_hw47.1
theorem k0_off47_inb : ∀ (v3435 : BitVec 32) (k0_hw47 : k0_chk47 v3435), ∀ a, (k0_off47 v3435) a + S1x1x1x128x64.size a ≤ S1x2x1x4096x64.size a := fun v3435 k0_hw47 => k0_hw47.2

def k0_mult48 (v3483 : BitVec 32) : BitVec 32 :=
  let c1_i32_2304 : BitVec 32 := 1#32
  let v3484 : BitVec 32 := Scalar.subi v3483 c1_i32_2304
  let c0_i32_2305 : BitVec 32 := 0#32
  let v3485 : BitVec 32 := Scalar.maxsi v3484 c0_i32_2305
  let c128_i32_2306 : BitVec 32 := 128#32
  let v3486 : BitVec 32 := Scalar.muli v3485 c128_i32_2306
  v3486

def k0_off48 (v3483 : BitVec 32) : Fin 2 → Nat :=
  let c0_i32_2307 : BitVec 32 := 0#32
  let c1_i32_2304 : BitVec 32 := 1#32
  let v3484 : BitVec 32 := Scalar.subi v3483 c1_i32_2304
  let c0_i32_2305 : BitVec 32 := 0#32
  let v3485 : BitVec 32 := Scalar.maxsi v3484 c0_i32_2305
  let c128_i32_2306 : BitVec 32 := 128#32
  let v3486 : BitVec 32 := Scalar.muli v3485 c128_i32_2306
  let v3487 : BitVec 32 := v3486
  let v3488 : BitVec 32 := Scalar.addi c0_i32_2307 v3487
  let v3489 : Index := Scalar.indexCast v3488
  let c0_2308 : Index := 0#32
  ![v3489.toNat, 0]

def k0_chk48 (v3483 : BitVec 32) : Prop :=
  (128 ∣ (k0_mult48 v3483).toNat) ∧
  (∀ a, (k0_off48 v3483) a + S128x64.size a ≤ S4096x64.size a)
theorem k0_mult48_dvd : ∀ (v3483 : BitVec 32) (k0_hw48 : k0_chk48 v3483), 128 ∣ (k0_mult48 v3483).toNat := fun v3483 k0_hw48 => k0_hw48.1
theorem k0_off48_inb : ∀ (v3483 : BitVec 32) (k0_hw48 : k0_chk48 v3483), ∀ a, (k0_off48 v3483) a + S128x64.size a ≤ S4096x64.size a := fun v3483 k0_hw48 => k0_hw48.2

def k0_mult49 (v3534 : BitVec 32) : BitVec 32 :=
  let c1_i32_2336 : BitVec 32 := 1#32
  let v3535 : BitVec 32 := Scalar.subi v3534 c1_i32_2336
  let c0_i32_2337 : BitVec 32 := 0#32
  let v3536 : BitVec 32 := Scalar.maxsi v3535 c0_i32_2337
  let c128_i32_2338 : BitVec 32 := 128#32
  let v3537 : BitVec 32 := Scalar.muli v3536 c128_i32_2338
  v3537

def k0_off49 (v3534 : BitVec 32) : Fin 5 → Nat :=
  let c0_2339 : Index := 0#32
  let c0_2340 : Index := 0#32
  let c0_2341 : Index := 0#32
  let c1_i32_2336 : BitVec 32 := 1#32
  let v3535 : BitVec 32 := Scalar.subi v3534 c1_i32_2336
  let c0_i32_2337 : BitVec 32 := 0#32
  let v3536 : BitVec 32 := Scalar.maxsi v3535 c0_i32_2337
  let c128_i32_2338 : BitVec 32 := 128#32
  let v3537 : BitVec 32 := Scalar.muli v3536 c128_i32_2338
  let v3538 : BitVec 32 := v3537
  let v3539 : Index := Scalar.indexCast v3538
  let c0_2342 : Index := 0#32
  ![0, 0, 0, v3539.toNat, 0]

def k0_chk49 (v3534 : BitVec 32) : Prop :=
  (128 ∣ (k0_mult49 v3534).toNat) ∧
  (∀ a, (k0_off49 v3534) a + S1x1x1x128x64.size a ≤ S1x2x1x4096x64.size a)
theorem k0_mult49_dvd : ∀ (v3534 : BitVec 32) (k0_hw49 : k0_chk49 v3534), 128 ∣ (k0_mult49 v3534).toNat := fun v3534 k0_hw49 => k0_hw49.1
theorem k0_off49_inb : ∀ (v3534 : BitVec 32) (k0_hw49 : k0_chk49 v3534), ∀ a, (k0_off49 v3534) a + S1x1x1x128x64.size a ≤ S1x2x1x4096x64.size a := fun v3534 k0_hw49 => k0_hw49.2

def k0_mult50 (v3582 : BitVec 32) : BitVec 32 :=
  let c1_i32_2363 : BitVec 32 := 1#32
  let v3583 : BitVec 32 := Scalar.subi v3582 c1_i32_2363
  let c0_i32_2364 : BitVec 32 := 0#32
  let v3584 : BitVec 32 := Scalar.maxsi v3583 c0_i32_2364
  let c128_i32_2365 : BitVec 32 := 128#32
  let v3585 : BitVec 32 := Scalar.muli v3584 c128_i32_2365
  v3585

def k0_off50 (v3582 : BitVec 32) : Fin 2 → Nat :=
  let c0_i32_2366 : BitVec 32 := 0#32
  let c1_i32_2363 : BitVec 32 := 1#32
  let v3583 : BitVec 32 := Scalar.subi v3582 c1_i32_2363
  let c0_i32_2364 : BitVec 32 := 0#32
  let v3584 : BitVec 32 := Scalar.maxsi v3583 c0_i32_2364
  let c128_i32_2365 : BitVec 32 := 128#32
  let v3585 : BitVec 32 := Scalar.muli v3584 c128_i32_2365
  let v3586 : BitVec 32 := v3585
  let v3587 : BitVec 32 := Scalar.addi c0_i32_2366 v3586
  let v3588 : Index := Scalar.indexCast v3587
  let c0_2367 : Index := 0#32
  ![v3588.toNat, 0]

def k0_chk50 (v3582 : BitVec 32) : Prop :=
  (128 ∣ (k0_mult50 v3582).toNat) ∧
  (∀ a, (k0_off50 v3582) a + S128x64.size a ≤ S4096x64.size a)
theorem k0_mult50_dvd : ∀ (v3582 : BitVec 32) (k0_hw50 : k0_chk50 v3582), 128 ∣ (k0_mult50 v3582).toNat := fun v3582 k0_hw50 => k0_hw50.1
theorem k0_off50_inb : ∀ (v3582 : BitVec 32) (k0_hw50 : k0_chk50 v3582), ∀ a, (k0_off50 v3582) a + S128x64.size a ≤ S4096x64.size a := fun v3582 k0_hw50 => k0_hw50.2

def k0_mult51 (v3633 : BitVec 32) : BitVec 32 :=
  let c1_i32_2395 : BitVec 32 := 1#32
  let v3634 : BitVec 32 := Scalar.subi v3633 c1_i32_2395
  let c0_i32_2396 : BitVec 32 := 0#32
  let v3635 : BitVec 32 := Scalar.maxsi v3634 c0_i32_2396
  let c128_i32_2397 : BitVec 32 := 128#32
  let v3636 : BitVec 32 := Scalar.muli v3635 c128_i32_2397
  v3636

def k0_off51 (v3633 : BitVec 32) : Fin 5 → Nat :=
  let c0_2398 : Index := 0#32
  let c0_2399 : Index := 0#32
  let c0_2400 : Index := 0#32
  let c1_i32_2395 : BitVec 32 := 1#32
  let v3634 : BitVec 32 := Scalar.subi v3633 c1_i32_2395
  let c0_i32_2396 : BitVec 32 := 0#32
  let v3635 : BitVec 32 := Scalar.maxsi v3634 c0_i32_2396
  let c128_i32_2397 : BitVec 32 := 128#32
  let v3636 : BitVec 32 := Scalar.muli v3635 c128_i32_2397
  let v3637 : BitVec 32 := v3636
  let v3638 : Index := Scalar.indexCast v3637
  let c0_2401 : Index := 0#32
  ![0, 0, 0, v3638.toNat, 0]

def k0_chk51 (v3633 : BitVec 32) : Prop :=
  (128 ∣ (k0_mult51 v3633).toNat) ∧
  (∀ a, (k0_off51 v3633) a + S1x1x1x128x64.size a ≤ S1x2x1x4096x64.size a)
theorem k0_mult51_dvd : ∀ (v3633 : BitVec 32) (k0_hw51 : k0_chk51 v3633), 128 ∣ (k0_mult51 v3633).toNat := fun v3633 k0_hw51 => k0_hw51.1
theorem k0_off51_inb : ∀ (v3633 : BitVec 32) (k0_hw51 : k0_chk51 v3633), ∀ a, (k0_off51 v3633) a + S1x1x1x128x64.size a ≤ S1x2x1x4096x64.size a := fun v3633 k0_hw51 => k0_hw51.2

def k0_mult52 (v3681 : BitVec 32) : BitVec 32 :=
  let c1_i32_2422 : BitVec 32 := 1#32
  let v3682 : BitVec 32 := Scalar.subi v3681 c1_i32_2422
  let c0_i32_2423 : BitVec 32 := 0#32
  let v3683 : BitVec 32 := Scalar.maxsi v3682 c0_i32_2423
  let c128_i32_2424 : BitVec 32 := 128#32
  let v3684 : BitVec 32 := Scalar.muli v3683 c128_i32_2424
  v3684

def k0_off52 (v3681 : BitVec 32) : Fin 2 → Nat :=
  let c0_i32_2425 : BitVec 32 := 0#32
  let c1_i32_2422 : BitVec 32 := 1#32
  let v3682 : BitVec 32 := Scalar.subi v3681 c1_i32_2422
  let c0_i32_2423 : BitVec 32 := 0#32
  let v3683 : BitVec 32 := Scalar.maxsi v3682 c0_i32_2423
  let c128_i32_2424 : BitVec 32 := 128#32
  let v3684 : BitVec 32 := Scalar.muli v3683 c128_i32_2424
  let v3685 : BitVec 32 := v3684
  let v3686 : BitVec 32 := Scalar.addi c0_i32_2425 v3685
  let v3687 : Index := Scalar.indexCast v3686
  let c0_2426 : Index := 0#32
  ![v3687.toNat, 0]

def k0_chk52 (v3681 : BitVec 32) : Prop :=
  (128 ∣ (k0_mult52 v3681).toNat) ∧
  (∀ a, (k0_off52 v3681) a + S128x64.size a ≤ S4096x64.size a)
theorem k0_mult52_dvd : ∀ (v3681 : BitVec 32) (k0_hw52 : k0_chk52 v3681), 128 ∣ (k0_mult52 v3681).toNat := fun v3681 k0_hw52 => k0_hw52.1
theorem k0_off52_inb : ∀ (v3681 : BitVec 32) (k0_hw52 : k0_chk52 v3681), ∀ a, (k0_off52 v3681) a + S128x64.size a ≤ S4096x64.size a := fun v3681 k0_hw52 => k0_hw52.2

def k0_mult53 (v3732 : BitVec 32) : BitVec 32 :=
  let c1_i32_2454 : BitVec 32 := 1#32
  let v3733 : BitVec 32 := Scalar.subi v3732 c1_i32_2454
  let c0_i32_2455 : BitVec 32 := 0#32
  let v3734 : BitVec 32 := Scalar.maxsi v3733 c0_i32_2455
  let c128_i32_2456 : BitVec 32 := 128#32
  let v3735 : BitVec 32 := Scalar.muli v3734 c128_i32_2456
  v3735

def k0_off53 (v3732 : BitVec 32) : Fin 5 → Nat :=
  let c0_2457 : Index := 0#32
  let c0_2458 : Index := 0#32
  let c0_2459 : Index := 0#32
  let c1_i32_2454 : BitVec 32 := 1#32
  let v3733 : BitVec 32 := Scalar.subi v3732 c1_i32_2454
  let c0_i32_2455 : BitVec 32 := 0#32
  let v3734 : BitVec 32 := Scalar.maxsi v3733 c0_i32_2455
  let c128_i32_2456 : BitVec 32 := 128#32
  let v3735 : BitVec 32 := Scalar.muli v3734 c128_i32_2456
  let v3736 : BitVec 32 := v3735
  let v3737 : Index := Scalar.indexCast v3736
  let c0_2460 : Index := 0#32
  ![0, 0, 0, v3737.toNat, 0]

def k0_chk53 (v3732 : BitVec 32) : Prop :=
  (128 ∣ (k0_mult53 v3732).toNat) ∧
  (∀ a, (k0_off53 v3732) a + S1x1x1x128x64.size a ≤ S1x2x1x4096x64.size a)
theorem k0_mult53_dvd : ∀ (v3732 : BitVec 32) (k0_hw53 : k0_chk53 v3732), 128 ∣ (k0_mult53 v3732).toNat := fun v3732 k0_hw53 => k0_hw53.1
theorem k0_off53_inb : ∀ (v3732 : BitVec 32) (k0_hw53 : k0_chk53 v3732), ∀ a, (k0_off53 v3732) a + S1x1x1x128x64.size a ≤ S1x2x1x4096x64.size a := fun v3732 k0_hw53 => k0_hw53.2

def k0_mult54 (v3780 : BitVec 32) : BitVec 32 :=
  let c1_i32_2481 : BitVec 32 := 1#32
  let v3781 : BitVec 32 := Scalar.subi v3780 c1_i32_2481
  let c0_i32_2482 : BitVec 32 := 0#32
  let v3782 : BitVec 32 := Scalar.maxsi v3781 c0_i32_2482
  let c128_i32_2483 : BitVec 32 := 128#32
  let v3783 : BitVec 32 := Scalar.muli v3782 c128_i32_2483
  v3783

def k0_off54 (v3780 : BitVec 32) : Fin 2 → Nat :=
  let c0_i32_2484 : BitVec 32 := 0#32
  let c1_i32_2481 : BitVec 32 := 1#32
  let v3781 : BitVec 32 := Scalar.subi v3780 c1_i32_2481
  let c0_i32_2482 : BitVec 32 := 0#32
  let v3782 : BitVec 32 := Scalar.maxsi v3781 c0_i32_2482
  let c128_i32_2483 : BitVec 32 := 128#32
  let v3783 : BitVec 32 := Scalar.muli v3782 c128_i32_2483
  let v3784 : BitVec 32 := v3783
  let v3785 : BitVec 32 := Scalar.addi c0_i32_2484 v3784
  let v3786 : Index := Scalar.indexCast v3785
  let c0_2485 : Index := 0#32
  ![v3786.toNat, 0]

def k0_chk54 (v3780 : BitVec 32) : Prop :=
  (128 ∣ (k0_mult54 v3780).toNat) ∧
  (∀ a, (k0_off54 v3780) a + S128x64.size a ≤ S4096x64.size a)
theorem k0_mult54_dvd : ∀ (v3780 : BitVec 32) (k0_hw54 : k0_chk54 v3780), 128 ∣ (k0_mult54 v3780).toNat := fun v3780 k0_hw54 => k0_hw54.1
theorem k0_off54_inb : ∀ (v3780 : BitVec 32) (k0_hw54 : k0_chk54 v3780), ∀ a, (k0_off54 v3780) a + S128x64.size a ≤ S4096x64.size a := fun v3780 k0_hw54 => k0_hw54.2

def k0_mult55 (v3831 : BitVec 32) : BitVec 32 :=
  let c1_i32_2513 : BitVec 32 := 1#32
  let v3832 : BitVec 32 := Scalar.subi v3831 c1_i32_2513
  let c0_i32_2514 : BitVec 32 := 0#32
  let v3833 : BitVec 32 := Scalar.maxsi v3832 c0_i32_2514
  let c128_i32_2515 : BitVec 32 := 128#32
  let v3834 : BitVec 32 := Scalar.muli v3833 c128_i32_2515
  v3834

def k0_off55 (v3831 : BitVec 32) : Fin 5 → Nat :=
  let c0_2516 : Index := 0#32
  let c0_2517 : Index := 0#32
  let c0_2518 : Index := 0#32
  let c1_i32_2513 : BitVec 32 := 1#32
  let v3832 : BitVec 32 := Scalar.subi v3831 c1_i32_2513
  let c0_i32_2514 : BitVec 32 := 0#32
  let v3833 : BitVec 32 := Scalar.maxsi v3832 c0_i32_2514
  let c128_i32_2515 : BitVec 32 := 128#32
  let v3834 : BitVec 32 := Scalar.muli v3833 c128_i32_2515
  let v3835 : BitVec 32 := v3834
  let v3836 : Index := Scalar.indexCast v3835
  let c0_2519 : Index := 0#32
  ![0, 0, 0, v3836.toNat, 0]

def k0_chk55 (v3831 : BitVec 32) : Prop :=
  (128 ∣ (k0_mult55 v3831).toNat) ∧
  (∀ a, (k0_off55 v3831) a + S1x1x1x128x64.size a ≤ S1x2x1x4096x64.size a)
theorem k0_mult55_dvd : ∀ (v3831 : BitVec 32) (k0_hw55 : k0_chk55 v3831), 128 ∣ (k0_mult55 v3831).toNat := fun v3831 k0_hw55 => k0_hw55.1
theorem k0_off55_inb : ∀ (v3831 : BitVec 32) (k0_hw55 : k0_chk55 v3831), ∀ a, (k0_off55 v3831) a + S1x1x1x128x64.size a ≤ S1x2x1x4096x64.size a := fun v3831 k0_hw55 => k0_hw55.2

def k0_mult56 (v3879 : BitVec 32) : BitVec 32 :=
  let c1_i32_2540 : BitVec 32 := 1#32
  let v3880 : BitVec 32 := Scalar.subi v3879 c1_i32_2540
  let c0_i32_2541 : BitVec 32 := 0#32
  let v3881 : BitVec 32 := Scalar.maxsi v3880 c0_i32_2541
  let c128_i32_2542 : BitVec 32 := 128#32
  let v3882 : BitVec 32 := Scalar.muli v3881 c128_i32_2542
  v3882

def k0_off56 (v3879 : BitVec 32) : Fin 2 → Nat :=
  let c0_i32_2543 : BitVec 32 := 0#32
  let c1_i32_2540 : BitVec 32 := 1#32
  let v3880 : BitVec 32 := Scalar.subi v3879 c1_i32_2540
  let c0_i32_2541 : BitVec 32 := 0#32
  let v3881 : BitVec 32 := Scalar.maxsi v3880 c0_i32_2541
  let c128_i32_2542 : BitVec 32 := 128#32
  let v3882 : BitVec 32 := Scalar.muli v3881 c128_i32_2542
  let v3883 : BitVec 32 := v3882
  let v3884 : BitVec 32 := Scalar.addi c0_i32_2543 v3883
  let v3885 : Index := Scalar.indexCast v3884
  let c0_2544 : Index := 0#32
  ![v3885.toNat, 0]

def k0_chk56 (v3879 : BitVec 32) : Prop :=
  (128 ∣ (k0_mult56 v3879).toNat) ∧
  (∀ a, (k0_off56 v3879) a + S128x64.size a ≤ S4096x64.size a)
theorem k0_mult56_dvd : ∀ (v3879 : BitVec 32) (k0_hw56 : k0_chk56 v3879), 128 ∣ (k0_mult56 v3879).toNat := fun v3879 k0_hw56 => k0_hw56.1
theorem k0_off56_inb : ∀ (v3879 : BitVec 32) (k0_hw56 : k0_chk56 v3879), ∀ a, (k0_off56 v3879) a + S128x64.size a ≤ S4096x64.size a := fun v3879 k0_hw56 => k0_hw56.2

def k0_mult57 (v3930 : BitVec 32) : BitVec 32 :=
  let c1_i32_2572 : BitVec 32 := 1#32
  let v3931 : BitVec 32 := Scalar.subi v3930 c1_i32_2572
  let c0_i32_2573 : BitVec 32 := 0#32
  let v3932 : BitVec 32 := Scalar.maxsi v3931 c0_i32_2573
  let c128_i32_2574 : BitVec 32 := 128#32
  let v3933 : BitVec 32 := Scalar.muli v3932 c128_i32_2574
  v3933

def k0_off57 (v3930 : BitVec 32) : Fin 5 → Nat :=
  let c0_2575 : Index := 0#32
  let c0_2576 : Index := 0#32
  let c0_2577 : Index := 0#32
  let c1_i32_2572 : BitVec 32 := 1#32
  let v3931 : BitVec 32 := Scalar.subi v3930 c1_i32_2572
  let c0_i32_2573 : BitVec 32 := 0#32
  let v3932 : BitVec 32 := Scalar.maxsi v3931 c0_i32_2573
  let c128_i32_2574 : BitVec 32 := 128#32
  let v3933 : BitVec 32 := Scalar.muli v3932 c128_i32_2574
  let v3934 : BitVec 32 := v3933
  let v3935 : Index := Scalar.indexCast v3934
  let c0_2578 : Index := 0#32
  ![0, 0, 0, v3935.toNat, 0]

def k0_chk57 (v3930 : BitVec 32) : Prop :=
  (128 ∣ (k0_mult57 v3930).toNat) ∧
  (∀ a, (k0_off57 v3930) a + S1x1x1x128x64.size a ≤ S1x2x1x4096x64.size a)
theorem k0_mult57_dvd : ∀ (v3930 : BitVec 32) (k0_hw57 : k0_chk57 v3930), 128 ∣ (k0_mult57 v3930).toNat := fun v3930 k0_hw57 => k0_hw57.1
theorem k0_off57_inb : ∀ (v3930 : BitVec 32) (k0_hw57 : k0_chk57 v3930), ∀ a, (k0_off57 v3930) a + S1x1x1x128x64.size a ≤ S1x2x1x4096x64.size a := fun v3930 k0_hw57 => k0_hw57.2

def k0_mult58 (v3978 : BitVec 32) : BitVec 32 :=
  let c1_i32_2599 : BitVec 32 := 1#32
  let v3979 : BitVec 32 := Scalar.subi v3978 c1_i32_2599
  let c0_i32_2600 : BitVec 32 := 0#32
  let v3980 : BitVec 32 := Scalar.maxsi v3979 c0_i32_2600
  let c128_i32_2601 : BitVec 32 := 128#32
  let v3981 : BitVec 32 := Scalar.muli v3980 c128_i32_2601
  v3981

def k0_off58 (v3978 : BitVec 32) : Fin 2 → Nat :=
  let c0_i32_2602 : BitVec 32 := 0#32
  let c1_i32_2599 : BitVec 32 := 1#32
  let v3979 : BitVec 32 := Scalar.subi v3978 c1_i32_2599
  let c0_i32_2600 : BitVec 32 := 0#32
  let v3980 : BitVec 32 := Scalar.maxsi v3979 c0_i32_2600
  let c128_i32_2601 : BitVec 32 := 128#32
  let v3981 : BitVec 32 := Scalar.muli v3980 c128_i32_2601
  let v3982 : BitVec 32 := v3981
  let v3983 : BitVec 32 := Scalar.addi c0_i32_2602 v3982
  let v3984 : Index := Scalar.indexCast v3983
  let c0_2603 : Index := 0#32
  ![v3984.toNat, 0]

def k0_chk58 (v3978 : BitVec 32) : Prop :=
  (128 ∣ (k0_mult58 v3978).toNat) ∧
  (∀ a, (k0_off58 v3978) a + S128x64.size a ≤ S4096x64.size a)
theorem k0_mult58_dvd : ∀ (v3978 : BitVec 32) (k0_hw58 : k0_chk58 v3978), 128 ∣ (k0_mult58 v3978).toNat := fun v3978 k0_hw58 => k0_hw58.1
theorem k0_off58_inb : ∀ (v3978 : BitVec 32) (k0_hw58 : k0_chk58 v3978), ∀ a, (k0_off58 v3978) a + S128x64.size a ≤ S4096x64.size a := fun v3978 k0_hw58 => k0_hw58.2

def k0_mult59 (v4029 : BitVec 32) : BitVec 32 :=
  let c1_i32_2631 : BitVec 32 := 1#32
  let v4030 : BitVec 32 := Scalar.subi v4029 c1_i32_2631
  let c0_i32_2632 : BitVec 32 := 0#32
  let v4031 : BitVec 32 := Scalar.maxsi v4030 c0_i32_2632
  let c128_i32_2633 : BitVec 32 := 128#32
  let v4032 : BitVec 32 := Scalar.muli v4031 c128_i32_2633
  v4032

def k0_off59 (v4029 : BitVec 32) : Fin 5 → Nat :=
  let c0_2634 : Index := 0#32
  let c0_2635 : Index := 0#32
  let c0_2636 : Index := 0#32
  let c1_i32_2631 : BitVec 32 := 1#32
  let v4030 : BitVec 32 := Scalar.subi v4029 c1_i32_2631
  let c0_i32_2632 : BitVec 32 := 0#32
  let v4031 : BitVec 32 := Scalar.maxsi v4030 c0_i32_2632
  let c128_i32_2633 : BitVec 32 := 128#32
  let v4032 : BitVec 32 := Scalar.muli v4031 c128_i32_2633
  let v4033 : BitVec 32 := v4032
  let v4034 : Index := Scalar.indexCast v4033
  let c0_2637 : Index := 0#32
  ![0, 0, 0, v4034.toNat, 0]

def k0_chk59 (v4029 : BitVec 32) : Prop :=
  (128 ∣ (k0_mult59 v4029).toNat) ∧
  (∀ a, (k0_off59 v4029) a + S1x1x1x128x64.size a ≤ S1x2x1x4096x64.size a)
theorem k0_mult59_dvd : ∀ (v4029 : BitVec 32) (k0_hw59 : k0_chk59 v4029), 128 ∣ (k0_mult59 v4029).toNat := fun v4029 k0_hw59 => k0_hw59.1
theorem k0_off59_inb : ∀ (v4029 : BitVec 32) (k0_hw59 : k0_chk59 v4029), ∀ a, (k0_off59 v4029) a + S1x1x1x128x64.size a ≤ S1x2x1x4096x64.size a := fun v4029 k0_hw59 => k0_hw59.2

def k0_mult60 (v4077 : BitVec 32) : BitVec 32 :=
  let c1_i32_2658 : BitVec 32 := 1#32
  let v4078 : BitVec 32 := Scalar.subi v4077 c1_i32_2658
  let c0_i32_2659 : BitVec 32 := 0#32
  let v4079 : BitVec 32 := Scalar.maxsi v4078 c0_i32_2659
  let c128_i32_2660 : BitVec 32 := 128#32
  let v4080 : BitVec 32 := Scalar.muli v4079 c128_i32_2660
  v4080

def k0_off60 (v4077 : BitVec 32) : Fin 2 → Nat :=
  let c0_i32_2661 : BitVec 32 := 0#32
  let c1_i32_2658 : BitVec 32 := 1#32
  let v4078 : BitVec 32 := Scalar.subi v4077 c1_i32_2658
  let c0_i32_2659 : BitVec 32 := 0#32
  let v4079 : BitVec 32 := Scalar.maxsi v4078 c0_i32_2659
  let c128_i32_2660 : BitVec 32 := 128#32
  let v4080 : BitVec 32 := Scalar.muli v4079 c128_i32_2660
  let v4081 : BitVec 32 := v4080
  let v4082 : BitVec 32 := Scalar.addi c0_i32_2661 v4081
  let v4083 : Index := Scalar.indexCast v4082
  let c0_2662 : Index := 0#32
  ![v4083.toNat, 0]

def k0_chk60 (v4077 : BitVec 32) : Prop :=
  (128 ∣ (k0_mult60 v4077).toNat) ∧
  (∀ a, (k0_off60 v4077) a + S128x64.size a ≤ S4096x64.size a)
theorem k0_mult60_dvd : ∀ (v4077 : BitVec 32) (k0_hw60 : k0_chk60 v4077), 128 ∣ (k0_mult60 v4077).toNat := fun v4077 k0_hw60 => k0_hw60.1
theorem k0_off60_inb : ∀ (v4077 : BitVec 32) (k0_hw60 : k0_chk60 v4077), ∀ a, (k0_off60 v4077) a + S128x64.size a ≤ S4096x64.size a := fun v4077 k0_hw60 => k0_hw60.2

def k0_mult61 (v4128 : BitVec 32) : BitVec 32 :=
  let c1_i32_2690 : BitVec 32 := 1#32
  let v4129 : BitVec 32 := Scalar.subi v4128 c1_i32_2690
  let c0_i32_2691 : BitVec 32 := 0#32
  let v4130 : BitVec 32 := Scalar.maxsi v4129 c0_i32_2691
  let c128_i32_2692 : BitVec 32 := 128#32
  let v4131 : BitVec 32 := Scalar.muli v4130 c128_i32_2692
  v4131

def k0_off61 (v4128 : BitVec 32) : Fin 5 → Nat :=
  let c0_2693 : Index := 0#32
  let c0_2694 : Index := 0#32
  let c0_2695 : Index := 0#32
  let c1_i32_2690 : BitVec 32 := 1#32
  let v4129 : BitVec 32 := Scalar.subi v4128 c1_i32_2690
  let c0_i32_2691 : BitVec 32 := 0#32
  let v4130 : BitVec 32 := Scalar.maxsi v4129 c0_i32_2691
  let c128_i32_2692 : BitVec 32 := 128#32
  let v4131 : BitVec 32 := Scalar.muli v4130 c128_i32_2692
  let v4132 : BitVec 32 := v4131
  let v4133 : Index := Scalar.indexCast v4132
  let c0_2696 : Index := 0#32
  ![0, 0, 0, v4133.toNat, 0]

def k0_chk61 (v4128 : BitVec 32) : Prop :=
  (128 ∣ (k0_mult61 v4128).toNat) ∧
  (∀ a, (k0_off61 v4128) a + S1x1x1x128x64.size a ≤ S1x2x1x4096x64.size a)
theorem k0_mult61_dvd : ∀ (v4128 : BitVec 32) (k0_hw61 : k0_chk61 v4128), 128 ∣ (k0_mult61 v4128).toNat := fun v4128 k0_hw61 => k0_hw61.1
theorem k0_off61_inb : ∀ (v4128 : BitVec 32) (k0_hw61 : k0_chk61 v4128), ∀ a, (k0_off61 v4128) a + S1x1x1x128x64.size a ≤ S1x2x1x4096x64.size a := fun v4128 k0_hw61 => k0_hw61.2

def k0_mult62 (v4183 : BitVec 32) : BitVec 32 :=
  let c1_i32_2720 : BitVec 32 := 1#32
  let v4184 : BitVec 32 := Scalar.subi v4183 c1_i32_2720
  let c0_i32_2721 : BitVec 32 := 0#32
  let v4185 : BitVec 32 := Scalar.maxsi v4184 c0_i32_2721
  let c128_i32_2722 : BitVec 32 := 128#32
  let v4186 : BitVec 32 := Scalar.muli v4185 c128_i32_2722
  v4186

def k0_off62 (v4183 : BitVec 32) : Fin 2 → Nat :=
  let c0_i32_2723 : BitVec 32 := 0#32
  let c1_i32_2720 : BitVec 32 := 1#32
  let v4184 : BitVec 32 := Scalar.subi v4183 c1_i32_2720
  let c0_i32_2721 : BitVec 32 := 0#32
  let v4185 : BitVec 32 := Scalar.maxsi v4184 c0_i32_2721
  let c128_i32_2722 : BitVec 32 := 128#32
  let v4186 : BitVec 32 := Scalar.muli v4185 c128_i32_2722
  let v4187 : BitVec 32 := v4186
  let v4188 : BitVec 32 := Scalar.addi c0_i32_2723 v4187
  let v4189 : Index := Scalar.indexCast v4188
  let c0_2724 : Index := 0#32
  ![v4189.toNat, 0]

def k0_chk62 (v4183 : BitVec 32) : Prop :=
  (128 ∣ (k0_mult62 v4183).toNat) ∧
  (∀ a, (k0_off62 v4183) a + S128x64.size a ≤ S4096x64.size a)
theorem k0_mult62_dvd : ∀ (v4183 : BitVec 32) (k0_hw62 : k0_chk62 v4183), 128 ∣ (k0_mult62 v4183).toNat := fun v4183 k0_hw62 => k0_hw62.1
theorem k0_off62_inb : ∀ (v4183 : BitVec 32) (k0_hw62 : k0_chk62 v4183), ∀ a, (k0_off62 v4183) a + S128x64.size a ≤ S4096x64.size a := fun v4183 k0_hw62 => k0_hw62.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_4 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_5 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![c0_i32_3.toNat, v9.toNat, c0_i32_4.toNat, c0_i32_5.toNat]

def cc0_transform_6 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  let c0_i32_6 : BitVec 32 := 0#32
  ![c0_i32_3.toNat, v9.toNat, c0_i32_4.toNat, c0_i32_5.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x1x4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x16x4096x64 : Shape := ⟨4, ![2, 16, 4096, 64]⟩
abbrev S16x1x64 : Shape := ⟨3, ![16, 1, 64]⟩
abbrev S16x32x128x256 : Shape := ⟨4, ![16, 32, 128, 256]⟩
abbrev S_ : Shape := ⟨0, ![]⟩
abbrev S2x8x4096x64 : Shape := ⟨4, ![2, 8, 4096, 64]⟩
abbrev S2x8x3969x64 : Shape := ⟨4, ![2, 8, 3969, 64]⟩
abbrev S2x8x127x64 : Shape := ⟨4, ![2, 8, 127, 64]⟩
abbrev S4096 : Shape := ⟨1, ![4096]⟩
abbrev S1x1x4096x1 : Shape := ⟨4, ![1, 1, 4096, 1]⟩
abbrev S2x16x32x128x64 : Shape := ⟨5, ![2, 16, 32, 128, 64]⟩
abbrev S2x16x32x1x64 : Shape := ⟨5, ![2, 16, 32, 1, 64]⟩
abbrev S2x16x32x64 : Shape := ⟨4, ![2, 16, 32, 64]⟩
abbrev S2x16x33x64 : Shape := ⟨4, ![2, 16, 33, 64]⟩
abbrev S2x16x32x33 : Shape := ⟨4, ![2, 16, 32, 33]⟩
abbrev S32x33 : Shape := ⟨2, ![32, 33]⟩
abbrev S2x16x32 : Shape := ⟨3, ![2, 16, 32]⟩
abbrev S2x16x32x1 : Shape := ⟨4, ![2, 16, 32, 1]⟩
abbrev S1x16x1x1x64 : Shape := ⟨5, ![1, 16, 1, 1, 64]⟩
abbrev S2x16x1x128x64 : Shape := ⟨5, ![2, 16, 1, 128, 64]⟩
abbrev S2x16x33x128x64 : Shape := ⟨5, ![2, 16, 33, 128, 64]⟩
abbrev S2x16x32x256x64 : Shape := ⟨5, ![2, 16, 32, 256, 64]⟩
abbrev S2x16x32x128x256 : Shape := ⟨5, ![2, 16, 32, 128, 256]⟩
abbrev S1x16x32x128x256 : Shape := ⟨5, ![1, 16, 32, 128, 256]⟩
abbrev S2x16x32x128 : Shape := ⟨4, ![2, 16, 32, 128]⟩
abbrev S2x16x32x128x1 : Shape := ⟨5, ![2, 16, 32, 128, 1]⟩

abbrev nBuf : Space → Nat
  | .hbm => 174
  | .vmem => 0
  | .smem => 0
  | _ => 0

abbrev hbmTy0_0 (i : Nat) : BufTy := match i % 128 with
  | 0 => ⟨S2x16x4096x64, .f32⟩
  | 1 => ⟨S2x16x4096x64, .f32⟩
  | 2 => ⟨S2x16x4096x64, .f32⟩
  | 3 => ⟨S16x1x64, .f32⟩
  | 4 => ⟨S16x1x64, .f32⟩
  | 5 => ⟨S16x32x128x256, .i32⟩
  | 6 => ⟨S16x32x128x256, .i32⟩
  | 7 => ⟨S16x32x128x256, .i32⟩
  | 8 => ⟨S16x32x128x256, .i32⟩
  | 9 => ⟨S_, .i32⟩
  | 10 => ⟨S16x32x128x256, .i32⟩
  | 11 => ⟨S16x32x128x256, .i1⟩
  | 12 => ⟨S_, .i32⟩
  | 13 => ⟨S16x32x128x256, .i32⟩
  | 14 => ⟨S16x32x128x256, .i1⟩
  | 15 => ⟨S16x32x128x256, .i1⟩
  | 16 => ⟨S_, .i32⟩
  | 17 => ⟨S16x32x128x256, .i32⟩
  | 18 => ⟨S16x32x128x256, .i1⟩
  | 19 => ⟨S16x32x128x256, .i1⟩
  | 20 => ⟨S_, .i32⟩
  | 21 => ⟨S16x32x128x256, .i32⟩
  | 22 => ⟨S16x32x128x256, .i1⟩
  | 23 => ⟨S16x32x128x256, .i1⟩
  | 24 => ⟨S_, .i32⟩
  | 25 => ⟨S16x32x128x256, .i32⟩
  | 26 => ⟨S16x32x128x256, .i32⟩
  | 27 => ⟨S16x32x128x256, .i1⟩
  | 28 => ⟨S16x32x128x256, .i1⟩
  | 29 => ⟨S2x8x4096x64, .f32⟩
  | 30 => ⟨S2x8x4096x64, .f32⟩
  | 31 => ⟨S2x8x3969x64, .f32⟩
  | 32 => ⟨S2x8x127x64, .f32⟩
  | 33 => ⟨S2x8x4096x64, .f32⟩
  | 34 => ⟨S2x16x4096x64, .f32⟩
  | 35 => ⟨S2x8x4096x64, .f32⟩
  | 36 => ⟨S2x8x4096x64, .f32⟩
  | 37 => ⟨S2x8x3969x64, .f32⟩
  | 38 => ⟨S2x8x127x64, .f32⟩
  | 39 => ⟨S2x8x4096x64, .f32⟩
  | 40 => ⟨S2x16x4096x64, .f32⟩
  | 41 => ⟨S2x8x4096x64, .f32⟩
  | 42 => ⟨S2x8x4096x64, .f32⟩
  | 43 => ⟨S2x8x3969x64, .f32⟩
  | 44 => ⟨S2x8x127x64, .f32⟩
  | 45 => ⟨S2x8x4096x64, .f32⟩
  | 46 => ⟨S2x16x4096x64, .f32⟩
  | 47 => ⟨S4096, .f32⟩
  | 48 => ⟨S_, .f32⟩
  | 49 => ⟨S4096, .f32⟩
  | 50 => ⟨S4096, .f32⟩
  | 51 => ⟨S_, .f32⟩
  | 52 => ⟨S_, .f32⟩
  | 53 => ⟨S2x16x4096x64, .f32⟩
  | 54 => ⟨S1x1x4096x1, .f32⟩
  | 55 => ⟨S2x16x4096x64, .f32⟩
  | 56 => ⟨S2x16x4096x64, .f32⟩
  | 57 => ⟨S2x16x32x128x64, .f32⟩
  | 58 => ⟨S2x16x32x1x64, .f32⟩
  | 59 => ⟨S2x16x32x64, .f32⟩
  | 60 => ⟨S4096, .f32⟩
  | 61 => ⟨S_, .f32⟩
  | 62 => ⟨S4096, .f32⟩
  | 63 => ⟨S4096, .f32⟩
  | 64 => ⟨S_, .f32⟩
  | 65 => ⟨S_, .f32⟩
  | 66 => ⟨S2x16x4096x64, .f32⟩
  | 67 => ⟨S1x1x4096x1, .f32⟩
  | 68 => ⟨S2x16x4096x64, .f32⟩
  | 69 => ⟨S2x16x4096x64, .f32⟩
  | 70 => ⟨S2x16x32x128x64, .f32⟩
  | 71 => ⟨S_, .f32⟩
  | 72 => ⟨S2x16x32x64, .f32⟩
  | 73 => ⟨S_, .i32⟩
  | 74 => ⟨S_, .f32⟩
  | 75 => ⟨S2x16x33x64, .f32⟩
  | 76 => ⟨S2x16x32x33, .f32⟩
  | 77 => ⟨S_, .f32⟩
  | 78 => ⟨S2x16x32x33, .f32⟩
  | 79 => ⟨S2x16x32x33, .f32⟩
  | 80 => ⟨S32x33, .i32⟩
  | 81 => ⟨S32x33, .i32⟩
  | 82 => ⟨S32x33, .i1⟩
  | 83 => ⟨S_, .f32⟩
  | 84 => ⟨S2x16x32x33, .i1⟩
  | 85 => ⟨S2x16x32x33, .f32⟩
  | 86 => ⟨S2x16x32x33, .f32⟩
  | 87 => ⟨S_, .f32⟩
  | 88 => ⟨S2x16x32, .f32⟩
  | 89 => ⟨S_, .f32⟩
  | 90 => ⟨S2x16x32, .f32⟩
  | 91 => ⟨S2x16x32, .f32⟩
  | 92 => ⟨S2x16x32x1, .f32⟩
  | 93 => ⟨S2x16x32x33, .f32⟩
  | 94 => ⟨S2x16x32x33, .f32⟩
  | 95 => ⟨S2x16x32x33, .f32⟩
  | 96 => ⟨S_, .f32⟩
  | 97 => ⟨S2x16x32, .f32⟩
  | 98 => ⟨S2x16x32x1, .f32⟩
  | 99 => ⟨S2x16x32x33, .f32⟩
  | 100 => ⟨S2x16x32x33, .f32⟩
  | 101 => ⟨S32x33, .i1⟩
  | 102 => ⟨S_, .f32⟩
  | 103 => ⟨S_, .f32⟩
  | 104 => ⟨S2x16x32x33, .i1⟩
  | 105 => ⟨S2x16x32x33, .f32⟩
  | 106 => ⟨S2x16x32x33, .f32⟩
  | 107 => ⟨S_, .f32⟩
  | 108 => ⟨S2x16x32, .f32⟩
  | 109 => ⟨S2x16x32x1, .f32⟩
  | 110 => ⟨S2x16x32x33, .f32⟩
  | 111 => ⟨S2x16x32x33, .i1⟩
  | 112 => ⟨S2x16x32x33, .f32⟩
  | 113 => ⟨S2x16x32x33, .f32⟩
  | 114 => ⟨S2x16x32x33, .i1⟩
  | 115 => ⟨S_, .f32⟩
  | 116 => ⟨S_, .f32⟩
  | 117 => ⟨S2x16x32x33, .f32⟩
  | 118 => ⟨S_, .f32⟩
  | 119 => ⟨S2x16x32x33, .f32⟩
  | 120 => ⟨S2x16x32x33, .i1⟩
  | 121 => ⟨S2x16x32x33, .i1⟩
  | 122 => ⟨S_, .f32⟩
  | 123 => ⟨S_, .f32⟩
  | 124 => ⟨S2x16x32x33, .f32⟩
  | 125 => ⟨S2x16x32x33, .f32⟩
  | 126 => ⟨S2x16x32x33, .f32⟩
  | 127 => ⟨S2x16x32x128x64, .f32⟩
  | _ => ⟨S2x16x4096x64, .f32⟩

abbrev hbmTy0_1 (i : Nat) : BufTy := match i % 128 with
  | 0 => ⟨S1x16x1x1x64, .f32⟩
  | 1 => ⟨S2x16x1x128x64, .f32⟩
  | 2 => ⟨S2x16x32x128x64, .f32⟩
  | 3 => ⟨S2x16x33x128x64, .f32⟩
  | 4 => ⟨S2x16x32x128x64, .f32⟩
  | 5 => ⟨S2x16x32x128x64, .f32⟩
  | 6 => ⟨S2x16x32x256x64, .f32⟩
  | 7 => ⟨S2x16x32x128x256, .f32⟩
  | 8 => ⟨S_, .f32⟩
  | 9 => ⟨S2x16x32x128x256, .f32⟩
  | 10 => ⟨S2x16x32x128x256, .f32⟩
  | 11 => ⟨S1x16x32x128x256, .i1⟩
  | 12 => ⟨S_, .f32⟩
  | 13 => ⟨S_, .f32⟩
  | 14 => ⟨S2x16x32x128x256, .i1⟩
  | 15 => ⟨S2x16x32x128x256, .f32⟩
  | 16 => ⟨S2x16x32x128x256, .f32⟩
  | 17 => ⟨S_, .f32⟩
  | 18 => ⟨S2x16x32x128, .f32⟩
  | 19 => ⟨S_, .f32⟩
  | 20 => ⟨S2x16x32x128, .f32⟩
  | 21 => ⟨S2x16x32x128, .f32⟩
  | 22 => ⟨S2x16x32x128x1, .f32⟩
  | 23 => ⟨S2x16x32x128x256, .f32⟩
  | 24 => ⟨S2x16x32x128x256, .f32⟩
  | 25 => ⟨S2x16x32x128x256, .f32⟩
  | 26 => ⟨S_, .f32⟩
  | 27 => ⟨S2x16x32x128, .f32⟩
  | 28 => ⟨S2x16x32x128x1, .f32⟩
  | 29 => ⟨S2x16x32x128x256, .f32⟩
  | 30 => ⟨S2x16x32x128x256, .f32⟩
  | 31 => ⟨S1x16x1x1x64, .f32⟩
  | 32 => ⟨S2x16x1x128x64, .f32⟩
  | 33 => ⟨S2x16x32x128x64, .f32⟩
  | 34 => ⟨S2x16x33x128x64, .f32⟩
  | 35 => ⟨S2x16x32x128x64, .f32⟩
  | 36 => ⟨S2x16x32x128x64, .f32⟩
  | 37 => ⟨S2x16x32x256x64, .f32⟩
  | 38 => ⟨S2x16x32x128x64, .f32⟩
  | 39 => ⟨S2x16x4096x64, .f32⟩
  | 40 => ⟨S2x8x4096x64, .f32⟩
  | 41 => ⟨S2x8x4096x64, .f32⟩
  | 42 => ⟨S2x8x127x64, .f32⟩
  | 43 => ⟨S2x8x3969x64, .f32⟩
  | 44 => ⟨S2x8x4096x64, .f32⟩
  | 45 => ⟨S2x16x4096x64, .f32⟩
  | _ => ⟨S2x16x4096x64, .f32⟩

abbrev hbmTy (i : Nat) : BufTy := match i / 128 with
  | 0 => hbmTy0_0 i
  | 1 => hbmTy0_1 i
  | _ => ⟨S2x16x4096x64, .f32⟩

abbrev bufTy : (tb : Table) → Fin (tcTables nBuf tb) → BufTy
  | .hbm, ⟨i, _⟩ => hbmTy i
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_call0_call0_cst : Ref sig .tc := ⟨.hbm, 51, rfl⟩
abbrev main_call0_call0_v0 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_call1_call0_cst : Ref sig .tc := ⟨.hbm, 64, rfl⟩
abbrev main_call1_call0_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_c_6 : Ref sig .tc := ⟨.hbm, 73, rfl⟩
abbrev main_call2_v0 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_call3_v0 : Ref sig .tc := ⟨.hbm, 84, rfl⟩
abbrev main_call3_v1 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_12 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v76 : Ref sig .tc := ⟨.hbm, 106, rfl⟩
abbrev main_cst_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call5_call0_cst : Ref sig .tc := ⟨.hbm, 115, rfl⟩
abbrev main_call5_call0_v0 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_call6_v0 : Ref sig .tc := ⟨.hbm, 123, rfl⟩
abbrev main_call6_v1 : Ref sig .tc := ⟨.hbm, 124, rfl⟩
abbrev main_call6_v2 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_17 : Ref sig .tc := ⟨.hbm, 140, rfl⟩
abbrev main_call7_v0 : Ref sig .tc := ⟨.hbm, 141, rfl⟩
abbrev main_call7_v1 : Ref sig .tc := ⟨.hbm, 142, rfl⟩
abbrev main_call7_v2 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_cst_19 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_20 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩

abbrev nD : Nat := 1
abbrev τ : Topo := Topo.v7x

variable {F : FTy → Type} [FloatOps F]
-- ==== Proof.Words.lean ====
module

public import Idealize.ShloMosaic.Lib.Pointwise

@[expose] public section

noncomputable section

namespace Cert.Proof

open Idealize.ShloMosaic

/-- Choosing by the bit of a proposition is choosing by the proposition. -/
theorem select_ite {α : Type} (p : Prop) [Decidable p] (a b : α) : Scalar.select (if p then 1#1 else 0#1) a b = if p then a else b := by
  split <;> rfl

/-- Choosing by the bit of a negation takes the other value. -/
theorem select_ite_not {α : Type} (p : Prop) [Decidable p] (a b : α) : Scalar.select (if p then 0#1 else 1#1) a b = if p then b else a := by
  split <;> rfl

/-- The float of a small count is the count. -/
theorem sitofp_nat (k : Nat) (hk : k < 5000) : (FloatOps.sitofp (F := Ideal) FTy.f32 (BitVec.ofNat 32 k) : EReal) = ((k : ℝ) : EReal) := by
  have : (BitVec.ofNat 32 k).toInt = k := by simp only [BitVec.toInt_ofNat']; exact Int.bmod_eq_of_le (by omega) (by omega)
  show (((BitVec.ofNat 32 k).toInt : ℝ) : EReal) = _
  rw [this]; simp

/-- Comparing the words of a column and a bucket, strictly. -/
theorem slt33 : ∀ (u : Fin 32) (v : Fin 33), IntOp.cmpi CmpIPredicate.slt (BitVec.ofNat 32 v.val) (BitVec.ofNat 32 u.val) = if v.val < u.val then 1#1 else 0#1 := by
  decide +kernel

/-- Comparing the word of a row with 1. -/
theorem sge_word : ∀ j : Fin 128, IntOp.cmpi CmpIPredicate.sge (BitVec.ofNat 32 j.val) 1#32 = if 1 ≤ j.val then 1#1 else 0#1 := by decide

end Cert.Proof

end
-- ==== Proof.Chk.lean ====
module

public import proofs.«01_k».proof.Proof.Gen.KernelIdeal
public import proofs.«01_k».proof.Proof.Words
public import Idealize.ShloMosaic.Lib.Pointwise
public import Idealize.ShloMosaic.Lib.Tactic

@[expose] public section

noncomputable section

namespace Cert.Proof

open Cert.KernelIdeal Cert.KernelIdeal.Gen
open Idealize.ShloMosaic Idealize.SL.Sem

/-- The index rows of one half: in every lane of row `u` the least column at which row `u` of `Rz` attains its maximum. -/
def idxOf (Rz : FVec Ideal S32x33 .f32) : IVec S32x128 32 :=
  broadcastTo S32x128
    (shapeCast S32x1
      (fptosi 32
        (shapeCast S32x1
          (multiReduction .minimumf [1] S32
            (select
              (cmpf .oge Rz
                (broadcastTo S32x33
                  (shapeCast S32x1 (multiReduction .maximumf [1] S32 Rz 0xFF800000#32 reduces_S32x33_S32 (.inl rfl) rfl)
                    shapeCasts_S32_S32x1)
                  broadcasts_S32x1_S32x33))
              (sitofp (F := Ideal) .f32 (iota .tc S32x33 32 [1] iota_S32x33_d1_w32))
              (broadcast S32x33 (Scalar.ofBits (F := Ideal) .f32 0x4E6E6B28#32 : Ideal .f32)))
            0x7F800000#32 reduces_S32x33_S32 (.inl rfl) rfl)
          shapeCasts_S32_S32x1))
      shapeCasts_S32x1_S32x1)
    broadcasts_S32x1_S32x128

/-- Some column attains the maximum of a row, and there is a least such. -/
theorem exists_first (g : Fin 33 → EReal) :
    ∃ k : Fin 33, g k = Finset.univ.sup g ∧ ∀ k' < k, g k' < Finset.univ.sup g := by
  classical
  have hne : (Finset.univ.filter fun k => g k = Finset.univ.sup g).Nonempty := by
    obtain ⟨k, -, hk⟩ := Finset.exists_mem_eq_sup Finset.univ (Finset.univ_nonempty (α := Fin 33)) g
    exact ⟨k, by simp [hk]⟩
  refine ⟨_, (Finset.mem_filter.1 (Finset.min'_mem _ hne)).2, fun k' hk' => lt_of_le_of_ne (Finset.le_sup (Finset.mem_univ k')) fun h => ?_⟩
  exact absurd (Finset.min'_le _ k' (by simp [h])) (not_le.2 hk')

/-- The least column at which a row of 33 attains its maximum. -/
def firstTop (g : Fin 33 → EReal) : Fin 33 := (exists_first g).choose

/-- The maximum is attained at `firstTop`. -/
theorem firstTop_eq (g : Fin 33 → EReal) : g (firstTop g) = Finset.univ.sup g := (exists_first g).choose_spec.1
/-- Before `firstTop` every value is below the maximum. -/
theorem firstTop_lt (g : Fin 33 → EReal) (k : Fin 33) (h : k < firstTop g) : g k < Finset.univ.sup g :=
  (exists_first g).choose_spec.2 k h

/-- The word of minus infinity. -/
theorem ofBits_neg_inf : Ideal.ofBits FTy.f32 4286578688#32 = ⊥ := by simp [Ideal.ofBits, Ideal.ieee]
/-- The word of plus infinity. -/
theorem ofBits_inf : Ideal.ofBits FTy.f32 2139095040#32 = ⊤ := by simp [Ideal.ofBits, Ideal.ieee]
/-- The word of 1000000000. -/
theorem ofBits_1e9 : Ideal.ofBits FTy.f32 1315859240#32 = ((1000000000 : ℝ) : EReal) := by
  simp [Ideal.ofBits, Ideal.ieee]; exact_mod_cast (by norm_num : (15625000 * 2 ^ 6 : ℝ) = 1000000000)

/-- The float of a column is its number. -/
theorem sitofp_small (k : Nat) (hk : k < 33) : (FloatOps.sitofp (F := Ideal) FTy.f32 (BitVec.ofNat 32 k) : EReal) = ((k : ℝ) : EReal) := by
  have : (BitVec.ofNat 32 k).toInt = k := by simp only [BitVec.toInt_ofNat']; exact Int.bmod_eq_of_le (by omega) (by omega)
  show (((BitVec.ofNat 32 k).toInt : ℝ) : EReal) = _
  rw [this]; simp

/-- The integer of a column's float is the column. -/
theorem fptosi_small (k : Nat) (hk : k < 33) : (FloatOps.fptosi (F := Ideal) (φ := .f32) 32 ((k : ℝ) : EReal)) = BitVec.ofNat 32 k := by
  show Ideal.fptosi 32 ((k : ℝ) : EReal) = _
  rw [Ideal.fptosi, Ideal.toIntClamped_coe]
  have h0 : (0 : ℝ) ≤ (k : ℝ) := by positivity
  rw [if_pos h0, Int.floor_natCast, min_eq_right (by norm_num; omega), max_eq_right (by norm_num)]
  exact BitVec.ofInt_natCast _ _

/-- The least of the candidates is the least column at which the row attains its maximum. -/
theorem fold_cand (g : Fin 33 → EReal) :
    Finset.fold min (⊤ : EReal) (fun x : Fin 33 =>
        if Finset.univ.sup g ≤ g x then (((x : Nat) : ℝ) : EReal) else ((1000000000 : ℝ) : EReal)) Finset.univ
      = (((firstTop g : Nat) : ℝ) : EReal) := by
  apply le_antisymm
  · refine (Finset.fold_min_le _).2 (.inr ⟨firstTop g, Finset.mem_univ _, ?_⟩)
    rw [if_pos (firstTop_eq g).ge]
  · refine (Finset.le_fold_min _).2 ⟨le_top, fun x _ => ?_⟩
    split
    · rename_i h
      have : firstTop g ≤ x := not_lt.1 fun hx => absurd (firstTop_lt g x hx) (not_lt.2 h)
      exact_mod_cast this
    · have := (firstTop g).isLt
      have : ((firstTop g : Nat) : ℝ) ≤ 1000000000 := by
        have : ((firstTop g : Nat) : ℝ) ≤ ((33 : Nat) : ℝ) := by exact_mod_cast this.le
        norm_num at this ⊢; linarith
      exact_mod_cast this

/-- In every lane of row `u` the index array holds the least column at which row `u` attains its maximum. -/
theorem idxOf_apply (Rz : FVec Ideal S32x33 .f32) (u : Fin 32) (l : Fin 128) :
    idxOf Rz (ix2 u l) = BitVec.ofNat 32 (firstTop fun k => Rz (ix2 u k)) := by
  pointwise [idxOf]
  rw [ofBits_neg_inf, ofBits_inf, ofBits_1e9]
  have := fold_cand fun k => Rz (ix2 u k)
  rw [← fptosi_small _ (firstTop fun k => Rz (ix2 u k)).isLt, ← this]
  congr 1

/-- A word of the index rows of one half is at most 32. -/
theorem idxOf_le (Rz : FVec Ideal S32x33 .f32) (j : S32x128.Idx) : (idxOf Rz j).toNat ≤ 32 := by
  idx_vars j
  rw [idxOf_apply, BitVec.toNat_ofNat]
  have := (firstTop fun k => Rz (ix2 j0 k)).isLt
  omega

/-- The two halves' index rows, one above the other, as they are stored. -/
def idxAll (a b : FVec Ideal S32x33 .f32) : IVec S64x128 32 :=
  shapeCast S64x128 (concatenate S64x128 0 [⟨S32x128, idxOf a⟩, ⟨S32x128, idxOf b⟩] concatenates_S32x128_S32x128_S64x128_d0)
    shapeCasts_S64x128_S64x128

/-- A word of the index rows is at most 32. -/
theorem idxAll_le (a b : FVec Ideal S32x33 .f32) (j : S64x128.Idx) : (idxAll a b j).toNat ≤ 32 := by
  idx_vars j
  pointwise [idxAll]
  split <;> exact idxOf_le _ _

/-- A word read back from the buffer of index rows is one of the index array's. -/
theorem word_eq {sg : RefSig} {κ : Kind} {sp : Space} (v : View sg κ sp S64x128 .i32) (a b : FVec Ideal S32x33 .f32)
    (hin) (off : Fin 2 → Nat) (hoff : ∀ a, off a + S1x1.size a ≤ S64x128.size a) (hp) :
    (extractAt ![0, 0] (v.readCov (Val := Elt Ideal) [⟨Rect.unit (s := S64x128) ![0, 0] S64x128.size hin, idxAll a b⟩]
        (Rect.unit (s := S64x128) off S1x1.size hoff).toLoadRect) hp : BitVec 32)
      = idxAll a b ((Rect.unit (s := S64x128) off S1x1.size hoff).idx (ix2 0 0)) := by
  rw [View.readCov_eq_canon', View.canon_unit_zero (by funext a; fin_cases a <;> rfl)]
  unfold extractAt
  congr 2
  funext a; fin_cases a <;> rfl

/-- A word read back from the buffer of index rows is at most 32. -/
theorem word_le {sg : RefSig} {κ : Kind} {sp : Space} (v : View sg κ sp S64x128 .i32) (a b : FVec Ideal S32x33 .f32)
    (hin) (off : Fin 2 → Nat) (hoff : ∀ a, off a + S1x1.size a ≤ S64x128.size a) (hp) :
    (extractAt ![0, 0] (v.readCov (Val := Elt Ideal) [⟨Rect.unit (s := S64x128) ![0, 0] S64x128.size hin, idxAll a b⟩]
        (Rect.unit (s := S64x128) off S1x1.size hoff).toLoadRect) hp : BitVec 32).toNat ≤ 32 := by
  rw [word_eq]; exact idxAll_le a b _

/-- The offset made of such a word is a multiple of 128 that leaves room for a bucket. -/
theorem off_le (w : BitVec 32) (h : w.toNat ≤ 32) :
    128 ∣ (k0_mult1 w).toNat ∧ (k0_mult1 w).toNat ≤ 3968 := by
  have hw : w = BitVec.ofNat 32 w.toNat := by simp
  generalize w.toNat = n at h hw
  subst hw
  interval_cases n <;> decide

/-- Such a word's bucket lies inside an operand's block. -/
theorem chk1_of (w : BitVec 32) (h : w.toNat ≤ 32) : k0_chk1 w := by
  have := off_le w h
  refine ⟨this.1, fun a => ?_⟩
  have h2 : (k0_off1 w) 3 = (k0_mult1 w).toNat := rfl
  have h3 : (k0_off1 w) 0 = 0 ∧ (k0_off1 w) 1 = 0 ∧ (k0_off1 w) 2 = 0 ∧ (k0_off1 w) 4 = 0 := ⟨rfl, rfl, rfl, rfl⟩
  match a with
  | 0 => rw [h3.1]; decide
  | 1 => rw [h3.2.1]; decide
  | 2 => rw [h3.2.2.1]; decide
  | 4 => rw [h3.2.2.2]; decide
  | 3 => rw [h2]; show (k0_mult1 w).toNat + 128 ≤ 4096; omega

/-- Such a word's bucket lies inside a staged operand. -/
theorem chk2_of (w : BitVec 32) (h : w.toNat ≤ 32) : k0_chk2 w := by
  have hw : w = BitVec.ofNat 32 w.toNat := by simp
  generalize w.toNat = n at h hw
  subst hw
  unfold k0_chk2
  interval_cases n <;> decide

end Cert.Proof

end
-- ==== Proof.BodyRun.lean ====
module

public import proofs.«01_k».proof.Proof.Gen.KernelIdeal.Skeleton
public import proofs.«01_k».proof.Proof.Gen.KernelIdeal.Frame
public import proofs.«01_k».proof.Proof.Chk
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The type of the contents of `M`'s buffer on core `c`. -/
abbrev Bf (c : Dev nD) {sp : Space} {S : Shape} {e : EltTy} (M : Memref sig .tc sp S e) : Type := Buf (Elt Ideal) (M.view.loc (c : Thread nD τ))
/-- `M`'s buffer on core `c` held whole at `f`. -/
abbrev pt (c : Dev nD) {sp : Space} {S : Shape} {e : EltTy} (M : Memref sig .tc sp S e) (f : Bf c M) : sProp 𝕄 :=
  M.view.loc (c : Thread nD τ) ↦{fullShare} f

/-- The whole body run at the ideal values: what it leaves in its result block, and that it runs. -/
def bodyRun (c : Dev nD) (i : grid0.Coords)
    (M1 : Memref sig .tc .vmem S4096x64 .f32) (h1 : M1.IsWhole) (M2 : Memref sig .tc .vmem S32x64 .f32) (h2 : M2.IsWhole)
    (M3 : Memref sig .tc .vmem S1x2x1x4096x64 .f32) (h3 : M3.IsWhole) (M4 : Memref sig .tc .vmem S1x2x1x4096x64 .f32) (h4 : M4.IsWhole)
    (M5 : Memref sig .tc .vmem S1x2x1x4096x64 .f32) (h5 : M5.IsWhole) (M6 : Memref sig .tc .vmem S2x1x1x64 .f32) (h6 : M6.IsWhole)
    (M7 : Memref sig .tc .vmem S2x1x1x64 .f32) (h7 : M7.IsWhole) (M8 : Memref sig .tc .vmem S1x2x1x4096x64 .f32) (h8 : M8.IsWhole)
    (M9 : Memref sig .tc .vmem S64x128 .i32) (h9 : M9.IsWhole) (M10 : Memref sig .tc .vmem S4096x64 .f32) (h10 : M10.IsWhole)
    (M11 : Memref sig .tc .vmem S4096x64 .f32) (h11 : M11.IsWhole) (M12 : Memref sig .tc .vmem S4096x64 .f32) (h12 : M12.IsWhole)
    (f1 : Bf c M1) (f2 : Bf c M2) (f3 : Bf c M3) (f4 : Bf c M4) (f5 : Bf c M5) (f6 : Bf c M6) (f7 : Bf c M7) :
    { W : Bf c M8 // ∀ (f8 : Bf c M8) (f9 : Bf c M9) (f10 : Bf c M10) (f11 : Bf c M11) (f12 : Bf c M12) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11 ∗ pt c M12 f12
          ∗ (iprop(pt c M1 f1 ∗ pt c M2 f2 ∗ pt c M3 f3 ∗ pt c M4 f4 ∗ pt c M5 f5 ∗ pt c M6 f6 ∗ pt c M7 f7 ∗ pt c M8 W
                ∗ (∃ f, pt c M9 f) ∗ (∃ f, pt c M10 f) ∗ (∃ f, pt c M11 f) ∗ (∃ f, pt c M12 f)) -∗ Q ⟨⟩))
        ⊢ wp frame (wpE (defs₀ (F := Ideal)) Variants.none c none) E
            (cc0_body i M1 h1 M2 h2 M3 h3 M4 h4 M5 h5 M6 h6 M7 h7 M8 h8 M9 h9 M10 h10 M11 h11 M12 h12) Q } := by
  refine ⟨?_, fun f8 f9 f10 f11 f12 E Q => ?run⟩
  case run =>
    iintro ⟨H1, H2, H3, H4, H5, H6, H7, H8, H9, H10, H11, H12, Hk⟩
    sl_exec_parts! (disch := first | exact chk1_of _ (word_le _ _ _ _ _ _ _) | exact chk2_of _ (word_le _ _ _ _ _ _ _))
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12

end Cert.Proof

end
-- ==== Proof.KRun.lean ====
/-
  The launch of the kernel's pipeline: the body's run (BodyRun.lean) restated on blocks, the proof data, the run of @main,
  and the frame: the arguments end unchanged and every counter is back at zero.
-/
module

public import proofs.«01_k».proof.Proof.BodyRun
public import Idealize.ShloMosaic.Lib.Claim
public import Idealize.ShloMosaic.Lib.Pipeline.FrameSuffix

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A whole memref owned at `x` is its buffer held at the contents that read `x`. -/
theorem owns_pt (c : Dev nD) {sp : Space} {S : Shape} {e : EltTy} (M : Memref sig .tc sp S e) (h : M.IsWhole) (x : S.Idx → Elt Ideal e) :
    (owns (c : Thread nD τ) M fullShare x : sProp 𝕄) ⊢ pt c M (h.unread x) := by
  unfold owns
  iintro ⟨%f, %hf, H⟩
  obtain rfl := h.eq_unread hf
  rw [h.set_eq_univ]
  iexact H

/-- A whole memref's buffer held at `f` is the memref owned at what `f` reads. -/
theorem pt_owns (c : Dev nD) {sp : Space} {S : Shape} {e : EltTy} (M : Memref sig .tc sp S e) (h : M.IsWhole) (f : Bf c M) (x : S.Idx → Elt Ideal e)
    (hx : M.view.read (Elt Ideal) f = x) : pt c M f ⊢ (owns (c : Thread nD τ) M fullShare x : sProp 𝕄) := by
  unfold owns
  iintro H
  iexists f; isplitr; · ipureintro; exact hx
  rw [h.set_eq_univ]
  iexact H

/-- What the body leaves in its result block, from what its seven operands' blocks hold. -/
def outBlk (c : Dev nD) (i : grid0.Coords)
    (M1 : Memref sig .tc .vmem S4096x64 .f32) (h1 : M1.IsWhole)
    (M2 : Memref sig .tc .vmem S32x64 .f32) (h2 : M2.IsWhole)
    (M3 : Memref sig .tc .vmem S1x2x1x4096x64 .f32) (h3 : M3.IsWhole)
    (M4 : Memref sig .tc .vmem S1x2x1x4096x64 .f32) (h4 : M4.IsWhole)
    (M5 : Memref sig .tc .vmem S1x2x1x4096x64 .f32) (h5 : M5.IsWhole)
    (M6 : Memref sig .tc .vmem S2x1x1x64 .f32) (h6 : M6.IsWhole)
    (M7 : Memref sig .tc .vmem S2x1x1x64 .f32) (h7 : M7.IsWhole)
    (M8 : Memref sig .tc .vmem S1x2x1x4096x64 .f32) (h8 : M8.IsWhole)
    (M9 : Memref sig .tc .vmem S64x128 .i32) (h9 : M9.IsWhole)
    (M10 : Memref sig .tc .vmem S4096x64 .f32) (h10 : M10.IsWhole)
    (M11 : Memref sig .tc .vmem S4096x64 .f32) (h11 : M11.IsWhole)
    (M12 : Memref sig .tc .vmem S4096x64 .f32) (h12 : M12.IsWhole)
    (x1 : FVec Ideal S4096x64 .f32) (x2 : FVec Ideal S32x64 .f32) (x3 : FVec Ideal S1x2x1x4096x64 .f32) (x4 : FVec Ideal S1x2x1x4096x64 .f32) (x5 : FVec Ideal S1x2x1x4096x64 .f32) (x6 : FVec Ideal S2x1x1x64 .f32) (x7 : FVec Ideal S2x1x1x64 .f32) : FVec Ideal S1x2x1x4096x64 .f32 :=
  M8.view.read (Elt Ideal) (bodyRun c i M1 h1 M2 h2 M3 h3 M4 h4 M5 h5 M6 h6 M7 h7 M8 h8 M9 h9 M10 h10 M11 h11 M12 h12 (h1.unread x1) (h2.unread x2) (h3.unread x3) (h4.unread x4) (h5.unread x5) (h6.unread x6) (h7.unread x7)).1

/-- The body on whole memrefs: the operands' owned at `x1 … x7` stay so, the result's ends at `outBlk`, the scratch at something. -/
theorem sound_kernel (c : Dev nD) (E : Set ℕ) (i : grid0.Coords)
    (M1 : Memref sig .tc .vmem S4096x64 .f32) (h1 : M1.IsWhole)
    (M2 : Memref sig .tc .vmem S32x64 .f32) (h2 : M2.IsWhole)
    (M3 : Memref sig .tc .vmem S1x2x1x4096x64 .f32) (h3 : M3.IsWhole)
    (M4 : Memref sig .tc .vmem S1x2x1x4096x64 .f32) (h4 : M4.IsWhole)
    (M5 : Memref sig .tc .vmem S1x2x1x4096x64 .f32) (h5 : M5.IsWhole)
    (M6 : Memref sig .tc .vmem S2x1x1x64 .f32) (h6 : M6.IsWhole)
    (M7 : Memref sig .tc .vmem S2x1x1x64 .f32) (h7 : M7.IsWhole)
    (M8 : Memref sig .tc .vmem S1x2x1x4096x64 .f32) (h8 : M8.IsWhole)
    (M9 : Memref sig .tc .vmem S64x128 .i32) (h9 : M9.IsWhole)
    (M10 : Memref sig .tc .vmem S4096x64 .f32) (h10 : M10.IsWhole)
    (M11 : Memref sig .tc .vmem S4096x64 .f32) (h11 : M11.IsWhole)
    (M12 : Memref sig .tc .vmem S4096x64 .f32) (h12 : M12.IsWhole)
    (x1 : FVec Ideal S4096x64 .f32) (x2 : FVec Ideal S32x64 .f32) (x3 : FVec Ideal S1x2x1x4096x64 .f32) (x4 : FVec Ideal S1x2x1x4096x64 .f32) (x5 : FVec Ideal S1x2x1x4096x64 .f32) (x6 : FVec Ideal S2x1x1x64 .f32) (x7 : FVec Ideal S2x1x1x64 .f32) (K : PUnit → sProp 𝕄) :
    iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ (∃ d, owns (c : Thread nD τ) M8 fullShare d)
        ∗ (∃ f, pt c M9 f) ∗ (∃ f, pt c M10 f) ∗ (∃ f, pt c M11 f) ∗ (∃ f, pt c M12 f)
        ∗ (iprop(owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare (outBlk c i M1 h1 M2 h2 M3 h3 M4 h4 M5 h5 M6 h6 M7 h7 M8 h8 M9 h9 M10 h10 M11 h11 M12 h12 x1 x2 x3 x4 x5 x6 x7)
            ∗ (∃ f, pt c M9 f) ∗ (∃ f, pt c M10 f) ∗ (∃ f, pt c M11 f) ∗ (∃ f, pt c M12 f)) -∗ K ⟨⟩))
      ⊢ wp frame (wpE (defs₀ (F := Ideal)) Variants.none c none) E (cc0_body i M1 h1 M2 h2 M3 h3 M4 h4 M5 h5 M6 h6 M7 h7 M8 h8 M9 h9 M10 h10 M11 h11 M12 h12) K := by
  iintro ⟨H1, H2, H3, H4, H5, H6, H7, ⟨%d8, H8⟩, ⟨%f9, H9⟩, ⟨%f10, H10⟩, ⟨%f11, H11⟩, ⟨%f12, H12⟩, Hk⟩
  ihave H1 := (owns_pt c M1 h1 x1) $$ H1
  ihave H2 := (owns_pt c M2 h2 x2) $$ H2
  ihave H3 := (owns_pt c M3 h3 x3) $$ H3
  ihave H4 := (owns_pt c M4 h4 x4) $$ H4
  ihave H5 := (owns_pt c M5 h5 x5) $$ H5
  ihave H6 := (owns_pt c M6 h6 x6) $$ H6
  ihave H7 := (owns_pt c M7 h7 x7) $$ H7
  ihave H8 := (owns_pt c M8 h8 d8) $$ H8
  iapply ((bodyRun c i M1 h1 M2 h2 M3 h3 M4 h4 M5 h5 M6 h6 M7 h7 M8 h8 M9 h9 M10 h10 M11 h11 M12 h12 (h1.unread x1) (h2.unread x2) (h3.unread x3) (h4.unread x4) (h5.unread x5) (h6.unread x6) (h7.unread x7)).2 (h8.unread d8) f9 f10 f11 f12 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]; · iapply (pt_owns c M1 h1 _ _ (h1.read_unread x1)); iexact H1
  isplitl [H2]; · iapply (pt_owns c M2 h2 _ _ (h2.read_unread x2)); iexact H2
  isplitl [H3]; · iapply (pt_owns c M3 h3 _ _ (h3.read_unread x3)); iexact H3
  isplitl [H4]; · iapply (pt_owns c M4 h4 _ _ (h4.read_unread x4)); iexact H4
  isplitl [H5]; · iapply (pt_owns c M5 h5 _ _ (h5.read_unread x5)); iexact H5
  isplitl [H6]; · iapply (pt_owns c M6 h6 _ _ (h6.read_unread x6)); iexact H6
  isplitl [H7]; · iapply (pt_owns c M7 h7 _ _ (h7.read_unread x7)); iexact H7
  isplitl [H8]; · iapply (pt_owns c M8 h8 _ _ rfl); iexact H8
  isplitl [H9]; · iexact H9
  isplitl [H10]; · iexact H10
  isplitl [H11]; · iexact H11
  iexact H12

variable (m : (ℓ : Loc nD τ sig) → Buf (Elt Ideal) ℓ) (ρ : Dev nD → PrngReg)

/-- What the body leaves in the result's block at point `t`. -/
def resBlk (c : Dev nD) (t : Fin cfg0.N) : FVec Ideal S1x2x1x4096x64 .f32 :=
  outBlk c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t)

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => resBlk m c t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves the block of window 0 as it is. -/
theorem after0_0 (c : Dev nD) (t : Fin cfg0.N) : (dats m 0 c).after 0 t = iblk m c 0 t := by dsimp only [dats]
/-- The body leaves the block of window 1 as it is. -/
theorem after0_1 (c : Dev nD) (t : Fin cfg0.N) : (dats m 0 c).after 1 t = iblk m c 1 t := by dsimp only [dats]
/-- The body leaves the block of window 2 as it is. -/
theorem after0_2 (c : Dev nD) (t : Fin cfg0.N) : (dats m 0 c).after 2 t = iblk m c 2 t := by dsimp only [dats]
/-- The body leaves the block of window 3 as it is. -/
theorem after0_3 (c : Dev nD) (t : Fin cfg0.N) : (dats m 0 c).after 3 t = iblk m c 3 t := by dsimp only [dats]
/-- The body leaves the block of window 4 as it is. -/
theorem after0_4 (c : Dev nD) (t : Fin cfg0.N) : (dats m 0 c).after 4 t = iblk m c 4 t := by dsimp only [dats]
/-- The body leaves the block of window 5 as it is. -/
theorem after0_5 (c : Dev nD) (t : Fin cfg0.N) : (dats m 0 c).after 5 t = iblk m c 5 t := by dsimp only [dats]
/-- The body leaves the block of window 6 as it is. -/
theorem after0_6 (c : Dev nD) (t : Fin cfg0.N) : (dats m 0 c).after 6 t = iblk m c 6 t := by dsimp only [dats]
/-- After the body the result's buffer holds `resBlk`. -/
theorem after0_7 (c : Dev nD) (t : Fin cfg0.N) : (dats m 0 c).after 7 t = resBlk m c t := by dsimp only [dats]

/-- The body finds the block of window 0 in its buffer. -/
theorem before0_0 (c : Dev nD) (t : Fin cfg0.N) (d) : (dats m 0 c).before 0 t d = iblk m c 0 t :=
  before0_0_of m (dats m 0 c) (A_eq m c 0) (after0_0 m c) t d
/-- The body finds the block of window 1 in its buffer. -/
theorem before0_1 (c : Dev nD) (t : Fin cfg0.N) (d) : (dats m 0 c).before 1 t d = iblk m c 1 t :=
  before0_1_of m (dats m 0 c) (A_eq m c 1) (after0_1 m c) t d
/-- The body finds the block of window 2 in its buffer. -/
theorem before0_2 (c : Dev nD) (t : Fin cfg0.N) (d) : (dats m 0 c).before 2 t d = iblk m c 2 t :=
  before0_2_of m (dats m 0 c) (A_eq m c 2) (after0_2 m c) t d
/-- The body finds the block of window 3 in its buffer. -/
theorem before0_3 (c : Dev nD) (t : Fin cfg0.N) (d) : (dats m 0 c).before 3 t d = iblk m c 3 t :=
  before0_3_of m (dats m 0 c) (A_eq m c 3) (after0_3 m c) t d
/-- The body finds the block of window 4 in its buffer. -/
theorem before0_4 (c : Dev nD) (t : Fin cfg0.N) (d) : (dats m 0 c).before 4 t d = iblk m c 4 t :=
  before0_4_of m (dats m 0 c) (A_eq m c 4) (after0_4 m c) t d
/-- The body finds the block of window 5 in its buffer. -/
theorem before0_5 (c : Dev nD) (t : Fin cfg0.N) (d) : (dats m 0 c).before 5 t d = iblk m c 5 t :=
  before0_5_of m (dats m 0 c) (A_eq m c 5) (after0_5 m c) t d
/-- The body finds the block of window 6 in its buffer. -/
theorem before0_6 (c : Dev nD) (t : Fin cfg0.N) (d) : (dats m 0 c).before 6 t d = iblk m c 6 t :=
  before0_6_of m (dats m 0 c) (A_eq m c 6) (after0_6 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

/-- The class's invariant, conjunct by conjunct. -/
theorem PhiA_eq (c : Dev nD) : (Pipeline.ΦA spec0 c : sProp 𝕄)
    = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f)) ∗ (∃ r, prngReg c r)) := by
  unfold Pipeline.ΦA; rw [scopedRest0_eq]

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA_eq,
    after0_0, after0_1, after0_2, after0_3, after0_4, after0_5, after0_6, after0_7]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  unfold resBlk
  iapply (sound_kernel c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  iintro ⟨H0, H1, H2, H3, H4, H5, H6, H7, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: @main's run ends with every array at what the proof data says, and every counter at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: from any memory, the arguments end unchanged and every counter at zero. -/
theorem frame_pi : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof

end
-- ==== Proof.Spec.lean ====
module

public import proofs.«01_k».proof.Proof.Chk

@[expose] public section

noncomputable section

namespace Cert.Proof

open Idealize.ShloMosaic

/-- One eighth. -/
def c8 : EReal := Ideal.ofBits FTy.f32 1040187392#32
/-- What stands at the columns a bucket may not choose. -/
def low : EReal := Ideal.ofBits FTy.f32 4286578687#32

/-- The scores of bucket `u` against the 33 columns, a column past `u` at `low`. -/
def score (SQ : Fin 64 → EReal) (SK : Fin 33 → Fin 64 → EReal) (u : Fin 32) (v : Fin 33) : EReal :=
  if v.val ≤ u.val then (∑ d, SQ d * SK v d) * c8 else low

/-- The routing weights of bucket `u`: the softmax of its scores, at the columns before `u`. -/
def prob (SQ : Fin 64 → EReal) (SK : Fin 33 → Fin 64 → EReal) (u : Fin 32) (v : Fin 33) : EReal :=
  if v.val < u.val then
    Ideal.div (Ideal.exp (score SQ SK u v - Finset.univ.sup (score SQ SK u))) (∑ w, Ideal.exp (score SQ SK u w - Finset.univ.sup (score SQ SK u)))
  else 0

end Cert.Proof

end
-- ==== Proof.Model.lean ====
module

public import proofs.«01_k».proof.Proof.BodyRun

@[expose] public section

noncomputable section

namespace Cert.Proof

open Cert.KernelIdeal Cert.KernelIdeal.Gen
open Idealize.ShloMosaic Idealize.SL.Sem

/-- The buffers a body works on, and what its operands' buffers hold. -/
structure Env (c : Dev nD) where
  M1 : Memref sig .tc .vmem S4096x64 .f32
  M2 : Memref sig .tc .vmem S32x64 .f32
  M3 : Memref sig .tc .vmem S1x2x1x4096x64 .f32
  M4 : Memref sig .tc .vmem S1x2x1x4096x64 .f32
  M5 : Memref sig .tc .vmem S1x2x1x4096x64 .f32
  M6 : Memref sig .tc .vmem S2x1x1x64 .f32
  M7 : Memref sig .tc .vmem S2x1x1x64 .f32
  M9 : Memref sig .tc .vmem S64x128 .i32
  M10 : Memref sig .tc .vmem S4096x64 .f32
  M11 : Memref sig .tc .vmem S4096x64 .f32
  M12 : Memref sig .tc .vmem S4096x64 .f32
  f1 : Bf c M1
  f2 : Bf c M2
  f3 : Bf c M3
  f4 : Bf c M4
  f5 : Bf c M5
  f6 : Bf c M6
  f7 : Bf c M7

/-- A bucket of 128 rows of 64 values. -/
abbrev Cell := FVec Ideal S128x64 .f32

/-- The bucket's own exponentials, at the pairs the mask lets through. -/
def eOwn (mask : IVec S128x128 1) (q k : Cell) : FVec Ideal S128x128 .f32 :=
  select mask
    (exp2 (matmul dot_S128x64_S128x64_S128x128_1_1_0_0_n_n none
      (truncf .bf16 (mulf q (broadcast S128x64 (Named.named (F := Ideal) κ "qscale" 0x3E38AA3B#32))) bitsLt_bf16_f32)
      (truncf .bf16 k bitsLt_bf16_f32) (constant S128x128 .f32 0x00000000#32)))
    (broadcast S128x128 (Scalar.ofBits (F := Ideal) .f32 0x00000000#32))

/-- The exponentials against the chosen bucket scaled by `val`. -/
def eFar (q kg : Cell) (val : FVec Ideal S1x1 .f32) : FVec Ideal S128x128 .f32 :=
  exp2 (matmul dot_S128x64_S128x64_S128x128_1_1_0_0_n_n none
    (truncf .bf16 (mulf q (broadcast S128x64 (Named.named (F := Ideal) κ "qscale" 0x3E38AA3B#32))) bitsLt_bf16_f32)
    (truncf .bf16 (mulf kg (broadcastTo S128x64 val broadcasts_S1x1_S128x64)) bitsLt_bf16_f32) (constant S128x128 .f32 0x00000000#32))

/-- Weights times values, with nothing accumulated before. -/
def accum (e : FVec Ideal S128x128 .f32) (v : Cell) : Cell :=
  matmul dot_S128x128_S128x64_S128x64_1_0_0_1_n_n none (truncf .bf16 e bitsLt_bf16_f32) (truncf .bf16 v bitsLt_bf16_f32) (constant S128x64 .f32 0x00000000#32)

/-- The sums of the rows. -/
def rowSum (e : FVec Ideal S128x128 .f32) : FVec Ideal S128x1 .f32 :=
  shapeCast S128x1 (multiReduction .add [1] S128 e 0x00000000#32 reduces_S128x128_S128 (.inl rfl) rfl) shapeCasts_S128_S128x1

/-- The first bucket: only its own keys, and 128 more in the denominator. -/
def cellZ (q k v : Cell) : Cell :=
  divf (accum (eOwn k0_pay352 q k) v)
    (broadcastTo S128x64 (addf (rowSum (eOwn k0_pay352 q k)) (broadcast S128x1 (Scalar.ofBits (F := Ideal) .f32 0x43000000#32))) broadcasts_S128x1_S128x64)

/-- A bucket from its own weights `eo` and the chosen bucket's `eg`. -/
def cellOf (eo eg : FVec Ideal S128x128 .f32) (v vg : Cell) (val : FVec Ideal S1x1 .f32) : Cell :=
  divf (addf (accum eg (mulf vg (broadcastTo S128x64 val broadcasts_S1x1_S128x64))) (accum eo v))
    (broadcastTo S128x64 (addf (rowSum eg) (rowSum eo)) broadcasts_S128x1_S128x64)

/-- The mask of the last bucket of the second half: as everywhere, and column 0 only for row 0. -/
def maskL : IVec S128x128 1 :=
  andi k0_pay352 (xori (andi (cmpi .eq (iota .tc S128x128 32 [1] iota_S128x128_d1_w32) (broadcast S128x128 0#32))
    (cmpi .sge (iota .tc S128x128 32 [0] iota_S128x128_d0_w32) (broadcast S128x128 1#32))) (constantI S128x128 1 1#1))

/-- The last bucket of the second half lets only its row 0 see the chosen bucket. -/
def eFarL (q kg : Cell) (val : FVec Ideal S1x1 .f32) : FVec Ideal S128x128 .f32 :=
  select (cmpi .eq (iota .tc S128x128 32 [0] iota_S128x128_d0_w32) (broadcast S128x128 0#32)) (eFar q kg val)
    (broadcast S128x128 (Scalar.ofBits (F := Ideal) .f32 0x00000000#32))

variable {c : Dev nD} (E : Env c)

/-- The routing weights of each half. -/
def Rz : Fin 2 → FVec Ideal S32x33 .f32
  | 0 => bodyRun.sl.v561 c E.M1 E.M2 E.M3 E.M4 E.f1 E.f2 E.f3 E.f4
  | 1 => bodyRun.sl.v1033 c E.M1 E.M2 E.M3 E.M4 E.M10 E.M11 E.f1 E.f2 E.f3 E.f4

/-- The largest routing weight of each row. -/
def topOf (R : FVec Ideal S32x33 .f32) : FVec Ideal S32x1 .f32 :=
  shapeCast S32x1 (multiReduction .maximumf [1] S32 R 0xFF800000#32 reduces_S32x33_S32 (.inl rfl) rfl) shapeCasts_S32_S32x1

/-- The word of a bucket lies inside the buffer of index rows. -/
theorem inb_row (half : Fin 2) (u : Fin 32) : ∀ a, (![32 * half.val + u.val, 0] : Fin 2 → Nat) a + S1x1.size a ≤ S64x128.size a := fun a => by
  match a with
  | 0 => show 32 * half.val + u.val + 1 ≤ 64; omega
  | 1 => show 0 + 1 ≤ 128; omega

/-- The word naming the chosen bucket. -/
def word (half : Fin 2) (u : Fin 32) : BitVec 32 :=
  extractAt ![0, 0] (E.M9.view.readCov (Val := Elt Ideal)
    [⟨Rect.unit (s := S64x128) ![0, 0] S64x128.size inb_S64x128_S64x128_0_0, idxAll (Rz E 0) (Rz E 1)⟩]
    (Rect.unit (s := S64x128) ![32 * half.val + u.val, 0] S1x1.size (inb_row half u)).toLoadRect) inpos_S1x1_p0_0

/-- The word naming the chosen bucket is at most 32. -/
theorem word_le' (half : Fin 2) (u : Fin 32) : (word E half u).toNat ≤ 32 := word_le _ _ _ _ _ _ _

/-- A row of the largest weights is a slice of them. -/
theorem slices_row (u : Fin 32) : S32x1.Slices ![u.val, 0] S1x1 := by revert u; decide

/-- The largest routing weight of row `u`. -/
def val (half : Fin 2) (u : Fin 32) : FVec Ideal S1x1 .f32 := extractStridedSlice S1x1 ![u.val, 0] (topOf (Rz E half)) (slices_row u)

/-- A bucket lies inside an operand's block. -/
theorem inb_bucket5 (u : Fin 32) : ∀ a, (![0, 0, 0, 128 * u.val, 0] : Fin 5 → Nat) a + S1x1x1x128x64.size a ≤ S1x2x1x4096x64.size a := by
  revert u; decide

/-- A bucket lies inside a staged operand. -/
theorem inb_bucket2 (u : Fin 32) : ∀ a, (![128 * u.val, 0] : Fin 2 → Nat) a + S128x64.size a ≤ S4096x64.size a := by
  revert u; decide

/-- Bucket `u` of the first half of an operand. -/
def ldA (M : Memref sig .tc .vmem S1x2x1x4096x64 .f32) (f : Bf c M) (u : Fin 32) : Cell :=
  shapeCast S128x64 (View.readAt (Elt Ideal) M.view
    (Rect.unit (s := S1x2x1x4096x64) ![0, 0, 0, 128 * u.val, 0] S1x1x1x128x64.size (inb_bucket5 u)).toLoadRect f) shapeCasts_S1x1x1x128x64_S128x64

/-- The bucket a word names, of the first half of an operand. -/
def gaA (M : Memref sig .tc .vmem S1x2x1x4096x64 .f32) (f : Bf c M) (w : BitVec 32) (h : w.toNat ≤ 32) : Cell :=
  shapeCast S128x64 (View.readAt (Elt Ideal) M.view
    (Rect.unit (s := S1x2x1x4096x64) (k0_off1 w) S1x1x1x128x64.size (k0_off1_inb w (chk1_of w h))).toLoadRect f) shapeCasts_S1x1x1x128x64_S128x64

/-- The row a null block holds for a half, repeated 128 times. -/
def nul (M : Memref sig .tc .vmem S2x1x1x64 .f32) (f : Bf c M) : Fin 2 → Cell
  | 0 => k0_pay348 (View.readAt (Elt Ideal) M.view (Rect.unit (s := S2x1x1x64) ![0, 0, 0, 0] S1x1x1x64.size inb_S2x1x1x64_S1x1x1x64_0_0_0_0).toLoadRect f)
  | 1 => k0_pay348 (View.readAt (Elt Ideal) M.view (Rect.unit (s := S2x1x1x64) ![1, 0, 0, 0] S1x1x1x64.size inb_S2x1x1x64_S1x1x1x64_1_0_0_0).toLoadRect f)

/-- What is written to a buffer of 4096 rows. -/
abbrev Writes4096 := List (View.Piece (Elt Ideal) S4096x64 .f32)

/-- Bucket `u` of a staged operand. -/
def ldB (M : Memref sig .tc .vmem S4096x64 .f32) (H : Writes4096) (u : Fin 32) : Cell :=
  M.view.readCov (Val := Elt Ideal) H (Rect.unit (s := S4096x64) ![128 * u.val, 0] S128x64.size (inb_bucket2 u)).toLoadRect

/-- The bucket a word names of a staged operand. -/
def gaB (M : Memref sig .tc .vmem S4096x64 .f32) (H : Writes4096) (w : BitVec 32) (h : w.toNat ≤ 32) : Cell :=
  View.readAt (Elt Ideal) M.view (Rect.unit (s := S4096x64) (k0_off2 w) S128x64.size (k0_off2_inb w (chk2_of w h))).toLoadRect
    (M.view.writes (Elt Ideal) M.view.junk H)

/-- Bucket `u` of the queries of a half. -/
def qC : Fin 2 → Fin 32 → Cell
  | 0, u => ldA E.M3 E.f3 u
  | 1, u => ldB E.M10 (bodyRun.sl.H10_2 c E.M3 E.f3) u

/-- Bucket `u` of the keys of a half. -/
def kC : Fin 2 → Fin 32 → Cell
  | 0, u => ldA E.M4 E.f4 u
  | 1, u => ldB E.M11 (bodyRun.sl.H11_2 c E.M4 E.f4) u

/-- Bucket `u` of the values of a half. -/
def vC : Fin 2 → Fin 32 → Cell
  | 0, u => ldA E.M5 E.f5 u
  | 1, u => ldB E.M12 (bodyRun.sl.H12_2 c E.M5 E.f5) u

/-- The keys of the chosen bucket, before they are scaled. -/
def kG (half : Fin 2) (u : Fin 32) : Cell :=
  Scalar.select (Scalar.cmpi .eq (word E half u) 0#32) (nul E.M6 E.f6 half)
    (match half with
     | 0 => gaA E.M4 E.f4 (word E 0 u) (word_le' E 0 u)
     | 1 => gaB E.M11 (bodyRun.sl.H11_2 c E.M4 E.f4) (word E 1 u) (word_le' E 1 u))

/-- The values of the chosen bucket, before they are scaled. -/
def vG (half : Fin 2) (u : Fin 32) : Cell :=
  Scalar.select (Scalar.cmpi .eq (word E half u) 0#32) (nul E.M7 E.f7 half)
    (match half with
     | 0 => gaA E.M5 E.f5 (word E 0 u) (word_le' E 0 u)
     | 1 => gaB E.M12 (bodyRun.sl.H12_2 c E.M5 E.f5) (word E 1 u) (word_le' E 1 u))

/-- The result's bucket `u` of a half. -/
def cell (half : Fin 2) (u : Fin 32) : Cell :=
  if u.val = 0 then cellZ (qC E half u) (kC E half u) (vC E half u)
  else if 32 * half.val + u.val = 63 then
    cellOf (eOwn maskL (qC E half u) (kC E half u)) (eFarL (qC E half u) (kG E half u) (val E half u)) (vC E half u) (vG E half u) (val E half u)
  else
    cellOf (eOwn k0_pay352 (qC E half u) (kC E half u)) (eFar (qC E half u) (kG E half u) (val E half u)) (vC E half u) (vG E half u) (val E half u)

/-- Eight buckets of the result one below the other. -/
def eight (half : Fin 2) (b : Fin 4) : FVec Ideal S1x1024x64 .f32 :=
  shapeCast S1x1024x64
    (concatenate S1024x64 0 (List.ofFn fun w : Fin 8 => (⟨S128x64, cell E half ⟨8 * b.val + w.val, by omega⟩⟩ : (s : Shape) × (s.Idx → Ideal .f32)))
      concatenates_S128x64_S128x64_S128x64_S128x64_S128x64_S128x64_S128x64_S128x64_S1024x64_d0)
    shapeCasts_S1024x64_S1x1024x64

/-- The pieces of the result, the newest first. -/
def pieces : List (View.Piece (Elt Ideal) S1x2x1x4096x64 .f32) :=
  [⟨Rect.unit (s := S1x2x1x4096x64) ![0, 1, 0, 0, 0] S1x1x1x127x64.size inb_S1x2x1x4096x64_S1x1x1x127x64_0_1_0_0_0, k0_pay3 (eight E 1 3)⟩,
   ⟨Rect.unit (s := S1x2x1x4096x64) ![0, 1, 0, 3199, 0] S1x1x1x897x64.size inb_S1x2x1x4096x64_S1x1x1x897x64_0_1_0_3199_0, k0_pay2 (eight E 1 3)⟩,
   ⟨Rect.unit (s := S1x2x1x4096x64) ![0, 0, 0, 3072, 0] S1x1x1x1024x64.size inb_S1x2x1x4096x64_S1x1x1x1024x64_0_0_0_3072_0, k0_pay1 (eight E 0 3)⟩,
   ⟨Rect.unit (s := S1x2x1x4096x64) ![0, 1, 0, 2175, 0] S1x1x1x1024x64.size inb_S1x2x1x4096x64_S1x1x1x1024x64_0_1_0_2175_0, k0_pay1 (eight E 1 2)⟩,
   ⟨Rect.unit (s := S1x2x1x4096x64) ![0, 0, 0, 2048, 0] S1x1x1x1024x64.size inb_S1x2x1x4096x64_S1x1x1x1024x64_0_0_0_2048_0, k0_pay1 (eight E 0 2)⟩,
   ⟨Rect.unit (s := S1x2x1x4096x64) ![0, 1, 0, 1151, 0] S1x1x1x1024x64.size inb_S1x2x1x4096x64_S1x1x1x1024x64_0_1_0_1151_0, k0_pay1 (eight E 1 1)⟩,
   ⟨Rect.unit (s := S1x2x1x4096x64) ![0, 0, 0, 1024, 0] S1x1x1x1024x64.size inb_S1x2x1x4096x64_S1x1x1x1024x64_0_0_0_1024_0, k0_pay1 (eight E 0 1)⟩,
   ⟨Rect.unit (s := S1x2x1x4096x64) ![0, 1, 0, 127, 0] S1x1x1x1024x64.size inb_S1x2x1x4096x64_S1x1x1x1024x64_0_1_0_127_0, k0_pay1 (eight E 1 0)⟩,
   ⟨Rect.unit (s := S1x2x1x4096x64) ![0, 0, 0, 0, 0] S1x1x1x1024x64.size inb_S1x2x1x4096x64_S1x1x1x1024x64_0_0_0_0_0, k0_pay1 (eight E 0 0)⟩]

/-- The body's value 1806 is eight buckets of the first half. -/
theorem v1806_eq : bodyRun.sl.v1806 c E.M1 E.M2 E.M3 E.M4 E.M5 E.M6 E.M7 E.M9 E.M10 E.M11 E.f1 E.f2 E.f3 E.f4 E.f5 E.f6 E.f7 = eight E 0 0 := rfl
/-- The body's value 1808 is eight buckets of the second half. -/
theorem v1808_eq : bodyRun.sl.v1808 c E.M1 E.M2 E.M3 E.M4 E.M5 E.M6 E.M7 E.M9 E.M10 E.M11 E.M12 E.f1 E.f2 E.f3 E.f4 E.f5 E.f6 E.f7 = eight E 1 0 := rfl
/-- The body's value 2608 is eight buckets of the first half. -/
theorem v2608_eq : bodyRun.sl.v2608 c E.M1 E.M2 E.M3 E.M4 E.M5 E.M6 E.M7 E.M9 E.M10 E.M11 E.f1 E.f2 E.f3 E.f4 E.f5 E.f6 E.f7 = eight E 0 1 := rfl
/-- The body's value 2610 is eight buckets of the second half. -/
theorem v2610_eq : bodyRun.sl.v2610 c E.M1 E.M2 E.M3 E.M4 E.M5 E.M6 E.M7 E.M9 E.M10 E.M11 E.M12 E.f1 E.f2 E.f3 E.f4 E.f5 E.f6 E.f7 = eight E 1 1 := rfl
/-- The body's value 3410 is eight buckets of the first half. -/
theorem v3410_eq : bodyRun.sl.v3410 c E.M1 E.M2 E.M3 E.M4 E.M5 E.M6 E.M7 E.M9 E.M10 E.M11 E.f1 E.f2 E.f3 E.f4 E.f5 E.f6 E.f7 = eight E 0 2 := rfl
/-- The body's value 3412 is eight buckets of the second half. -/
theorem v3412_eq : bodyRun.sl.v3412 c E.M1 E.M2 E.M3 E.M4 E.M5 E.M6 E.M7 E.M9 E.M10 E.M11 E.M12 E.f1 E.f2 E.f3 E.f4 E.f5 E.f6 E.f7 = eight E 1 2 := rfl
/-- The body's value 4223 is eight buckets of the first half. -/
theorem v4223_eq : bodyRun.sl.v4223 c E.M1 E.M2 E.M3 E.M4 E.M5 E.M6 E.M7 E.M9 E.M10 E.M11 E.f1 E.f2 E.f3 E.f4 E.f5 E.f6 E.f7 = eight E 0 3 := rfl
/-- The body's value 4225 is eight buckets of the second half. -/
theorem v4225_eq : bodyRun.sl.v4225 c E.M1 E.M2 E.M3 E.M4 E.M5 E.M6 E.M7 E.M9 E.M10 E.M11 E.M12 E.f1 E.f2 E.f3 E.f4 E.f5 E.f6 E.f7 = eight E 1 3 := rfl

/-- What the body writes to its result block, piece by piece. -/
theorem writes_eq : bodyRun.sl.H8_9 c E.M1 E.M2 E.M3 E.M4 E.M5 E.M6 E.M7 E.M9 E.M10 E.M11 E.M12 E.f1 E.f2 E.f3 E.f4 E.f5 E.f6 E.f7 = pieces E := by
  unfold pieces
  rw [← v1806_eq, ← v1808_eq, ← v2608_eq, ← v2610_eq, ← v3410_eq, ← v3412_eq, ← v4223_eq, ← v4225_eq]
  rfl

end Cert.Proof

end
-- ==== Proof.KCell.lean ====
module

public import proofs.«01_k».proof.Proof.Model
public import Idealize.ShloMosaic.Lib.Pointwise

@[expose] public section

noncomputable section

namespace Cert.Proof

open Cert.KernelIdeal Cert.KernelIdeal.Gen
open Idealize.ShloMosaic Idealize.SL.Sem

/-- The scale of the queries: an eighth over the logarithm of 2. -/
def qs : EReal := Named.named (F := Ideal) (φ := .f32) κ "qscale" 0x3E38AA3B#32

/-- The power of 2, at the ideal values. -/
def ex2 (x : EReal) : EReal := FloatOps.exp2 (F := Ideal) (φ := .f32) x

/-- The sum of a row, as a sum. -/
theorem rowSum_apply (e : FVec Ideal S128x128 .f32) (r : Fin 128) : rowSum e (ix2 r 0) = ∑ j : Fin 128, e (ix2 r j) := by
  pointwise [rowSum]

/-- Weights times values, as a sum of products. -/
theorem accum_apply (e : FVec Ideal S128x128 .f32) (v : Cell) (r : Fin 128) (d : Fin 64) :
    accum e v (ix2 r d) = ∑ j : Fin 128, e (ix2 r j) * v (ix2 j d) := by
  pointwise [accum]

/-- The exponentials against the chosen bucket, pair by pair. -/
theorem eFar_apply (q kg : Cell) (val : FVec Ideal S1x1 .f32) (r j : Fin 128) :
    eFar q kg val (ix2 r j) = ex2 (∑ d : Fin 64, q (ix2 r d) * qs * (kg (ix2 j d) * val (ix2 0 0))) := by
  pointwise [eFar]
  rfl

/-- Comparing the words of a row and a column. -/
theorem sle_word : ∀ r j : Fin 128, IntOp.cmpi CmpIPredicate.sle (BitVec.ofNat 32 j.val) (BitVec.ofNat 32 r.val) = if j ≤ r then 1#1 else 0#1 := by
  decide +kernel

/-- Comparing the word of a column with 0. -/
theorem eq_word : ∀ j : Fin 128, IntOp.cmpi CmpIPredicate.eq (BitVec.ofNat 32 j.val) 0#32 = if j.val = 0 then 1#1 else 0#1 := by decide
/-- The exponentials of the own bucket under the causal mask, pair by pair. -/
theorem eOwn_apply (q k : Cell) (r j : Fin 128) :
    eOwn k0_pay352 q k (ix2 r j) = if j ≤ r then ex2 (∑ d : Fin 64, q (ix2 r d) * qs * k (ix2 j d)) else 0 := by
  pointwise [eOwn, k0_pay352]
  rw [sle_word, select_ite]
  rfl

/-- The mask of the last bucket of the second half, pair by pair. -/
theorem maskL_apply (r j : Fin 128) : maskL (ix2 r j) = if j ≤ r ∧ ¬(j.val = 0 ∧ 1 ≤ r.val) then 1#1 else 0#1 := by
  pointwise [maskL, k0_pay352]
  rw [sle_word, eq_word, sge_word]
  by_cases h1 : j ≤ r <;> by_cases h2 : j.val = 0 <;> by_cases h3 : 1 ≤ r.val <;> simp only [h1, h2, h3] <;> rfl

/-- The exponentials of the own bucket under that mask, pair by pair. -/
theorem eOwnL_apply (q k : Cell) (r j : Fin 128) :
    eOwn maskL q k (ix2 r j) = if j ≤ r ∧ ¬(j.val = 0 ∧ 1 ≤ r.val) then ex2 (∑ d : Fin 64, q (ix2 r d) * qs * k (ix2 j d)) else 0 := by
  pointwise [eOwn]
  rw [maskL_apply, select_ite]
  rfl

/-- The exponentials of that bucket against the chosen one: row 0 only. -/
theorem eFarL_apply (q kg : Cell) (val : FVec Ideal S1x1 .f32) (r j : Fin 128) :
    eFarL q kg val (ix2 r j) = if r.val = 0 then ex2 (∑ d : Fin 64, q (ix2 r d) * qs * (kg (ix2 j d) * val (ix2 0 0))) else 0 := by
  pointwise [eFarL]
  rw [eq_word, select_ite, eFar_apply]

/-- The first bucket as a quotient of sums. -/
theorem cellZ_apply (q k v : Cell) (r : Fin 128) (d : Fin 64) :
    cellZ q k v (ix2 r d) = Ideal.div (∑ j : Fin 128, eOwn k0_pay352 q k (ix2 r j) * v (ix2 j d))
      ((∑ j : Fin 128, eOwn k0_pay352 q k (ix2 r j)) + ((128 : ℝ) : EReal)) := by
  have h128 : Ideal.ofBits FTy.f32 1124073472#32 = ((128 : ℝ) : EReal) := by
    simp [Ideal.ofBits, Ideal.ieee]; exact_mod_cast (by norm_num : (8388608 * (2 ^ 16 : ℝ)⁻¹ : ℝ) = 128)
  pointwise [cellZ]
  rw [accum_apply, rowSum_apply, h128]

/-- Any other bucket as a quotient of sums. -/
theorem cellOf_apply (eo eg : FVec Ideal S128x128 .f32) (v vg : Cell) (val : FVec Ideal S1x1 .f32) (r : Fin 128) (d : Fin 64) :
    cellOf eo eg v vg val (ix2 r d) = Ideal.div
      ((∑ j : Fin 128, eg (ix2 r j) * (vg (ix2 j d) * val (ix2 0 0))) + ∑ j : Fin 128, eo (ix2 r j) * v (ix2 j d))
      ((∑ j : Fin 128, eg (ix2 r j)) + ∑ j : Fin 128, eo (ix2 r j)) := by
  pointwise [cellOf]
  rw [accum_apply, accum_apply, rowSum_apply, rowSum_apply]
  pointwise

end Cert.Proof

end
-- ==== Proof.Soft.lean ====
module

public import proofs.«01_k».proof.Proof.Spec
public import proofs.«01_k».proof.Proof.KCell
public import Mathlib.Analysis.SpecialFunctions.Pow.Real

@[expose] public section

noncomputable section

namespace Cert.Proof

open Idealize.ShloMosaic

/-- The image of a real sum is the sum of the images. -/
theorem coe_sum {ι : Type*} (s : Finset ι) (f : ι → ℝ) : ((∑ i ∈ s, f i : ℝ) : EReal) = ∑ i ∈ s, (f i : EReal) := by
  classical
  refine Finset.induction_on s (by simp) fun a s ha h => ?_
  rw [Finset.sum_insert ha, Finset.sum_insert ha, EReal.coe_add, h]

/-- The quotient of two reals whose divisor is not zero. -/
theorem div_real (x y : ℝ) (h : y ≠ 0) : Ideal.div (x : EReal) (y : EReal) = ((x / y : ℝ) : EReal) := by
  rw [Ideal.div_coe h, ← EReal.coe_mul, mul_one_div]

/-- The image of a choice is the choice of the images. -/
theorem coe_ite (p : Prop) [Decidable p] (a b : ℝ) : ((if p then a else b : ℝ) : EReal) = if p then (a : EReal) else (b : EReal) := by
  split <;> rfl

/-- The scale is one eighth. -/
theorem c8_eq : c8 = (((1 : ℝ) / 8 : ℝ) : EReal) := by
  unfold c8
  simp [Ideal.ofBits, Ideal.ieee, -EReal.coe_mul]; norm_num

/-- The masked score is a real number. -/
theorem low_eq : ∃ x : ℝ, low = (x : EReal) := by
  unfold low
  simp [Ideal.ofBits, Ideal.ieee, -EReal.coe_mul]
  exact ⟨_, (EReal.coe_neg _).symm⟩

/-- The softmax of scores of which some are forbidden, taken against real values: the quotient of
    the sums of unshifted exponentials over the allowed ones. -/
theorem soft_sum {ι : Type*} [Fintype ι] (s x : ι → ℝ) (ok : ι → Prop) [DecidablePred ok] (i₀ : ι) (h₀ : ok i₀) (l : ι → EReal)
    (hl : ∀ i, l i = if ok i then (s i : EReal) else ⊥) :
    ∑ i, Ideal.div (Ideal.exp (l i - Finset.univ.sup l)) (∑ w, Ideal.exp (l w - Finset.univ.sup l)) * (x i : EReal)
      = (((∑ i, if ok i then Real.exp (s i) * x i else 0) / (∑ i, if ok i then Real.exp (s i) else 0) : ℝ) : EReal) := by
  classical
  obtain ⟨k, -, hk⟩ := Finset.exists_mem_eq_sup Finset.univ ⟨i₀, Finset.mem_univ _⟩ l
  have hok : ok k := by
    by_contra hn
    have h1 : l i₀ ≤ Finset.univ.sup l := Finset.le_sup (Finset.mem_univ _)
    rw [hk, hl k, if_neg hn, hl i₀, if_pos h₀] at h1
    exact absurd h1 (not_le.2 (EReal.bot_lt_coe _))
  have hM : Finset.univ.sup l = (s k : EReal) := by rw [hk, hl k, if_pos hok]
  rw [hM]
  have he : ∀ i, Ideal.exp (l i - (s k : EReal)) = ((if ok i then Real.exp (s i - s k) else 0 : ℝ) : EReal) := by
    intro i
    rw [hl i]
    split
    · rw [← EReal.coe_sub]; rfl
    · rw [EReal.bot_sub]; rfl
  simp only [he]
  rw [← coe_sum]
  have hpos : ∀ f : ι → ℝ, (0 : ℝ) < ∑ w, if ok w then Real.exp (f w) else 0 := fun f =>
    Finset.sum_pos' (fun i _ => by split <;> positivity) ⟨i₀, Finset.mem_univ _, by rw [if_pos h₀]; positivity⟩
  simp only [div_real _ _ (hpos fun w => s w - s k).ne', ← EReal.coe_mul]
  rw [← coe_sum]
  congr 1
  have hs : ∀ i, (if ok i then Real.exp (s i - s k) else 0) = (if ok i then Real.exp (s i) else 0) * Real.exp (-s k) := by
    intro i; split
    · rw [← Real.exp_add, sub_eq_add_neg]
    · rw [zero_mul]
  simp only [hs]
  rw [← Finset.sum_mul, Finset.sum_div]
  refine Finset.sum_congr rfl fun i _ => ?_
  have hp := hpos s
  have hx := Real.exp_pos (-s k)
  rw [mul_div_mul_right _ _ hx.ne']
  split
  · rw [div_mul_eq_mul_div]
  · simp

/-- A softmax of real scores is a real family of numbers that are not negative. -/
theorem prob_real (SQ : Fin 64 → EReal) (SK : Fin 33 → Fin 64 → EReal) (u : Fin 32) (sq : Fin 64 → ℝ) (sk : Fin 33 → Fin 64 → ℝ)
    (hq : ∀ d, SQ d = (sq d : EReal)) (hk : ∀ v d, SK v d = (sk v d : EReal)) :
    ∃ p : Fin 33 → ℝ, ∀ v, prob SQ SK u v = (p v : EReal) := by
  obtain ⟨lo, hlo⟩ := low_eq
  have hs : ∀ v, score SQ SK u v = ((if v.val ≤ u.val then (∑ d, sq d * sk v d) * (1 / 8) else lo : ℝ) : EReal) := by
    intro v
    unfold score
    rw [coe_ite, EReal.coe_mul, coe_sum, c8_eq, hlo]
    simp only [EReal.coe_mul, hq, hk]
  obtain ⟨k, -, hk'⟩ := Finset.exists_mem_eq_sup Finset.univ ⟨(0 : Fin 33), Finset.mem_univ _⟩ (score SQ SK u)
  have hs' : ∀ v, score SQ SK u v = ((fun v : Fin 33 => (if v.val ≤ u.val then (∑ d, sq d * sk v d) * (1 / 8) else lo : ℝ)) v : EReal) := hs
  generalize (fun v : Fin 33 => (if v.val ≤ u.val then (∑ d, sq d * sk v d) * (1 / 8) else lo : ℝ)) = f at hs'
  refine ⟨fun v => if v.val < u.val then Real.exp (f v - f k) / ∑ w, Real.exp (f w - f k) else 0, fun v => ?_⟩
  unfold prob
  rw [hk']
  simp only [hs']
  have he : ∀ w, Ideal.exp ((f w : EReal) - (f k : EReal)) = ((Real.exp (f w - f k) : ℝ) : EReal) := fun w => by
    rw [← EReal.coe_sub]; rfl
  simp only [he]
  rw [← coe_sum, div_real _ _ (Finset.sum_pos (fun i _ => Real.exp_pos _) ⟨0, Finset.mem_univ _⟩).ne', coe_ite]
  rfl

/-- The scale of the queries, as a real. -/
theorem qs_eq : qs = (((1 / 8) * (Real.log 2)⁻¹ : ℝ) : EReal) := by
  unfold qs
  exact IdealRules.named_const.ideal_named_scalar _ _ _ _ rfl

/-- The kernel's weight of a key: the power of 2 of the scaled product is the exponential of the
    product over eight. -/
theorem ex2_dot (q k : Fin 64 → ℝ) :
    ex2 (∑ d : Fin 64, (q d : EReal) * qs * (k d : EReal)) = ((Real.exp ((∑ d, q d * k d) * (1 / 8)) : ℝ) : EReal) := by
  rw [qs_eq]
  simp only [← EReal.coe_mul]
  rw [← coe_sum]
  show ((Real.rpow 2 _ : ℝ) : EReal) = _
  congr 1
  show (2 : ℝ) ^ (_ : ℝ) = _
  rw [Real.rpow_def_of_pos (by norm_num)]
  congr 1
  rw [Finset.mul_sum, Finset.sum_mul]
  refine Finset.sum_congr rfl fun d _ => ?_
  have : Real.log 2 ≠ 0 := (Real.log_pos (by norm_num)).ne'
  field_simp

end Cert.Proof

end
-- ==== Proof.KRoute.lean ====
module

public import proofs.«01_k».proof.Proof.Model
public import Idealize.ShloMosaic.Lib.Pointwise

@[expose] public section

noncomputable section

namespace Cert.Proof

open Cert.KernelIdeal Cert.KernelIdeal.Gen
open Idealize.ShloMosaic Idealize.SL.Sem

/-- 32 rows of 64 values. -/
abbrev Rows := FVec Ideal S32x64 .f32

/-- 32 rows one below the other. -/
def rowsOf (g : Fin 32 → FVec Ideal S1x64 .f32) : Rows :=
  concatenate S32x64 0 (List.ofFn fun u : Fin 32 => (⟨S1x64, g u⟩ : (s : Shape) × (s.Idx → Ideal .f32))) concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S32x64_d0

/-- The sum of a bucket's rows. -/
def colSum (x : Cell) : FVec Ideal S1x64 .f32 :=
  shapeCast S1x64 (multiReduction .add [0] S64 x 0x00000000#32 reduces_S128x64_S64 (.inl rfl) rfl) shapeCasts_S64_S1x64

/-- Rows moved down by 1, with zeros above. -/
def sh1 (x : Rows) : Rows := concatenate S32x64 0 [⟨S1x64, broadcast S1x64 (Scalar.ofBits (F := Ideal) .f32 0x00000000#32)⟩, ⟨S31x64, extractStridedSlice S31x64 ![0, 0] x slices_S32x64_o0_0_S31x64⟩] concatenates_S1x64_S31x64_S32x64_d0
/-- Rows moved down by 2. -/
def sh2 (x : Rows) : Rows := concatenate S32x64 0 [⟨S2x64, broadcast S2x64 (Scalar.ofBits (F := Ideal) .f32 0x00000000#32)⟩, ⟨S30x64, extractStridedSlice S30x64 ![0, 0] x slices_S32x64_o0_0_S30x64⟩] concatenates_S2x64_S30x64_S32x64_d0
/-- Rows moved down by 4. -/
def sh4 (x : Rows) : Rows := concatenate S32x64 0 [⟨S4x64, broadcast S4x64 (Scalar.ofBits (F := Ideal) .f32 0x00000000#32)⟩, ⟨S28x64, extractStridedSlice S28x64 ![0, 0] x slices_S32x64_o0_0_S28x64⟩] concatenates_S4x64_S28x64_S32x64_d0
/-- Rows moved down by 8. -/
def sh8 (x : Rows) : Rows := concatenate S32x64 0 [⟨S8x64, broadcast S8x64 (Scalar.ofBits (F := Ideal) .f32 0x00000000#32)⟩, ⟨S24x64, extractStridedSlice S24x64 ![0, 0] x slices_S32x64_o0_0_S24x64⟩] concatenates_S8x64_S24x64_S32x64_d0
/-- Rows moved down by 16. -/
def sh16 (x : Rows) : Rows := concatenate S32x64 0 [⟨S16x64, broadcast S16x64 (Scalar.ofBits (F := Ideal) .f32 0x00000000#32)⟩, ⟨S16x64, extractStridedSlice S16x64 ![0, 0] x slices_S32x64_o0_0_S16x64⟩] concatenates_S16x64_S16x64_S32x64_d0

/-- The first of five steps: `x` added to itself moved down. -/
def s1 (x : Rows) : Rows := addf x (sh1 x)
/-- The second step. -/
def s2 (x : Rows) : Rows := addf x (sh2 x)
/-- The third step. -/
def s4 (x : Rows) : Rows := addf x (sh4 x)
/-- The fourth step. -/
def s8 (x : Rows) : Rows := addf x (sh8 x)
/-- The fifth step. -/
def s16 (x : Rows) : Rows := addf x (sh16 x)

/-- The sums of the rows before each. -/
def scan (x : Rows) : Rows := s16 (s8 (s4 (s2 (s1 (sh1 x)))))

/-- The routing weights from a bucket's query and key sums. -/
def rzOf (SQ : Rows) (SK : Rows) : FVec Ideal S32x33 .f32 :=
  let sc := select (cmpi .sle (iota .tc S32x33 32 [1] iota_S32x33_d1_w32) (iota .tc S32x33 32 [0] iota_S32x33_d0_w32))
    (mulf (matmul dot_S32x64_S33x64_S32x33_1_1_0_0_n_n none SQ
      (concatenate S33x64 0 [⟨S1x64, broadcast S1x64 (Scalar.ofBits (F := Ideal) .f32 0x00000000#32)⟩, ⟨S32x64, SK⟩] concatenates_S1x64_S32x64_S33x64_d0)
      (constant S32x33 .f32 0x00000000#32)) (broadcast S32x33 (Scalar.ofBits (F := Ideal) .f32 0x3E000000#32)))
    (broadcast S32x33 (Scalar.ofBits (F := Ideal) .f32 0xFF7FFFFF#32))
  let ex := exp (subf sc (broadcastTo S32x33 (shapeCast S32x1 (multiReduction .maximumf [1] S32 sc 0xFF800000#32 reduces_S32x33_S32 (.inl rfl) rfl) shapeCasts_S32_S32x1) broadcasts_S32x1_S32x33))
  select (cmpi .slt (iota .tc S32x33 32 [1] iota_S32x33_d1_w32) (iota .tc S32x33 32 [0] iota_S32x33_d0_w32))
    (divf ex (broadcastTo S32x33 (shapeCast S32x1 (multiReduction .add [1] S32 ex 0x00000000#32 reduces_S32x33_S32 (.inl rfl) rfl) shapeCasts_S32_S32x1) broadcasts_S32x1_S32x33))
    (broadcast S32x33 (Scalar.ofBits (F := Ideal) .f32 0x00000000#32))

variable {c : Dev nD} (E : Env c)

/-- Bucket `u` of the table of tail weights. -/
def wC (u : Fin 32) : Cell :=
  shapeCast S128x64 (View.readAt (Elt Ideal) E.M1.view (Rect.unit (s := S4096x64) ![128 * u.val, 0] S128x64.size (inb_bucket2 u)).toLoadRect E.f1 : FVec Ideal S128x64 .f32) shapeCasts_S128x64_S128x64

/-- The table of the sums of a bucket's weights. -/
def aC : Rows :=
  shapeCast S32x64 (View.readAt (Elt Ideal) E.M2.view (Rect.unit (s := S32x64) ![0, 0] S32x64.size inb_S32x64_S32x64_0_0).toLoadRect E.f2 : FVec Ideal S32x64 .f32) shapeCasts_S32x64_S32x64

/-- The sums of each bucket of queries. -/
def qSum (half : Fin 2) : Rows := rowsOf fun u => colSum (qC E half u)
/-- The sums of each bucket of keys. -/
def kSum (half : Fin 2) : Rows := rowsOf fun u => colSum (kC E half u)
/-- The sums of each bucket of keys times their weights. -/
def kWSum (half : Fin 2) : Rows := rowsOf fun u => colSum (mulf (kC E half u) (wC E u))
/-- The first query of each bucket. -/
def qFirst (half : Fin 2) : Rows := rowsOf fun u => extractStridedSlice S1x64 ![0, 0] (qC E half u) slices_S128x64_o0_0_S1x64

/-- The query of each bucket for the routing: the average of the queries up to its first. -/
def sq (half : Fin 2) : Rows := divf (addf (scan (qSum E half)) (qFirst E half)) k0_pay11

/-- The key of each bucket for the routing. -/
def sk (half : Fin 2) : Rows := addf (mulf (scan (kSum E half)) (aC E)) (kWSum E half)

/-- The first half's routing weights come of its queries and keys. -/
theorem Rz_eq0 : Rz E 0 = rzOf (sq E 0) (sk E 0) := rfl
/-- The second half's routing weights come of its queries and keys. -/
theorem Rz_eq1 : Rz E 1 = rzOf (sq E 1) (sk E 1) := rfl

/-- A half's routing weights come of its queries and keys. -/
theorem Rz_eq (half : Fin 2) : Rz E half = rzOf (sq E half) (sk E half) := by
  fin_cases half
  · exact Rz_eq0 E
  · exact Rz_eq1 E

end Cert.Proof

end
-- ==== Proof.KScan.lean ====
module

public import proofs.«01_k».proof.Proof.KRoute

@[expose] public section

noncomputable section

namespace Cert.Proof

open Cert.KernelIdeal Cert.KernelIdeal.Gen
open Idealize.ShloMosaic Idealize.SL.Sem

/-- Stacked rows, index by index. -/
theorem rowsOf_apply (g : Fin 32 → FVec Ideal S1x64 .f32) (u : Fin 32) (d : Fin 64) : rowsOf g (ix2 u d) = g u (ix2 0 d) := by
  refine concatenate_ofFn_apply (t := S32x64) (s₁ := S1x64) 0 g _ rfl 1 rfl (ix2 u d) u (Nat.div_one _) (ix2 0 d) (Nat.mod_one _).symm ?_
  intro a ha; fin_cases a
  · exact absurd rfl ha
  · rfl

/-- The sum of a bucket's rows, lane by lane. -/
theorem colSum_apply (x : Cell) (d : Fin 64) : colSum x (ix2 0 d) = ∑ r : Fin 128, x (ix2 r d) := by
  pointwise [colSum]

/-- Rows moved down by 1, index by index. -/
theorem sh1_apply (x : Rows) (u : Fin 32) (d : Fin 64) : sh1 x (ix2 u d) = if h : u.val < 1 then 0 else x (ix2 ⟨u.val - 1, by omega⟩ d) := by
  pointwise [sh1]
/-- Rows moved down by 2, index by index. -/
theorem sh2_apply (x : Rows) (u : Fin 32) (d : Fin 64) : sh2 x (ix2 u d) = if h : u.val < 2 then 0 else x (ix2 ⟨u.val - 2, by omega⟩ d) := by
  pointwise [sh2]
/-- Rows moved down by 4, index by index. -/
theorem sh4_apply (x : Rows) (u : Fin 32) (d : Fin 64) : sh4 x (ix2 u d) = if h : u.val < 4 then 0 else x (ix2 ⟨u.val - 4, by omega⟩ d) := by
  pointwise [sh4]
/-- Rows moved down by 8, index by index. -/
theorem sh8_apply (x : Rows) (u : Fin 32) (d : Fin 64) : sh8 x (ix2 u d) = if h : u.val < 8 then 0 else x (ix2 ⟨u.val - 8, by omega⟩ d) := by
  pointwise [sh8]
/-- Rows moved down by 16, index by index. -/
theorem sh16_apply (x : Rows) (u : Fin 32) (d : Fin 64) : sh16 x (ix2 u d) = if h : u.val < 16 then 0 else x (ix2 ⟨u.val - 16, by omega⟩ d) := by
  pointwise [sh16]

/-- Row `w` of `x`, and 0 past the last. -/
def rowAt (x : Rows) (d : Fin 64) (w : Nat) : EReal := if h : w < 32 then x (ix2 ⟨w, h⟩ d) else 0

/-- The sum of the `n` rows before row `u`. -/
def win (x : Rows) (d : Fin 64) (n u : Nat) : EReal := ∑ i ∈ Finset.range n, if i + 1 ≤ u then rowAt x d (u - 1 - i) else 0

/-- A window twice as long is two windows. -/
theorem win_add (x : Rows) (d : Fin 64) (n u : Nat) : win x d (n + n) u = win x d n u + if u < n then 0 else win x d n (u - n) := by
  unfold win
  rw [Finset.sum_range_add]
  congr 1
  split
  · exact Finset.sum_eq_zero fun i _ => if_neg (by omega)
  · refine Finset.sum_congr rfl fun i _ => ?_
    by_cases h : i + 1 ≤ u - n
    · rw [if_pos h, if_pos (by omega)]; congr 1; omega
    · rw [if_neg h, if_neg (by omega)]

/-- The five steps give the sum of the rows before each. -/
theorem scan_apply (x : Rows) (u : Fin 32) (d : Fin 64) : scan x (ix2 u d) = ∑ w ∈ Finset.range u.val, rowAt x d w := by
  have e1 : ∀ u : Fin 32, sh1 x (ix2 u d) = win x d 1 u.val := by
    intro u
    rw [sh1_apply]
    unfold win
    rw [Finset.sum_range_one]
    by_cases h : u.val < 1
    · rw [dif_pos h, if_neg (by omega)]
    · rw [dif_neg h, if_pos (by omega)]; unfold rowAt; rw [dif_pos (by omega)]; rfl
  have step : ∀ (n : Nat) (y z : Rows) (_ : ∀ u : Fin 32, y (ix2 u d) = win x d n u.val)
      (_ : ∀ u : Fin 32, z (ix2 u d) = y (ix2 u d) + if h : u.val < n then 0 else y (ix2 ⟨u.val - n, by omega⟩ d)),
      ∀ u : Fin 32, z (ix2 u d) = win x d (n + n) u.val := by
    intro n y z hy hz u
    rw [hz, hy, win_add]
    congr 1
    by_cases h : u.val < n
    · rw [dif_pos h, if_pos h]
    · rw [dif_neg h, if_neg h, hy]
  have e2 := step 1 _ (s1 (sh1 x)) e1 (fun u => by pointwise [s1]; rw [sh1_apply (sh1 x)])
  have e4 := step 2 _ (s2 (s1 (sh1 x))) e2 (fun u => by pointwise [s2]; rw [sh2_apply])
  have e8 := step 4 _ (s4 (s2 (s1 (sh1 x)))) e4 (fun u => by pointwise [s4]; rw [sh4_apply])
  have e16 := step 8 _ (s8 (s4 (s2 (s1 (sh1 x))))) e8 (fun u => by pointwise [s8]; rw [sh8_apply])
  have e32 := step 16 _ (s16 (s8 (s4 (s2 (s1 (sh1 x)))))) e16 (fun u => by pointwise [s16]; rw [sh16_apply])
  unfold scan
  rw [e32]
  unfold win
  have h32 : u.val ≤ 16 + 16 := by omega
  rw [← Finset.sum_subset (Finset.range_mono h32) (fun i _ hi => if_neg (by simpa using hi))]
  rw [← Finset.sum_range_reflect (fun w => rowAt x d w)]
  refine Finset.sum_congr rfl fun i hi => ?_
  rw [if_pos (by have := Finset.mem_range.1 hi; omega)]

/-- The word of a bucket's first position, counted from 1. -/
theorem posn_word : ∀ u : Fin 32, IntOp.addi (IntOp.muli (BitVec.ofNat 32 u.val) 128#32) 1#32 = BitVec.ofNat 32 (128 * u.val + 1) := by decide

/-- The float of a bucket's first position, counted from 1. -/
theorem posn_apply (u : Fin 32) (d : Fin 64) : k0_pay11 (F := Ideal) (ix2 u d) = ((128 * u.val + 1 : ℕ) : ℝ) := by
  pointwise [k0_pay11]
  rw [posn_word, sitofp_nat _ (by omega)]

end Cert.Proof

end
-- ==== Proof.KBlk.lean ====
module

public import proofs.«01_k».proof.Proof.KRun
public import proofs.«01_k».proof.Proof.KScan
public import Idealize.ShloMosaic.Lib.IdealHost
public import Idealize.ShloMosaic.Lib.Pipeline.ValueKit
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices at each point: batch `t / 8`, head `t % 8` of each half. -/
theorem idx : ∀ t : Fin cfg0.N, win0_0.index t = ![0, 0] ∧ win0_1.index t = ![0, 0]
    ∧ win0_2.index t = ![t.val / 8, 0, t.val % 8, 0, 0] ∧ win0_3.index t = ![t.val / 8, 0, t.val % 8, 0, 0]
    ∧ win0_4.index t = ![t.val / 8, 0, t.val % 8, 0, 0] ∧ win0_5.index t = ![0, t.val % 8, 0, 0] ∧ win0_6.index t = ![0, t.val % 8, 0, 0]
    ∧ win0_7.index t = ![t.val / 8, 0, t.val % 8, 0, 0] ∧ t.val < 16 :=
  (by decide +kernel : ∀ t : Fin grid0.N, _)

/-- The bucket tails of the table of reciprocals, as the host computes it: at bucket `u` and row
    `r`, the sum over the rows from `r` on of one over the row's position. -/
def tails : FVec Ideal S32x128 .f32 :=
  Host.reduceAdd
    (select (cmpi CmpIPredicate.sge (iotaInDim S32x128x128 32 2) (iotaInDim S32x128x128 32 1))
      (broadcastInDim S32x128x128 ![0, 1, 2] bcast_S32x1x128_S32x128x128_0_1_2
        (broadcastInDim S32x1x128 ![0, 2] bcast_S32x128_S32x1x128_0_2
          (Host.divf (broadcastInDim S32x128 ![] bcast_S_S32x128 (constant (F := Ideal) S_ FTy.f32 1065353216#32))
            (addf (shapeCast S32x128 (sitofp (F := Ideal) FTy.f32 (iotaInDim S4096 32 0)) shapeCasts_S4096_S32x128)
              (broadcastInDim S32x128 ![] bcast_S_S32x128 (constant (F := Ideal) S_ FTy.f32 1065353216#32))))))
      (broadcastInDim S32x128x128 ![] bcast_S_S32x128x128 (constant (F := Ideal) S_ FTy.f32 0#32)))
    (constant (F := Ideal) S_ FTy.f32 0#32) reducesTo_S32x128x128_S32x128_d2 h_S_

/-- The region finds `main_v17` as argument 0 with its heads split in two halves. -/
theorem V17 (c : Dev nD) : (V m c main_v17 : FVec Ideal S2x2x8x4096x64 .f32) = shapeCast _ (m ((c : Thread nD τ).loc main_arg0) : FVec Ideal S2x16x4096x64 .f32) shapeCasts_S2x16x4096x64_S2x2x8x4096x64 := by
  show StableHlo.after (List.flatten [hostOps0, hostOps0_1, hostOps0_2]) (fun b => m (c, b)) (Proc.devRef .tc main_v17) = _
  simp only [hostOps0, hostOps0_1, hostOps0_2, List.flatten_cons, List.flatten_nil, List.append_nil, List.cons_append, List.nil_append]
  entry_read
  rfl

/-- The region finds `main_v18` as argument 1 with its heads split in two halves. -/
theorem V18 (c : Dev nD) : (V m c main_v18 : FVec Ideal S2x2x8x4096x64 .f32) = shapeCast _ (m ((c : Thread nD τ).loc main_arg1) : FVec Ideal S2x16x4096x64 .f32) shapeCasts_S2x16x4096x64_S2x2x8x4096x64 := by
  show StableHlo.after (List.flatten [hostOps0, hostOps0_1, hostOps0_2]) (fun b => m (c, b)) (Proc.devRef .tc main_v18) = _
  simp only [hostOps0, hostOps0_1, hostOps0_2, List.flatten_cons, List.flatten_nil, List.append_nil, List.cons_append, List.nil_append]
  entry_read
  rfl

/-- The region finds `main_v19` as argument 2 with its heads split in two halves. -/
theorem V19 (c : Dev nD) : (V m c main_v19 : FVec Ideal S2x2x8x4096x64 .f32) = shapeCast _ (m ((c : Thread nD τ).loc main_arg2) : FVec Ideal S2x16x4096x64 .f32) shapeCasts_S2x16x4096x64_S2x2x8x4096x64 := by
  show StableHlo.after (List.flatten [hostOps0, hostOps0_1, hostOps0_2]) (fun b => m (c, b)) (Proc.devRef .tc main_v19) = _
  simp only [hostOps0, hostOps0_1, hostOps0_2, List.flatten_cons, List.flatten_nil, List.append_nil, List.cons_append, List.nil_append]
  entry_read
  rfl

/-- The region finds `main_v20` as argument 3 with its heads split in two halves. -/
theorem V20 (c : Dev nD) : (V m c main_v20 : FVec Ideal S2x8x1x64 .f32) = shapeCast _ (m ((c : Thread nD τ).loc main_arg3) : FVec Ideal S16x1x64 .f32) shapeCasts_S16x1x64_S2x8x1x64 := by
  show StableHlo.after (List.flatten [hostOps0, hostOps0_1, hostOps0_2]) (fun b => m (c, b)) (Proc.devRef .tc main_v20) = _
  simp only [hostOps0, hostOps0_1, hostOps0_2, List.flatten_cons, List.flatten_nil, List.append_nil, List.cons_append, List.nil_append]
  entry_read
  rfl

/-- The region finds `main_v21` as argument 4 with its heads split in two halves. -/
theorem V21 (c : Dev nD) : (V m c main_v21 : FVec Ideal S2x8x1x64 .f32) = shapeCast _ (m ((c : Thread nD τ).loc main_arg4) : FVec Ideal S16x1x64 .f32) shapeCasts_S16x1x64_S2x8x1x64 := by
  show StableHlo.after (List.flatten [hostOps0, hostOps0_1, hostOps0_2]) (fun b => m (c, b)) (Proc.devRef .tc main_v21) = _
  simp only [hostOps0, hostOps0_1, hostOps0_2, List.flatten_cons, List.flatten_nil, List.append_nil, List.cons_append, List.nil_append]
  entry_read
  rfl

/-- The region finds `main_v14` as the tails. -/
theorem V14 (c : Dev nD) : (V m c main_v14 : FVec Ideal S4096x64 .f32) = broadcastInDim S4096x64 ![0, 1] bcast_S4096x1_S4096x64_0_1 (shapeCast _ tails shapeCasts_S32x128_S4096x1) := by
  show StableHlo.after (List.flatten [hostOps0, hostOps0_1, hostOps0_2]) (fun b => m (c, b)) (Proc.devRef .tc main_v14) = _
  simp only [hostOps0, hostOps0_1, hostOps0_2, List.flatten_cons, List.flatten_nil, List.append_nil, List.cons_append, List.nil_append]
  entry_read
  rfl

/-- The region finds `main_v16` as the tails. -/
theorem V16 (c : Dev nD) : (V m c main_v16 : FVec Ideal S32x64 .f32) = broadcastInDim S32x64 ![0, 1] bcast_S32x1_S32x64_0_1 (extractStridedSlice S32x1 ![0, 0] tails slices_S32x128_S32x1_0_0) := by
  show StableHlo.after (List.flatten [hostOps0, hostOps0_1, hostOps0_2]) (fun b => m (c, b)) (Proc.devRef .tc main_v16) = _
  simp only [hostOps0, hostOps0_1, hostOps0_2, List.flatten_cons, List.flatten_nil, List.append_nil, List.cons_append, List.nil_append]
  entry_read
  rfl

/-- Where the block of window 2 at point `t` lies in its array. -/
theorem emb2 (t : Fin cfg0.N) (half : Fin 2) (r : Fin 4096) (d : Fin 64) :
    ((cfg0.win 2).blk t).view.emb (ix5 0 half 0 r d) = (ix5 ⟨t.val / 8, by have := (idx t).2.2.2.2.2.2.2.2; omega⟩ half ⟨t.val % 8, by omega⟩ r d : S2x2x8x4096x64.Idx) := by
  blk_ext [idx t]

/-- Where the block of window 3 at point `t` lies in its array. -/
theorem emb3 (t : Fin cfg0.N) (half : Fin 2) (r : Fin 4096) (d : Fin 64) :
    ((cfg0.win 3).blk t).view.emb (ix5 0 half 0 r d) = (ix5 ⟨t.val / 8, by have := (idx t).2.2.2.2.2.2.2.2; omega⟩ half ⟨t.val % 8, by omega⟩ r d : S2x2x8x4096x64.Idx) := by
  blk_ext [idx t]

/-- Where the block of window 4 at point `t` lies in its array. -/
theorem emb4 (t : Fin cfg0.N) (half : Fin 2) (r : Fin 4096) (d : Fin 64) :
    ((cfg0.win 4).blk t).view.emb (ix5 0 half 0 r d) = (ix5 ⟨t.val / 8, by have := (idx t).2.2.2.2.2.2.2.2; omega⟩ half ⟨t.val % 8, by omega⟩ r d : S2x2x8x4096x64.Idx) := by
  blk_ext [idx t]

/-- Where the block of window 7 at point `t` lies in its array. -/
theorem emb7 (t : Fin cfg0.N) (half : Fin 2) (r : Fin 4096) (d : Fin 64) :
    ((cfg0.win 7).blk t).view.emb (ix5 0 half 0 r d) = (ix5 ⟨t.val / 8, by have := (idx t).2.2.2.2.2.2.2.2; omega⟩ half ⟨t.val % 8, by omega⟩ r d : S2x2x8x4096x64.Idx) := by
  blk_ext [idx t]

/-- Where the block of window 5 at point `t` lies in its array. -/
theorem emb5 (t : Fin cfg0.N) (half : Fin 2) (d : Fin 64) :
    ((cfg0.win 5).blk t).view.emb (ix4 half 0 0 d) = (ix4 half ⟨t.val % 8, by omega⟩ 0 d : S2x8x1x64.Idx) := by
  blk_ext [idx t]

/-- Where the block of window 6 at point `t` lies in its array. -/
theorem emb6 (t : Fin cfg0.N) (half : Fin 2) (d : Fin 64) :
    ((cfg0.win 6).blk t).view.emb (ix4 half 0 0 d) = (ix4 half ⟨t.val % 8, by omega⟩ 0 d : S2x8x1x64.Idx) := by
  blk_ext [idx t]

/-- The block of window 0 is its whole array. -/
theorem emb0 (t : Fin cfg0.N) (r : Fin 4096) (d : Fin 64) : ((cfg0.win 0).blk t).view.emb (ix2 r d) = (ix2 r d : S4096x64.Idx) := by
  blk_ext [idx t]

/-- The block of window 1 is its whole array. -/
theorem emb1 (t : Fin cfg0.N) (u : Fin 32) (d : Fin 64) : ((cfg0.win 1).blk t).view.emb (ix2 u d) = (ix2 u d : S32x64.Idx) := by
  blk_ext [idx t]

/-- An argument with its heads split, at an index. -/
theorem split_apply (x : FVec Ideal S2x16x4096x64 .f32) (b : Fin 2) (half : Fin 2) (h : Fin 8) (r : Fin 4096) (d : Fin 64) :
    shapeCast S2x2x8x4096x64 x shapeCasts_S2x16x4096x64_S2x2x8x4096x64 (ix5 b half h r d) = x (ix4 b ⟨half.val * 8 + h.val, by omega⟩ r d) := by
  pointwise

/-- The null rows with their heads split in two halves, index by index. -/
theorem splitN_apply (x : FVec Ideal S16x1x64 .f32) (half : Fin 2) (h : Fin 8) (d : Fin 64) :
    shapeCast S2x8x1x64 x shapeCasts_S16x1x64_S2x8x1x64 (ix4 half h 0 d) = x (ix3 ⟨half.val * 8 + h.val, by omega⟩ 0 d) := by
  pointwise

/-- The block of argument 0 the body reads at point `t`. -/
theorem blk2 (c : Dev nD) (t : Fin cfg0.N) (half : Fin 2) (r : Fin 4096) (d : Fin 64) :
    (iblk m c 2 t : FVec Ideal S1x2x1x4096x64 .f32) (ix5 0 half 0 r d)
      = (m ((c : Thread nD τ).loc main_arg0) : FVec Ideal S2x16x4096x64 .f32) (ix4 ⟨t.val / 8, by have := (idx t).2.2.2.2.2.2.2.2; omega⟩ ⟨half.val * 8 + t.val % 8, by omega⟩ r d) := by
  have e : (iblk m c 2 t : FVec Ideal S1x2x1x4096x64 .f32) (ix5 0 half 0 r d)
      = (V m c main_v17 : FVec Ideal S2x2x8x4096x64 .f32) (ix5 ⟨t.val / 8, by have := (idx t).2.2.2.2.2.2.2.2; omega⟩ half ⟨t.val % 8, by omega⟩ r d) :=
    congrArg (V m c main_v17 : FVec Ideal S2x2x8x4096x64 .f32) (emb2 t half r d)
  rw [e, V17, split_apply]

/-- The block of argument 1 the body reads at point `t`. -/
theorem blk3 (c : Dev nD) (t : Fin cfg0.N) (half : Fin 2) (r : Fin 4096) (d : Fin 64) :
    (iblk m c 3 t : FVec Ideal S1x2x1x4096x64 .f32) (ix5 0 half 0 r d)
      = (m ((c : Thread nD τ).loc main_arg1) : FVec Ideal S2x16x4096x64 .f32) (ix4 ⟨t.val / 8, by have := (idx t).2.2.2.2.2.2.2.2; omega⟩ ⟨half.val * 8 + t.val % 8, by omega⟩ r d) := by
  have e : (iblk m c 3 t : FVec Ideal S1x2x1x4096x64 .f32) (ix5 0 half 0 r d)
      = (V m c main_v18 : FVec Ideal S2x2x8x4096x64 .f32) (ix5 ⟨t.val / 8, by have := (idx t).2.2.2.2.2.2.2.2; omega⟩ half ⟨t.val % 8, by omega⟩ r d) :=
    congrArg (V m c main_v18 : FVec Ideal S2x2x8x4096x64 .f32) (emb3 t half r d)
  rw [e, V18, split_apply]

/-- The block of argument 2 the body reads at point `t`. -/
theorem blk4 (c : Dev nD) (t : Fin cfg0.N) (half : Fin 2) (r : Fin 4096) (d : Fin 64) :
    (iblk m c 4 t : FVec Ideal S1x2x1x4096x64 .f32) (ix5 0 half 0 r d)
      = (m ((c : Thread nD τ).loc main_arg2) : FVec Ideal S2x16x4096x64 .f32) (ix4 ⟨t.val / 8, by have := (idx t).2.2.2.2.2.2.2.2; omega⟩ ⟨half.val * 8 + t.val % 8, by omega⟩ r d) := by
  have e : (iblk m c 4 t : FVec Ideal S1x2x1x4096x64 .f32) (ix5 0 half 0 r d)
      = (V m c main_v19 : FVec Ideal S2x2x8x4096x64 .f32) (ix5 ⟨t.val / 8, by have := (idx t).2.2.2.2.2.2.2.2; omega⟩ half ⟨t.val % 8, by omega⟩ r d) :=
    congrArg (V m c main_v19 : FVec Ideal S2x2x8x4096x64 .f32) (emb4 t half r d)
  rw [e, V19, split_apply]

/-- The block of argument 3 the body reads at point `t`. -/
theorem blk5 (c : Dev nD) (t : Fin cfg0.N) (half : Fin 2) (d : Fin 64) :
    (iblk m c 5 t : FVec Ideal S2x1x1x64 .f32) (ix4 half 0 0 d)
      = (m ((c : Thread nD τ).loc main_arg3) : FVec Ideal S16x1x64 .f32) (ix3 ⟨half.val * 8 + t.val % 8, by omega⟩ 0 d) := by
  have e : (iblk m c 5 t : FVec Ideal S2x1x1x64 .f32) (ix4 half 0 0 d)
      = (V m c main_v20 : FVec Ideal S2x8x1x64 .f32) (ix4 half ⟨t.val % 8, by omega⟩ 0 d) :=
    congrArg (V m c main_v20 : FVec Ideal S2x8x1x64 .f32) (emb5 t half d)
  rw [e, V20, splitN_apply]

/-- The block of argument 4 the body reads at point `t`. -/
theorem blk6 (c : Dev nD) (t : Fin cfg0.N) (half : Fin 2) (d : Fin 64) :
    (iblk m c 6 t : FVec Ideal S2x1x1x64 .f32) (ix4 half 0 0 d)
      = (m ((c : Thread nD τ).loc main_arg4) : FVec Ideal S16x1x64 .f32) (ix3 ⟨half.val * 8 + t.val % 8, by omega⟩ 0 d) := by
  have e : (iblk m c 6 t : FVec Ideal S2x1x1x64 .f32) (ix4 half 0 0 d)
      = (V m c main_v21 : FVec Ideal S2x8x1x64 .f32) (ix4 half ⟨t.val % 8, by omega⟩ 0 d) :=
    congrArg (V m c main_v21 : FVec Ideal S2x8x1x64 .f32) (emb6 t half d)
  rw [e, V21, splitN_apply]

/-- A table of 32 by 128 spread over 4096 rows of 64 lanes, index by index. -/
theorem spread_apply (x : FVec Ideal S32x128 .f32) (u : Fin 32) (r : Fin 128) (d : Fin 64) :
    broadcastInDim S4096x64 ![0, 1] bcast_S4096x1_S4096x64_0_1 (shapeCast _ x shapeCasts_S32x128_S4096x1) (ix2 ⟨128 * u.val + r.val, by omega⟩ d) = x (ix2 u r) := by
  pointwise

/-- The first column of such a table spread over 64 lanes. -/
theorem spread1_apply (x : FVec Ideal S32x128 .f32) (u : Fin 32) (d : Fin 64) :
    broadcastInDim S32x64 ![0, 1] bcast_S32x1_S32x64_0_1 (extractStridedSlice S32x1 ![0, 0] x slices_S32x128_S32x1_0_0) (ix2 u d) = x (ix2 u 0) := by
  pointwise

/-- The table of tails the body reads. -/
theorem blk0 (c : Dev nD) (t : Fin cfg0.N) (u : Fin 32) (r : Fin 128) (d : Fin 64) :
    (iblk m c 0 t : FVec Ideal S4096x64 .f32) (ix2 ⟨128 * u.val + r.val, by omega⟩ d) = tails (ix2 u r) := by
  have e : (iblk m c 0 t : FVec Ideal S4096x64 .f32) (ix2 ⟨128 * u.val + r.val, by omega⟩ d) = (V m c main_v14 : FVec Ideal S4096x64 .f32) (ix2 ⟨128 * u.val + r.val, by omega⟩ d) :=
    congrArg (V m c main_v14 : FVec Ideal S4096x64 .f32) (emb0 t _ d)
  rw [e, V14, spread_apply]

/-- The table of whole sums the body reads. -/
theorem blk1 (c : Dev nD) (t : Fin cfg0.N) (u : Fin 32) (d : Fin 64) :
    (iblk m c 1 t : FVec Ideal S32x64 .f32) (ix2 u d) = tails (ix2 u 0) := by
  have e : (iblk m c 1 t : FVec Ideal S32x64 .f32) (ix2 u d) = (V m c main_v16 : FVec Ideal S32x64 .f32) (ix2 u d) :=
    congrArg (V m c main_v16 : FVec Ideal S32x64 .f32) (emb1 t u d)
  rw [e, V16, spread1_apply]

/-- The sum over the last axis, from zero. -/
theorem sum128 (w : FVec Ideal S32x128x128 .f32) (u : Fin 32) (r : Fin 128) :
    Host.reduceAdd w (constant (F := Ideal) S_ FTy.f32 0#32) reducesTo_S32x128x128_S32x128_d2 h_S_ (ix2 u r) = ∑ i : Fin 128, w (ix3 u r i) := by
  pointwise

/-- Comparing the words of two rows. -/
theorem host_sge : ∀ r i : Fin 128, IntOp.cmpi CmpIPredicate.sge (BitVec.ofNat 32 i.val) (BitVec.ofNat 32 r.val) = if r.val ≤ i.val then 1#1 else 0#1 := by
  decide +kernel

/-- The table kept where the position is not before the row, zero elsewhere. -/
theorem sel_apply (x : FVec Ideal S32x128 .f32) (z : FVec Ideal S_ .f32) (u : Fin 32) (r i : Fin 128) :
    select (cmpi CmpIPredicate.sge (iotaInDim S32x128x128 32 2) (iotaInDim S32x128x128 32 1))
      (broadcastInDim S32x128x128 ![0, 1, 2] bcast_S32x1x128_S32x128x128_0_1_2
        (broadcastInDim S32x1x128 ![0, 2] bcast_S32x128_S32x1x128_0_2 x))
      (broadcastInDim S32x128x128 ![] bcast_S_S32x128x128 z) (ix3 u r i) = if r.val ≤ i.val then x (ix2 u i) else z ix0 := by
  pointwise
  rw [host_sge, select_ite]

/-- The reciprocal of a position's count. -/
theorem recip_apply (u : Fin 32) (i : Fin 128) :
    Host.divf (broadcastInDim S32x128 ![] bcast_S_S32x128 (constant (F := Ideal) S_ FTy.f32 1065353216#32))
            (addf (shapeCast S32x128 (sitofp (F := Ideal) FTy.f32 (iotaInDim S4096 32 0)) shapeCasts_S4096_S32x128)
              (broadcastInDim S32x128 ![] bcast_S_S32x128 (constant (F := Ideal) S_ FTy.f32 1065353216#32))) (ix2 u i)
     = Ideal.div 1 ((((128 * u.val + i.val + 1 : ℕ) : ℝ) : EReal)) := by
  pointwise
  rw [sitofp_nat _ (by omega), ← EReal.coe_one, ← EReal.coe_add]
  congr 2
  push_cast
  ring

/-- The tails, at an index. -/
theorem tails_apply (u : Fin 32) (r : Fin 128) :
    tails (ix2 u r) = ∑ i : Fin 128, if r.val ≤ i.val then Ideal.div 1 ((((128 * u.val + i.val + 1 : ℕ) : ℝ) : EReal)) else 0 := by
  unfold tails
  rw [sum128]
  refine Finset.sum_congr rfl fun i _ => ?_
  rw [sel_apply, recip_apply]
  refine if_congr Iff.rfl rfl ?_
  exact Ideal.ofBits_zero_f32

end Cert.Proof

end
-- ==== Proof.RefRot.lean ====
module

public import proofs.«01_k».proof.Proof.Gen.ReferenceIdeal.Read
public import proofs.«01_k».proof.Proof.Spec
public import Idealize.ShloMosaic.Lib.Pointwise

@[expose] public section

noncomputable section

namespace Cert.Proof

open Cert.ReferenceIdeal Cert.ReferenceIdeal.Read
open Idealize.ShloMosaic

/-- Position `t` of head `h` after the second half of the heads is rotated left by 127. -/
def rot16 (h t : Nat) : Nat := if h < 8 then t else (t + 127) % 4096

/-- A rotated position is a position. -/
theorem rot16_lt {h t : Nat} (ht : t < 4096) : rot16 h t < 4096 := by unfold rot16; split <;> omega

/-- The second half of the heads rotated left, index by index. -/
theorem v23_apply (x : (⟨S2x16x4096x64, .f32⟩ : BufTy).Contents (Elt Ideal)) (b : Fin 2) (h : Fin 8) (t : Fin 4096) (d : Fin 64) :
    val_main_v23 (F := Ideal) x (ix4 b h t d) = x (ix4 b ⟨8 + h.val, by omega⟩ ⟨(t.val + 127) % 4096, by omega⟩ d) := by
  by_cases ht : t.val < 3969
  · rw [show (⟨(t.val + 127) % 4096, by omega⟩ : Fin 4096) = ⟨127 + t.val, by omega⟩ from Fin.ext (by show (t.val + 127) % 4096 = 127 + t.val; omega)]
    pointwise [val_main_v23, val_main_v21, val_main_v19, ht]
  · rw [show (⟨(t.val + 127) % 4096, by omega⟩ : Fin 4096) = ⟨t.val - 3969, by omega⟩ from Fin.ext (by show (t.val + 127) % 4096 = t.val - 3969; omega)]
    pointwise [val_main_v23, val_main_v22, val_main_v19, ht]

/-- All heads, index by index. -/
theorem v24_apply (x : (⟨S2x16x4096x64, .f32⟩ : BufTy).Contents (Elt Ideal)) (b : Fin 2) (h : Fin 16) (t : Fin 4096) (d : Fin 64) :
    val_main_v24 (F := Ideal) x (ix4 b h t d) = x (ix4 b h ⟨rot16 h.val t.val, rot16_lt t.isLt⟩ d) := by
  by_cases hh : h.val < 8
  · simp only [rot16, if_pos hh]
    pointwise [val_main_v24, val_main_v20, hh]
  · simp only [rot16, if_neg hh]
    have e := v23_apply x b ⟨h.val - 8, by omega⟩ t d
    rw [show (⟨8 + (⟨h.val - 8, by omega⟩ : Fin 8).val, by omega⟩ : Fin 16) = h from Fin.ext (by show 8 + (h.val - 8) = h.val; omega)] at e
    rw [← e]
    unfold val_main_v24
    generalize val_main_v23 (F := Ideal) x = y
    pointwise [val_main_v20, hh]

/-- The keys are rotated as the queries are. -/
theorem v30_eq : val_main_v30 (F := Ideal) = val_main_v24 (F := Ideal) := rfl
/-- The values are rotated as the queries are. -/
theorem v36_eq : val_main_v36 (F := Ideal) = val_main_v24 (F := Ideal) := rfl

end Cert.Proof

end
-- ==== Proof.RefSum.lean ====
module

public import proofs.«01_k».proof.Proof.Spec
public import Idealize.ShloMosaic.Lib.Pointwise

@[expose] public section

noncomputable section

namespace Cert.Proof

open Idealize.ShloMosaic

/-- A running sum from `v` is `v` and the sum. -/
theorem foldl_sum {ι : Type} (l : List ι) (g : ι → EReal) (v : EReal) : l.foldl (fun r n => r + g n) v = v + (l.map g).sum := by
  induction l generalizing v with
  | nil => simp
  | cons a l ih => simp only [List.foldl_cons, List.map_cons, List.sum_cons]; rw [ih, add_assoc]

/-- A window that reaches `M` back and stops at `t` takes the terms up to `t`. -/
theorem window_sum (f : Nat → EReal) (M t : Nat) (ht : t ≤ M) :
    (∑ k : Fin (M + 1), if M ≤ t + k.val then f (t + k.val - M) else 0) = ∑ s ∈ Finset.range (t + 1), f s := by
  rw [Fin.sum_univ_eq_sum_range (fun k => if M ≤ t + k then f (t + k - M) else 0) (M + 1)]
  rw [show M + 1 = (M - t) + (t + 1) by omega, Finset.sum_range_add]
  rw [Finset.sum_eq_zero fun k hk => if_neg (by have := Finset.mem_range.1 hk; omega), zero_add]
  refine Finset.sum_congr rfl fun s _ => ?_
  rw [if_pos (by omega)]
  congr 1; omega

/-- The positions of a window that is one wide but along axis 2. -/
def wIdx2 (N : Nat) : (⟨4, ![1, 1, N, 1]⟩ : Shape).Idx ≃ Fin N where
  toFun w := w 2
  invFun k := ix4 0 0 k 0
  left_inv w := by
    funext a; fin_cases a
    · exact Subsingleton.elim (α := Fin 1) _ _
    · exact Subsingleton.elim (α := Fin 1) _ _
    · rfl
    · exact Subsingleton.elim (α := Fin 1) _ _
  right_inv k := rfl

/-- The same along axis 3. -/
def wIdx3 (N : Nat) : (⟨4, ![1, 1, 1, N]⟩ : Shape).Idx ≃ Fin N where
  toFun w := w 3
  invFun k := ix4 0 0 0 k
  left_inv w := by
    funext a; fin_cases a
    · exact Subsingleton.elim (α := Fin 1) _ _
    · exact Subsingleton.elim (α := Fin 1) _ _
    · exact Subsingleton.elim (α := Fin 1) _ _
    · rfl
  right_inv k := rfl

/-- A running sum along axis 2 is the sum of a prefix. -/
theorem cumsum4_2 {A B M C : Nat} (x : FVec Ideal ⟨4, ![A, B, M + 1, C]⟩ .f32) (init : FVec Ideal ⟨0, ![]⟩ .f32) (hinit : ∀ i, init i = (0 : EReal))
    (h : (⟨4, ![A, B, M + 1, C]⟩ : Shape).ReduceWindows ![1, 1, M + 1, 1] ![1, 1, 1, 1] ![0, 0, M, 0] ![0, 0, 0, 0] ⟨4, ![A, B, M + 1, C]⟩)
    (hu : 0 < (⟨0, ![]⟩ : Shape).numel) (f : Nat → EReal) (a : Fin A) (b : Fin B) (t : Fin (M + 1)) (d : Fin C) (hx : ∀ s : Fin (M + 1), x (ix4 a b s d) = f s.val) :
    Host.reduceWindowAdd (F := Ideal) ![1, 1, M + 1, 1] ![1, 1, 1, 1] ![0, 0, M, 0] ![0, 0, 0, 0] x init h hu (ix4 a b t d)
      = ∑ s ∈ Finset.range (t.val + 1), f s := by
  unfold Host.reduceWindowAdd
  rw [Ideal.hostReduceWindowAdd_def]
  unfold Ideal.hostReduceWindowAdd Host.reduceWindow
  refine (foldl_sum _ _ _).trans ?_
  rw [hinit, zero_add, ← List.ofFn_eq_map, List.sum_ofFn]
  refine Eq.trans ?_ (window_sum f M t.val (by omega))
  refine Fintype.sum_equiv ((Shape.rowMajor _).symm.trans (wIdx2 (M + 1))) _ _ fun n => ?_
  let w : (⟨4, ![1, 1, M + 1, 1]⟩ : Shape).Idx := (⟨4, ![1, 1, M + 1, 1]⟩ : Shape).rowMajor.symm n
  have e0 : (w 0).val = 0 := by have : (w 0).val < 1 := (w 0).isLt; omega
  have e1 : (w 1).val = 0 := by have : (w 1).val < 1 := (w 1).isLt; omega
  have e3 : (w 3).val = 0 := by have : (w 3).val < 1 := (w 3).isLt; omega
  have hn : (w 2).val < M + 1 := (w 2).isLt
  have ht := t.isLt
  show _ = if M ≤ t.val + (w 2).val then f (t.val + (w 2).val - M) else 0
  split
  · next hin =>
    have h2 : M ≤ t.val * 1 + (w 2).val ∧ t.val * 1 + (w 2).val - M < M + 1 := hin 2
    rw [if_pos (by omega)]
    refine (congrArg x ?_).trans (hx ⟨t.val + (w 2).val - M, by omega⟩)
    funext c; refine Fin.ext ?_; fin_cases c
    · show a.val * 1 + (w 0).val - 0 = a.val; omega
    · show b.val * 1 + (w 1).val - 0 = b.val; omega
    · show t.val * 1 + (w 2).val - M = t.val + (w 2).val - M; omega
    · show d.val * 1 + (w 3).val - 0 = d.val; omega
  · next hin =>
    rw [if_neg]
    intro hle
    refine hin fun c => ?_
    have ha := a.isLt; have hb := b.isLt; have hd := d.isLt
    fin_cases c
    · show 0 ≤ a.val * 1 + (w 0).val ∧ a.val * 1 + (w 0).val - 0 < A; omega
    · show 0 ≤ b.val * 1 + (w 1).val ∧ b.val * 1 + (w 1).val - 0 < B; omega
    · show M ≤ t.val * 1 + (w 2).val ∧ t.val * 1 + (w 2).val - M < M + 1; omega
    · show 0 ≤ d.val * 1 + (w 3).val ∧ d.val * 1 + (w 3).val - 0 < C; omega

/-- A running sum along axis 3 is the sum of a prefix. -/
theorem cumsum4_3 {A B C M : Nat} (x : FVec Ideal ⟨4, ![A, B, C, M + 1]⟩ .f32) (init : FVec Ideal ⟨0, ![]⟩ .f32) (hinit : ∀ i, init i = (0 : EReal))
    (h : (⟨4, ![A, B, C, M + 1]⟩ : Shape).ReduceWindows ![1, 1, 1, M + 1] ![1, 1, 1, 1] ![0, 0, 0, M] ![0, 0, 0, 0] ⟨4, ![A, B, C, M + 1]⟩)
    (hu : 0 < (⟨0, ![]⟩ : Shape).numel) (f : Nat → EReal) (a : Fin A) (b : Fin B) (d : Fin C) (t : Fin (M + 1)) (hx : ∀ s : Fin (M + 1), x (ix4 a b d s) = f s.val) :
    Host.reduceWindowAdd (F := Ideal) ![1, 1, 1, M + 1] ![1, 1, 1, 1] ![0, 0, 0, M] ![0, 0, 0, 0] x init h hu (ix4 a b d t)
      = ∑ s ∈ Finset.range (t.val + 1), f s := by
  unfold Host.reduceWindowAdd
  rw [Ideal.hostReduceWindowAdd_def]
  unfold Ideal.hostReduceWindowAdd Host.reduceWindow
  refine (foldl_sum _ _ _).trans ?_
  rw [hinit, zero_add, ← List.ofFn_eq_map, List.sum_ofFn]
  refine Eq.trans ?_ (window_sum f M t.val (by omega))
  refine Fintype.sum_equiv ((Shape.rowMajor _).symm.trans (wIdx3 (M + 1))) _ _ fun n => ?_
  let w : (⟨4, ![1, 1, 1, M + 1]⟩ : Shape).Idx := (⟨4, ![1, 1, 1, M + 1]⟩ : Shape).rowMajor.symm n
  have e0 : (w 0).val = 0 := by have : (w 0).val < 1 := (w 0).isLt; omega
  have e1 : (w 1).val = 0 := by have : (w 1).val < 1 := (w 1).isLt; omega
  have e3 : (w 2).val = 0 := by have : (w 2).val < 1 := (w 2).isLt; omega
  have hn : (w 3).val < M + 1 := (w 3).isLt
  have ht := t.isLt
  show _ = if M ≤ t.val + (w 3).val then f (t.val + (w 3).val - M) else 0
  split
  · next hin =>
    have h2 : M ≤ t.val * 1 + (w 3).val ∧ t.val * 1 + (w 3).val - M < M + 1 := hin 3
    rw [if_pos (by omega)]
    refine (congrArg x ?_).trans (hx ⟨t.val + (w 3).val - M, by omega⟩)
    funext c; refine Fin.ext ?_; fin_cases c
    · show a.val * 1 + (w 0).val - 0 = a.val; omega
    · show b.val * 1 + (w 1).val - 0 = b.val; omega
    · show d.val * 1 + (w 2).val - 0 = d.val; omega
    · show t.val * 1 + (w 3).val - M = t.val + (w 3).val - M; omega
  · next hin =>
    rw [if_neg]
    intro hle
    refine hin fun c => ?_
    have ha := a.isLt; have hb := b.isLt; have hd := d.isLt
    fin_cases c
    · show 0 ≤ a.val * 1 + (w 0).val ∧ a.val * 1 + (w 0).val - 0 < A; omega
    · show 0 ≤ b.val * 1 + (w 1).val ∧ b.val * 1 + (w 1).val - 0 < B; omega
    · show 0 ≤ d.val * 1 + (w 2).val ∧ d.val * 1 + (w 2).val - 0 < C; omega
    · show M ≤ t.val * 1 + (w 3).val ∧ t.val * 1 + (w 3).val - M < M + 1; omega

end Cert.Proof

end
-- ==== Proof.RefAvg.lean ====
module

public import proofs.«01_k».proof.Proof.RefRot
public import proofs.«01_k».proof.Proof.RefSum
public import Idealize.ShloMosaic.Lib.IdealHost

@[expose] public section

noncomputable section

namespace Cert.Proof

open Cert.ReferenceIdeal Cert.ReferenceIdeal.Gen Cert.ReferenceIdeal.Read
open Idealize.ShloMosaic

/-- Row `t` of head `h` of batch `b`, the second half of the heads rotated. -/
def rrow (x : (⟨S2x16x4096x64, .f32⟩ : BufTy).Contents (Elt Ideal)) (b : Fin 2) (h : Fin 16) (t : Nat) (d : Fin 64) : EReal :=
  if ht : t < 4096 then x (ix4 b h ⟨rot16 h.val t, rot16_lt ht⟩ d) else 0

/-- The average of the rows up to `t`. -/
def avg (X : Nat → Fin 64 → EReal) (t : Nat) (d : Fin 64) : EReal :=
  Ideal.div (∑ s ∈ Finset.range (t + 1), X s d) (((t + 1 : ℕ) : ℝ) : EReal)

/-- The rotated argument, row by row. -/
theorem v24_row (x : (⟨S2x16x4096x64, .f32⟩ : BufTy).Contents (Elt Ideal)) (b : Fin 2) (h : Fin 16) (t : Fin 4096) (d : Fin 64) :
    val_main_v24 (F := Ideal) x (ix4 b h t d) = rrow x b h t.val d := by
  rw [v24_apply]; unfold rrow; rw [dif_pos t.isLt]

/-- The running sums, as sums. -/
theorem v40_apply (x : (⟨S2x16x4096x64, .f32⟩ : BufTy).Contents (Elt Ideal)) (b : Fin 2) (h : Fin 16) (t : Fin 4096) (d : Fin 64) :
    val_main_v40 (F := Ideal) x (ix4 b h t d) = ∑ s ∈ Finset.range (t.val + 1), rrow x b h s d := by
  unfold val_main_v40
  refine cumsum4_2 (M := 4095) _ _ (fun i => ?_) _ _ (fun s => rrow x b h s d) b h t d (fun s => v24_row x b h s d)
  exact Ideal.ofBits_zero_f32

/-- The counts. -/
theorem v39_apply (t : Fin 4096) : val_main_v39 (F := Ideal) (ix1 t) = (((t.val + 1 : ℕ) : ℝ) : EReal) := by
  rw [val_main_v39_apply, val_main_v38_apply]
  have e : val_main_v37 (F := Ideal) (ix1 t) = (((t.val : ℕ) : ℝ) : EReal) := sitofp_nat t.val (by omega)
  rw [e]
  have e1 : val_main_cst (F := Ideal) (idx_main_v38 (ix1 t)) = (1 : EReal) := Ideal.ofBits_one_f32
  rw [e1]
  show (1 : EReal) + _ = _
  push_cast
  rw [add_comm]

/-- The running averages. -/
theorem v43_apply (x : (⟨S2x16x4096x64, .f32⟩ : BufTy).Contents (Elt Ideal)) (b : Fin 2) (h : Fin 16) (t : Fin 4096) (d : Fin 64) :
    val_main_v43 (F := Ideal) x (ix4 b h t d) = avg (rrow x b h) t.val d := by
  rw [val_main_v43_apply, v40_apply, val_main_v42_apply, val_main_v41_apply]
  have e : idx_main_v41 (idx_main_v42 (ix4 b h t d)) = ix1 t := by funext a; fin_cases a; rfl
  rw [e, v39_apply]
  rfl

/-- The running averages in buckets. -/
theorem v44_apply (x : (⟨S2x16x4096x64, .f32⟩ : BufTy).Contents (Elt Ideal)) (b : Fin 2) (h : Fin 16) (u : Fin 32) (r : Fin 128) (d : Fin 64) :
    val_main_v44 (F := Ideal) x (ix5 b h u r d) = avg (rrow x b h) (128 * u.val + r.val) d := by
  rw [← v43_apply x b h ⟨128 * u.val + r.val, by omega⟩ d]
  rw [show (⟨128 * u.val + r.val, by omega⟩ : Fin 4096) = ⟨u.val * 128 + r.val, by omega⟩ from Fin.ext (by show 128 * u.val + r.val = u.val * 128 + r.val; omega)]
  unfold val_main_v44
  generalize val_main_v43 (F := Ideal) x = y
  pointwise []

/-- The averages at the first positions of the buckets. -/
theorem v46_apply (x : (⟨S2x16x4096x64, .f32⟩ : BufTy).Contents (Elt Ideal)) (b : Fin 2) (h : Fin 16) (u : Fin 32) (d : Fin 64) :
    val_main_v46 (F := Ideal) x (ix4 b h u d) = avg (rrow x b h) (128 * u.val) d := by
  refine Eq.trans ?_ (v44_apply x b h u 0 d)
  unfold val_main_v46 val_main_v45
  generalize val_main_v44 (F := Ideal) x = y
  pointwise []

/-- The keys are averaged as the queries are. -/
theorem v54_eq : val_main_v54 (F := Ideal) = val_main_v44 (F := Ideal) := rfl

/-- The sums of the averages of each bucket. -/
theorem v55_apply (x : (⟨S2x16x4096x64, .f32⟩ : BufTy).Contents (Elt Ideal)) (b : Fin 2) (h : Fin 16) (u : Fin 32) (d : Fin 64) :
    val_main_v55 (F := Ideal) x (ix4 b h u d) = ∑ r : Fin 128, avg (rrow x b h) (128 * u.val + r.val) d := by
  rw [val_main_v55_apply]
  have e : val_main_cst_5 (F := Ideal) (Shape.Idx.first h_S_) = (0 : EReal) := Ideal.ofBits_zero_f32
  rw [e, zero_add, v54_eq]
  refine Finset.sum_congr rfl fun r _ => Eq.trans (congrArg _ ?_) (v44_apply x b h u r d)
  funext a; fin_cases a <;> rfl

/-- The sums of the averaged keys of the bucket before column `v`, zero at column 0. -/
def skRef (K : Nat → Fin 64 → EReal) (v : Fin 33) (d : Fin 64) : EReal :=
  if v.val < 1 then 0 else ∑ r : Fin 128, avg K (128 * (v.val - 1) + r.val) d

/-- The same with a column of zeros before. -/
theorem v56_apply (x : (⟨S2x16x4096x64, .f32⟩ : BufTy).Contents (Elt Ideal)) (b : Fin 2) (h : Fin 16) (v : Fin 33) (d : Fin 64) :
    val_main_v56 (F := Ideal) x (ix4 b h v d) = skRef (rrow x b h) v d := by
  unfold skRef
  have hz : val_main_call2_v0 (F := Ideal) (Shape.Idx.first h_S_) = (0 : EReal) := by
    refine (sitofp_nat 0 (by omega)).trans ?_
    norm_num
  by_cases hv : v.val < 1
  · rw [if_pos hv, ← hz]
    unfold val_main_v56
    generalize val_main_v55 (F := Ideal) x = y
    generalize val_main_call2_v0 (F := Ideal) = z
    pointwise []
    rw [dif_neg (by omega)]
  · rw [if_neg hv, ← v55_apply x b h ⟨v.val - 1, by omega⟩ d]
    unfold val_main_v56
    generalize val_main_v55 (F := Ideal) x = y
    generalize val_main_call2_v0 (F := Ideal) = z
    pointwise []
    rw [dif_pos (by omega)]

end Cert.Proof

end
-- ==== Proof.Tails.lean ====
module

public import proofs.«01_k».proof.Proof.Soft
public import proofs.«01_k».proof.Proof.KBlk
public import proofs.«01_k».proof.Proof.RefAvg

@[expose] public section

noncomputable section

namespace Cert.Proof

open Idealize.ShloMosaic

/-- The sums of the first buckets are the sum of the rows before bucket `u`. -/
theorem sum_buckets {M : Type*} [AddCommMonoid M] (x : Nat → M) (u : Nat) :
    ∑ w ∈ Finset.range u, ∑ r : Fin 128, x (128 * w + r.val) = ∑ s ∈ Finset.range (128 * u), x s := by
  induction u with
  | zero => simp
  | succ u ih => rw [Finset.sum_range_succ, ih, Nat.mul_succ, Finset.sum_range_add, Finset.sum_range (n := 128)]

/-- The tail of the reciprocals of a bucket's positions, from row `r` on. -/
def tail (u r : Nat) : ℝ := ∑ i : Fin 128, if r ≤ i.val then 1 / ((128 * u + i.val + 1 : ℕ) : ℝ) else 0

/-- The kernel's table of tails is the table of `tail`. -/
theorem tails_real (u : Fin 32) (r : Fin 128) : tails (ix2 u r) = ((tail u.val r.val : ℝ) : EReal) := by
  rw [tails_apply]
  unfold tail
  rw [coe_sum]
  refine Finset.sum_congr rfl fun i _ => ?_
  rw [coe_ite, ← EReal.coe_one, div_real _ _ (by positivity)]
  rfl

/-- Swapping the two sums: the averages of a bucket's rows are the total before the bucket times
    the bucket's reciprocals, and each row of the bucket times the tail from it on. -/
theorem tail_sum (x : Nat → ℝ) (u : Nat) :
    (∑ s ∈ Finset.range (128 * u), x s) * tail u 0 + ∑ r : Fin 128, x (128 * u + r.val) * tail u r.val
      = ∑ i : Fin 128, (∑ s ∈ Finset.range (128 * u + i.val + 1), x s) / ((128 * u + i.val + 1 : ℕ) : ℝ) := by
  have h1 : ∀ i : Fin 128, ∑ s ∈ Finset.range (128 * u + i.val + 1), x s
      = (∑ s ∈ Finset.range (128 * u), x s) + ∑ r : Fin 128, if r.val ≤ i.val then x (128 * u + r.val) else 0 := by
    intro i
    rw [Nat.add_assoc, Finset.sum_range_add]
    congr 1
    rw [← Finset.sum_range (n := 128) (f := fun r => if r ≤ i.val then x (128 * u + r) else 0), ← Finset.sum_filter]
    refine Finset.sum_congr ?_ fun _ _ => rfl
    ext r
    have := i.isLt
    simp only [Finset.mem_range, Finset.mem_filter]
    omega
  simp only [h1, add_div, Finset.sum_add_distrib, tail, Finset.mul_sum, Finset.sum_div]
  congr 1
  · refine Finset.sum_congr rfl fun i _ => ?_
    rw [if_pos (Nat.zero_le _), mul_one_div]
    exact Finset.sum_div _ _ _
  · rw [Finset.sum_comm]
    refine Finset.sum_congr rfl fun i _ => Finset.sum_congr rfl fun r _ => ?_
    split <;> simp [div_eq_mul_inv]

/-- The average of real rows. -/
theorem avg_real (X : Nat → Fin 64 → EReal) (x : Nat → Fin 64 → ℝ) (hx : ∀ t d, X t d = (x t d : EReal)) (t : Nat) (d : Fin 64) :
    avg X t d = (((∑ s ∈ Finset.range (t + 1), x s d) / ((t + 1 : ℕ) : ℝ) : ℝ) : EReal) := by
  unfold avg
  simp only [hx]
  rw [← coe_sum, div_real _ _ (by positivity)]

end Cert.Proof

end
-- ==== Proof.KRead.lean ====
module

public import proofs.«01_k».proof.Proof.Model
public import Idealize.ShloMosaic.Lib.Pointwise

@[expose] public section

noncomputable section

namespace Cert.Proof

open Cert.KernelIdeal Cert.KernelIdeal.Gen
open Idealize.ShloMosaic Idealize.SL.Sem

variable {c : Dev nD} (E : Env c)

/-- Row `t` of a half of the result, counted from the first row of its first bucket. -/
def rowOf (half : Fin 2) (t : Nat) (ht : t < 4096) (d : Fin 64) : EReal :=
  cell E half ⟨t / 128, by omega⟩ (ix2 ⟨t % 128, by omega⟩ d)

/-- Equal positions have equal rows of the result. -/
theorem rowOf_congr (half : Fin 2) {t t' : Nat} (ht : t < 4096) (ht' : t' < 4096) (d : Fin 64) (h : t = t') :
    rowOf E half t ht d = rowOf E half t' ht' d := by subst h; rfl

/-- Eight buckets are 1024 rows of the result. -/
theorem eight_apply (half : Fin 2) (b : Fin 4) (r : Fin 1024) (d : Fin 64) :
    eight E half b (ix3 0 r d) = rowOf E half (1024 * b.val + r.val) (by omega) d := by
  unfold eight
  generalize hC : concatenate S1024x64 0 (List.ofFn fun w : Fin 8 => (⟨S128x64, cell E half ⟨8 * b.val + w.val, by omega⟩⟩ : (s : Shape) × (s.Idx → Ideal .f32)))
      concatenates_S128x64_S128x64_S128x64_S128x64_S128x64_S128x64_S128x64_S128x64_S1024x64_d0 = C
  pointwise
  subst hC
  refine (concatenate_ofFn_apply (t := S1024x64) (s₁ := S128x64) 0 (fun w : Fin 8 => cell E half ⟨8 * b.val + w.val, by omega⟩) _ rfl 128 rfl (ix2 r d) (⟨r.val / 128, by omega⟩ : Fin 8) rfl (ix2 ⟨r.val % 128, by omega⟩ d) rfl ?_).trans ?_
  · intro a ha; fin_cases a
    · exact absurd rfl ha
    · rfl
  · unfold rowOf
    have e1 : (⟨8 * b.val + r.val / 128, by omega⟩ : Fin 32) = ⟨(1024 * b.val + r.val) / 128, by omega⟩ := Fin.ext (by
      show 8 * b.val + r.val / 128 = (1024 * b.val + r.val) / 128; omega)
    have e2 : (⟨r.val % 128, by omega⟩ : Fin 128) = ⟨(1024 * b.val + r.val) % 128, by omega⟩ := Fin.ext (by
      show r.val % 128 = (1024 * b.val + r.val) % 128; omega)
    exact congrArg₂ (fun (z : Fin 32) (w : Fin 128) => cell E half z (ix2 w d)) e1 e2

/-- The row of its half a position holds: the second half lies 127 places further on. -/
def unrot (half : Fin 2) (p : Nat) : Nat := if half.val = 0 then p else (p + 3969) % 4096

/-- A position rotated back is a position. -/
theorem unrot_lt (half : Fin 2) (p : Nat) (hp : p < 4096) : unrot half p < 4096 := by unfold unrot; split <;> omega

/-- What a store of 1024 rows writes. -/
theorem pay1_apply (half : Fin 2) (b : Fin 4) (r : Fin 1024) (d : Fin 64) :
    k0_pay1 (F := Ideal) (eight E half b) (ix5 0 0 0 r d) = rowOf E half (1024 * b.val + r.val) (by omega) d := by
  rw [← eight_apply]
  pointwise [k0_pay1]

/-- What the store of the 897 rows before the end writes. -/
theorem pay2_apply (r : Fin 897) (d : Fin 64) :
    k0_pay2 (F := Ideal) (eight E 1 3) (ix5 0 0 0 r d) = rowOf E 1 (3072 + r.val) (by omega) d := by
  refine Eq.trans ?_ (eight_apply E 1 3 ⟨r.val, by omega⟩ d)
  pointwise [k0_pay2]

/-- What the store of the last 127 rows writes. -/
theorem pay3_apply (r : Fin 127) (d : Fin 64) :
    k0_pay3 (F := Ideal) (eight E 1 3) (ix5 0 0 0 r d) = rowOf E 1 (3969 + r.val) (by omega) d := by
  refine Eq.trans ?_ ((eight_apply E 1 3 ⟨897 + r.val, by omega⟩ d).trans (rowOf_congr _ _ _ _ _ ?_))
  · pointwise [k0_pay3]
  · show 1024 * 3 + (897 + r.val) = _; omega

/-- What the body leaves at a position of its result block. -/
def atPos (y : S1x2x1x4096x64.Idx) : EReal :=
  rowOf E (y 1) (unrot (y 1) (y 3).val) (unrot_lt _ _ (y 3).isLt) (y 4)

/-- The row of the result that stands at a position. -/
theorem atPos_of (half : Fin 2) (t : Nat) (ht : t < 4096) (d : Fin 64) (y : S1x2x1x4096x64.Idx)
    (h1 : y 1 = half) (h3 : unrot half (y 3).val = t) (h4 : y 4 = d) : rowOf E half t ht d = atPos E y := by
  subst h1 h3 h4; rfl

/-- A piece holding consecutive rows of a half, written where those rows belong. -/
theorem piece_ok (half : Fin 2) (o n t₀ : Nat) (hn : t₀ + n ≤ 4096)
    (inb : ∀ a, (![0, half.val, 0, o, 0] : Fin 5 → Nat) a + (![1, 1, 1, n, 64] : Fin 5 → Nat) a ≤ S1x2x1x4096x64.size a)
    (P : (⟨5, ![1, 1, 1, n, 64]⟩ : Shape).Idx → EReal)
    (hP : ∀ (r : Fin n) (d : Fin 64), P (ix5 0 0 0 r d) = rowOf E half (t₀ + r.val) (by omega) d)
    (hu : ∀ r, r < n → unrot half (o + r) = t₀ + r) (x : (⟨5, ![1, 1, 1, n, 64]⟩ : Shape).Idx) :
    P x = atPos E ((Rect.unit (s := S1x2x1x4096x64) ![0, half.val, 0, o, 0] ![1, 1, 1, n, 64] inb).emb x) := by
  obtain ⟨r, d, rfl⟩ : ∃ (r : Fin n) (d : Fin 64), x = ix5 (0 : Fin 1) (0 : Fin 1) (0 : Fin 1) r d :=
    ⟨x 3, x 4, by
      funext a; match a with
      | 0 => exact Subsingleton.elim (α := Fin 1) _ _
      | 1 => exact Subsingleton.elim (α := Fin 1) _ _
      | 2 => exact Subsingleton.elim (α := Fin 1) _ _
      | 3 => rfl
      | 4 => rfl⟩
  refine (hP r d).trans (atPos_of E _ _ _ _ _ (Fin.ext ?_) ?_ (Fin.ext ?_))
  · show half.val + 1 * 0 = half.val; omega
  · show unrot half (o + 1 * r.val) = _
    rw [Nat.one_mul]; exact hu _ r.isLt
  · show 0 + 1 * d.val = d.val; omega

/-- The pieces together write every position. -/
theorem pieces_read (y : S1x2x1x4096x64.Idx) : View.canon (Val := Elt Ideal) (e := .f32) (pieces E) y = atPos E y := by
  refine View.canon_apply_of_pieces (Val := Elt Ideal) (e := .f32) (atPos E) _ ?_ y ?_
  · unfold pieces
    simp only [List.forall_mem_cons, List.not_mem_nil, false_imp_iff, forall_const, implies_true, and_true, IsEmpty.forall_iff]
    refine ⟨?_, ?_, ?_, ?_, ?_, ?_, ?_, ?_, ?_⟩
    · exact piece_ok E 1 0 127 3969 (by omega) _ _ (pay3_apply E) (fun r h => by show (0 + r + 3969) % 4096 = _; omega)
    · exact piece_ok E 1 3199 897 3072 (by omega) _ _ (pay2_apply E) (fun r h => by show (3199 + r + 3969) % 4096 = _; omega)
    · exact piece_ok E 0 3072 1024 3072 (by omega) _ _ (pay1_apply E 0 3) (fun r h => rfl)
    · exact piece_ok E 1 2175 1024 2048 (by omega) _ _ (pay1_apply E 1 2) (fun r h => by show (2175 + r + 3969) % 4096 = _; omega)
    · exact piece_ok E 0 2048 1024 2048 (by omega) _ _ (pay1_apply E 0 2) (fun r h => rfl)
    · exact piece_ok E 1 1151 1024 1024 (by omega) _ _ (pay1_apply E 1 1) (fun r h => by show (1151 + r + 3969) % 4096 = _; omega)
    · exact piece_ok E 0 1024 1024 1024 (by omega) _ _ (pay1_apply E 0 1) (fun r h => rfl)
    · exact piece_ok E 1 127 1024 0 (by omega) _ _ (pay1_apply E 1 0) (fun r h => by show (127 + r + 3969) % 4096 = _; omega)
    · exact piece_ok E 0 0 1024 0 (by omega) _ _ (pay1_apply E 0 0) (fun r h => rfl)
  · have h0 : (y 0).val < 1 := (y 0).isLt
    have h1 : (y 1).val < 2 := (y 1).isLt
    have h2 : (y 2).val < 1 := (y 2).isLt
    have h3 : (y 3).val < 4096 := (y 3).isLt
    have h4 : (y 4).val < 64 := (y 4).isLt
    have key : ∀ (half : Nat) (o n : Nat) (inb), (y 1).val = half → o ≤ (y 3).val → (y 3).val < o + n →
        y ∈ (Rect.unit (s := S1x2x1x4096x64) ![0, half, 0, o, 0] ![1, 1, 1, n, 64] inb).set := by
      intro half o n inb e1 lo hi
      refine Rect.mem_set_unit.mpr fun a => ?_
      match a with
      | 0 => exact ⟨Nat.zero_le _, by show (y 0).val < 0 + 1; omega⟩
      | 1 => exact ⟨by show half ≤ (y 1).val; omega, by show (y 1).val < half + 1; omega⟩
      | 2 => exact ⟨Nat.zero_le _, by show (y 2).val < 0 + 1; omega⟩
      | 3 => exact ⟨lo, hi⟩
      | 4 => exact ⟨Nat.zero_le _, by show (y 4).val < 0 + 64; omega⟩
    have pick : ∀ k (hk : k < (pieces E).length), y ∈ ((pieces E)[k]).1.set → ∃ p ∈ pieces E, y ∈ p.1.set :=
      fun k hk h => ⟨_, List.getElem_mem hk, h⟩
    have hl : (pieces E).length = 9 := rfl
    by_cases hh : (y 1).val = 0
    · rcases (by omega : (y 3).val < 1024 ∨ (1024 ≤ (y 3).val ∧ (y 3).val < 2048) ∨ (2048 ≤ (y 3).val ∧ (y 3).val < 3072) ∨ 3072 ≤ (y 3).val) with h | h | h | h
      · exact pick 8 (by omega) (key 0 0 1024 inb_S1x2x1x4096x64_S1x1x1x1024x64_0_0_0_0_0 hh (by omega) (by omega))
      · exact pick 6 (by omega) (key 0 1024 1024 inb_S1x2x1x4096x64_S1x1x1x1024x64_0_0_0_1024_0 hh (by omega) (by omega))
      · exact pick 4 (by omega) (key 0 2048 1024 inb_S1x2x1x4096x64_S1x1x1x1024x64_0_0_0_2048_0 hh (by omega) (by omega))
      · exact pick 2 (by omega) (key 0 3072 1024 inb_S1x2x1x4096x64_S1x1x1x1024x64_0_0_0_3072_0 hh (by omega) (by omega))
    · have hh : (y 1).val = 1 := by omega
      rcases (by omega : (y 3).val < 127 ∨ (127 ≤ (y 3).val ∧ (y 3).val < 1151) ∨ (1151 ≤ (y 3).val ∧ (y 3).val < 2175) ∨ (2175 ≤ (y 3).val ∧ (y 3).val < 3199) ∨ 3199 ≤ (y 3).val) with h | h | h | h | h
      · exact pick 0 (by omega) (key 1 0 127 inb_S1x2x1x4096x64_S1x1x1x127x64_0_1_0_0_0 hh (by omega) (by omega))
      · exact pick 7 (by omega) (key 1 127 1024 inb_S1x2x1x4096x64_S1x1x1x1024x64_0_1_0_127_0 hh (by omega) (by omega))
      · exact pick 5 (by omega) (key 1 1151 1024 inb_S1x2x1x4096x64_S1x1x1x1024x64_0_1_0_1151_0 hh (by omega) (by omega))
      · exact pick 3 (by omega) (key 1 2175 1024 inb_S1x2x1x4096x64_S1x1x1x1024x64_0_1_0_2175_0 hh (by omega) (by omega))
      · exact pick 1 (by omega) (key 1 3199 897 inb_S1x2x1x4096x64_S1x1x1x897x64_0_1_0_3199_0 hh (by omega) (by omega))

/-- What is read from a buffer after the pieces are written. -/
theorem outBlk_read (E : Env c) (M8 : Memref sig .tc .vmem S1x2x1x4096x64 .f32) (y : S1x2x1x4096x64.Idx) :
    M8.view.read (Elt Ideal) (M8.view.writes (Elt Ideal) M8.view.junk (pieces E)) y = atPos E y := by
  rw [View.read_writes_junk_eq_canon]; exact pieces_read E y

end Cert.Proof

end
-- ==== Proof.KLoad.lean ====
module

public import proofs.«01_k».proof.Proof.KRead

@[expose] public section

noncomputable section

namespace Cert.Proof

open Cert.KernelIdeal Cert.KernelIdeal.Gen
open Idealize.ShloMosaic Idealize.SL.Sem

variable {c : Dev nD}

/-- Where row `t` of a half lies in the array: the second half begins 127 places on. -/
def rot (half : Fin 2) (t : Nat) : Nat := if half.val = 0 then t else (t + 127) % 4096

/-- A rotated position is a position. -/
theorem rot_lt (half : Fin 2) (t : Nat) (ht : t < 4096) : rot half t < 4096 := by unfold rot; split <;> omega

/-- Row `t`, lane `d` of a half of a block. -/
def row (x : FVec Ideal S1x2x1x4096x64 .f32) (half : Fin 2) (t : Nat) (ht : t < 4096) (d : Fin 64) : EReal :=
  x (ix5 0 half 0 ⟨rot half t, rot_lt half t ht⟩ d)

/-- Equal positions have equal rows. -/
theorem row_congr (x : FVec Ideal S1x2x1x4096x64 .f32) (half : Fin 2) {t t' : Nat} (ht : t < 4096) (ht' : t' < 4096) (d : Fin 64)
    (h : t = t') : row x half t ht d = row x half t' ht' d := by subst h; rfl

/-- A bucket loaded from a block, index by index. -/
theorem cast128 (L : FVec Ideal S1x1x1x128x64 .f32) (r : Fin 128) (d : Fin 64) :
    shapeCast S128x64 L shapeCasts_S1x1x1x128x64_S128x64 (ix2 r d) = L (ix5 0 0 0 r d) := by pointwise

/-- A bucket of the first half, loaded. -/
theorem load5 (M : Memref sig .tc .vmem S1x2x1x4096x64 .f32) (f : Bf c M) (x : FVec Ideal S1x2x1x4096x64 .f32)
    (hf : M.view.read (Elt Ideal) f = x) (o : Nat) (off : Fin 5 → Nat) (hoff : off = ![0, 0, 0, o, 0])
    (inb : ∀ a, off a + S1x1x1x128x64.size a ≤ S1x2x1x4096x64.size a) (r : Fin 128) (d : Fin 64) (ho : o + r.val < 4096) :
    shapeCast S128x64 (View.readAt (Elt Ideal) M.view (Rect.unit (s := S1x2x1x4096x64) off S1x1x1x128x64.size inb).toLoadRect f : FVec Ideal S1x1x1x128x64 .f32) shapeCasts_S1x1x1x128x64_S128x64 (ix2 r d)
      = row x 0 (o + r.val) ho d := by
  subst hoff hf
  rw [cast128]
  show M.view.read (Elt Ideal) f _ = M.view.read (Elt Ideal) f _
  congr 1
  funext a
  refine Fin.ext ?_
  match a with
  | 0 => rfl
  | 1 => rfl
  | 2 => rfl
  | 3 => show o + 1 * r.val = rot 0 (o + r.val); rw [Nat.one_mul]; rfl
  | 4 => show 0 + 1 * d.val = d.val; omega

/-- The first stretch of the staging copy, index by index. -/
theorem stage3969 (L : FVec Ideal S1x1x1x3969x64 .f32) (h1) (h2) (r : Fin 3969) (d : Fin 64) :
    shapeCast S3969x64 (shapeCast S3969x64 L h1) h2 (ix2 r d) = L (ix5 0 0 0 r d) := by pointwise

/-- The second stretch of the staging copy, index by index. -/
theorem stage127 (L : FVec Ideal S1x1x1x127x64 .f32) (h1) (h2) (r : Fin 127) (d : Fin 64) :
    shapeCast S127x64 (shapeCast S127x64 L h1) h2 (ix2 r d) = L (ix5 0 0 0 r d) := by pointwise

/-- The staged second half: two pieces, the rows from 127 on and the first 127 after them. -/
theorem staged (M : Memref sig .tc .vmem S1x2x1x4096x64 .f32) (f : Bf c M) (x : FVec Ideal S1x2x1x4096x64 .f32)
    (hf : M.view.read (Elt Ideal) f = x) (t : Fin 4096) (d : Fin 64) :
    View.canon (Val := Elt Ideal) (e := .f32) (bodyRun.sl.H10_2 c M f) (ix2 t d) = row x 1 t.val t.isLt d := by
  subst hf
  have h4 : ∀ (r : Fin 3969) (d : Fin 64), bodyRun.sl.v4 c M f (ix2 r d) = row (M.view.read (Elt Ideal) f) 1 r.val (by omega) d := by
    intro r d
    unfold bodyRun.sl.v4 bodyRun.sl.v1
    rw [stage3969]
    show M.view.read (Elt Ideal) f _ = M.view.read (Elt Ideal) f _
    congr 1
    funext a
    refine Fin.ext ?_
    match a with
    | 0 => rfl
    | 1 => rfl
    | 2 => rfl
    | 3 => show 127 + 1 * r.val = (r.val + 127) % 4096; omega
    | 4 => show 0 + 1 * d.val = d.val; omega
  have h9 : ∀ (r : Fin 127) (d : Fin 64), bodyRun.sl.v9 c M f (ix2 r d) = row (M.view.read (Elt Ideal) f) 1 (3969 + r.val) (by omega) d := by
    intro r d
    unfold bodyRun.sl.v9 bodyRun.sl.v6
    rw [stage127]
    show M.view.read (Elt Ideal) f _ = M.view.read (Elt Ideal) f _
    congr 1
    funext a
    refine Fin.ext ?_
    match a with
    | 0 => rfl
    | 1 => rfl
    | 2 => rfl
    | 3 => show 0 + 1 * r.val = (3969 + r.val + 127) % 4096; omega
    | 4 => show 0 + 1 * d.val = d.val; omega
  refine View.canon_apply_of_pieces (Val := Elt Ideal) (e := .f32)
    (fun y : S4096x64.Idx => row (M.view.read (Elt Ideal) f) 1 (y 0).val (y 0).isLt (y 1)) _ ?_ (ix2 t d) ?_
  · unfold bodyRun.sl.H10_2
    simp only [List.forall_mem_cons, List.not_mem_nil, false_imp_iff, forall_const, implies_true, and_true, IsEmpty.forall_iff]
    refine ⟨fun z => ?_, fun z => ?_⟩
    · obtain ⟨r, d, rfl⟩ : ∃ (r : Fin 127) (d : Fin 64), z = ix2 r d := ⟨z 0, z 1, by funext a; match a with | 0 => rfl | 1 => rfl⟩
      refine (h9 r d).trans ?_
      have e : (Rect.emb (s := S4096x64) (Rect.unit (s := S4096x64) ![3969, 0] ![127, 64] (by decide)) (ix2 r d)) 1 = d :=
        Fin.ext (by show 0 + 1 * d.val = d.val; omega)
      show _ = row _ 1 (3969 + 1 * r.val) _ _
      refine (row_congr _ _ _ _ _ (by omega)).trans (congrArg _ e.symm)
    · obtain ⟨r, d, rfl⟩ : ∃ (r : Fin 3969) (d : Fin 64), z = ix2 r d := ⟨z 0, z 1, by funext a; match a with | 0 => rfl | 1 => rfl⟩
      refine (h4 r d).trans ?_
      have e : (Rect.emb (s := S4096x64) (Rect.unit (s := S4096x64) ![0, 0] ![3969, 64] (by decide)) (ix2 r d)) 1 = d :=
        Fin.ext (by show 0 + 1 * d.val = d.val; omega)
      show _ = row _ 1 (0 + 1 * r.val) _ _
      refine (row_congr _ _ _ _ _ (by omega)).trans (congrArg _ e.symm)
  · by_cases h : t.val < 3969
    · refine ⟨(bodyRun.sl.H10_2 c M f)[1]'(show 1 < 2 by decide), List.getElem_mem _, ?_⟩
      refine (Rect.mem_set_unit (inb := inb_S4096x64_S3969x64_0_0)).mpr fun a => ?_
      match a with
      | 0 => exact ⟨Nat.zero_le _, by show t.val < 0 + 3969; omega⟩
      | 1 => exact ⟨Nat.zero_le _, by show d.val < 0 + 64; omega⟩
    · refine ⟨(bodyRun.sl.H10_2 c M f)[0]'(show 0 < 2 by decide), List.getElem_mem _, ?_⟩
      refine (Rect.mem_set_unit (inb := inb_S4096x64_S127x64_3969_0)).mpr fun a => ?_
      match a with
      | 0 => exact ⟨by show 3969 ≤ t.val; omega, by show t.val < 3969 + 127; omega⟩
      | 1 => exact ⟨Nat.zero_le _, by show d.val < 0 + 64; omega⟩

/-- The keys are staged as the queries are. -/
theorem H11_eq (M : Memref sig .tc .vmem S1x2x1x4096x64 .f32) (f : Bf c M) : bodyRun.sl.H11_2 c M f = bodyRun.sl.H10_2 c M f := rfl
/-- The values are staged as the queries are. -/
theorem H12_eq (M : Memref sig .tc .vmem S1x2x1x4096x64 .f32) (f : Bf c M) : bodyRun.sl.H12_2 c M f = bodyRun.sl.H10_2 c M f := rfl

/-- A bucket of the staged second half, loaded. -/
theorem load2 (M : Memref sig .tc .vmem S1x2x1x4096x64 .f32) (f : Bf c M) (x : FVec Ideal S1x2x1x4096x64 .f32)
    (hf : M.view.read (Elt Ideal) f = x) (N : Memref sig .tc .vmem S4096x64 .f32) (o : Nat) (off : Fin 2 → Nat) (hoff : off = ![o, 0])
    (inb : ∀ a, off a + S128x64.size a ≤ S4096x64.size a) (r : Fin 128) (d : Fin 64) (ho : o + r.val < 4096) :
    View.readAt (Elt Ideal) N.view (Rect.unit (s := S4096x64) off S128x64.size inb).toLoadRect
        (N.view.writes (Elt Ideal) N.view.junk (bodyRun.sl.H10_2 c M f)) (ix2 r d)
      = row x 1 (o + r.val) ho d := by
  subst hoff
  have e : (Rect.unit (s := S4096x64) ![o, 0] S128x64.size inb).toLoadRect.idx (ix2 r d) = ix2 ⟨o + r.val, ho⟩ d := by
    funext a
    refine Fin.ext ?_
    match a with
    | 0 => show o + 1 * r.val = o + r.val; omega
    | 1 => show 0 + 1 * d.val = d.val; omega
  rw [View.readAt_writes_junk_eq_canon]
  refine (congrArg (View.canon (Val := Elt Ideal) (e := .f32) (bodyRun.sl.H10_2 c M f)) e).trans ?_
  exact staged M f x hf ⟨o + r.val, ho⟩ d

/-- An environment whose operands' buffers hold the given arrays. -/
structure Holds (E : Env c) (x1 : FVec Ideal S4096x64 .f32) (x2 : FVec Ideal S32x64 .f32) (x3 x4 x5 : FVec Ideal S1x2x1x4096x64 .f32)
    (x6 x7 : FVec Ideal S2x1x1x64 .f32) : Prop where
  r1 : E.M1.view.read (Elt Ideal) E.f1 = x1
  r2 : E.M2.view.read (Elt Ideal) E.f2 = x2
  r3 : E.M3.view.read (Elt Ideal) E.f3 = x3
  r4 : E.M4.view.read (Elt Ideal) E.f4 = x4
  r5 : E.M5.view.read (Elt Ideal) E.f5 = x5
  r6 : E.M6.view.read (Elt Ideal) E.f6 = x6
  r7 : E.M7.view.read (Elt Ideal) E.f7 = x7

variable {E : Env c} {x1 : FVec Ideal S4096x64 .f32} {x2 : FVec Ideal S32x64 .f32} {x3 x4 x5 : FVec Ideal S1x2x1x4096x64 .f32}
    {x6 x7 : FVec Ideal S2x1x1x64 .f32} (H : Holds E x1 x2 x3 x4 x5 x6 x7)

include H

/-- A bucket of queries is 128 rows of its half. -/
theorem qC_apply (half : Fin 2) (u : Fin 32) (r : Fin 128) (d : Fin 64) :
    qC E half u (ix2 r d) = row x3 half (128 * u.val + r.val) (by omega) d := by
  fin_cases half
  · exact load5 _ _ _ H.r3 (128 * u.val) _ rfl _ r d (by omega)
  · exact load2 _ _ _ H.r3 E.M10 (128 * u.val) _ rfl _ r d (by omega)

/-- A bucket of keys is 128 rows of its half. -/
theorem kC_apply (half : Fin 2) (u : Fin 32) (r : Fin 128) (d : Fin 64) :
    kC E half u (ix2 r d) = row x4 half (128 * u.val + r.val) (by omega) d := by
  fin_cases half
  · exact load5 _ _ _ H.r4 (128 * u.val) _ rfl _ r d (by omega)
  · exact load2 _ _ _ H.r4 E.M11 (128 * u.val) _ rfl _ r d (by omega)

/-- A bucket of values is 128 rows of its half. -/
theorem vC_apply (half : Fin 2) (u : Fin 32) (r : Fin 128) (d : Fin 64) :
    vC E half u (ix2 r d) = row x5 half (128 * u.val + r.val) (by omega) d := by
  fin_cases half
  · exact load5 _ _ _ H.r5 (128 * u.val) _ rfl _ r d (by omega)
  · exact load2 _ _ _ H.r5 E.M12 (128 * u.val) _ rfl _ r d (by omega)

omit H in
/-- Every row of the null bucket is the null row. -/
theorem nul_apply (M : Memref sig .tc .vmem S2x1x1x64 .f32) (f : Bf c M) (x : FVec Ideal S2x1x1x64 .f32)
    (hf : M.view.read (Elt Ideal) f = x) (half : Fin 2) (r : Fin 128) (d : Fin 64) :
    nul M f half (ix2 r d) = x (ix4 half 0 0 d) := by
  subst hf
  have key : ∀ (off : Fin 4 → Nat) (h : Fin 2) (_ : off = ![h.val, 0, 0, 0]) (inb), k0_pay348 (F := Ideal) (View.readAt (Elt Ideal) M.view
      (Rect.unit (s := S2x1x1x64) off S1x1x1x64.size inb).toLoadRect f) (ix2 r d) = M.view.read (Elt Ideal) f (ix4 h 0 0 d) := by
    intro off h ho inb
    subst ho
    generalize hL : (View.readAt (Elt Ideal) M.view (Rect.unit (s := S2x1x1x64) ![h.val, 0, 0, 0] S1x1x1x64.size inb).toLoadRect f : FVec Ideal S1x1x1x64 .f32) = L
    pointwise [k0_pay348]
    subst hL
    show M.view.read (Elt Ideal) f _ = M.view.read (Elt Ideal) f _
    congr 1
    funext a
    refine Fin.ext ?_
    match a with
    | 0 => show h.val + 1 * 0 = h.val; omega
    | 1 => rfl
    | 2 => rfl
    | 3 => show 0 + 1 * d.val = d.val; omega
  fin_cases half
  · exact key _ 0 rfl _
  · exact key _ 1 rfl _

omit H in
/-- The word naming the chosen bucket is the least column at which the routing weights are largest. -/
theorem word_apply (half : Fin 2) (u : Fin 32) :
    word E half u = BitVec.ofNat 32 (firstTop fun k => Rz E half (ix2 u k)).val := by
  unfold word
  rw [word_eq]
  have e : (Rect.unit (s := S64x128) ![32 * half.val + u.val, 0] S1x1.size (inb_row half u)).idx (ix2 0 0)
      = ix2 ⟨32 * half.val + u.val, by omega⟩ 0 := by
    funext a
    refine Fin.ext ?_
    match a with
    | 0 => show 32 * half.val + u.val + 1 * 0 = _; rfl
    | 1 => rfl
  refine (congrArg _ e).trans ?_
  fin_cases half
  · refine Eq.trans ?_ (idxOf_apply (Rz E 0) u 0)
    pointwise [idxAll]
    skip
  · refine Eq.trans ?_ (idxOf_apply (Rz E 1) u 0)
    pointwise [idxAll]
    skip

end Cert.Proof

end
-- ==== Proof.KGather.lean ====
module

public import proofs.«01_k».proof.Proof.KLoad

@[expose] public section

noncomputable section

namespace Cert.Proof

open Cert.KernelIdeal Cert.KernelIdeal.Gen
open Idealize.ShloMosaic Idealize.SL.Sem

variable {c : Dev nD}

/-- Row `r` of entry `n` of the list (null row, bucket 0, bucket 1, …) of a half. -/
def catRow (x : FVec Ideal S1x2x1x4096x64 .f32) (xn : FVec Ideal S2x1x1x64 .f32) (half : Fin 2) (n : Fin 33) (r : Fin 128) (d : Fin 64) : EReal :=
  if n.val = 0 then xn (ix4 half 0 0 d) else row x half (128 * (n.val - 1) + r.val) (by omega) d

/-- The offset that a column's word gives in an operand's block. -/
theorem off1_of : ∀ n : Fin 33, k0_off1 (BitVec.ofNat 32 n.val) = ![0, 0, 0, 128 * (n.val - 1), 0] := by decide
/-- The offset that a column's word gives in a staged operand. -/
theorem off2_of : ∀ n : Fin 33, k0_off2 (BitVec.ofNat 32 n.val) = ![128 * (n.val - 1), 0] := by decide
/-- Whether the word names the null column. -/
theorem isZero_of : ∀ n : Fin 33, Scalar.cmpi .eq (BitVec.ofNat 32 n.val) 0#32 = if n.val = 0 then 1#1 else 0#1 := by decide

/-- A row of the bucket that a column's word names, in the first half. -/
theorem gaA_apply (M : Memref sig .tc .vmem S1x2x1x4096x64 .f32) (f : Bf c M) (x : FVec Ideal S1x2x1x4096x64 .f32)
    (hf : M.view.read (Elt Ideal) f = x) (w : BitVec 32) (hw : w.toNat ≤ 32) (n : Fin 33) (e : w = BitVec.ofNat 32 n.val) (r : Fin 128) (d : Fin 64) :
    gaA M f w hw (ix2 r d) = row x 0 (128 * (n.val - 1) + r.val) (by omega) d := by
  subst e
  exact load5 M f x hf (128 * (n.val - 1)) _ (off1_of n) _ r d (by omega)

/-- The same in the second half, which is staged. -/
theorem gaB_apply (M : Memref sig .tc .vmem S1x2x1x4096x64 .f32) (f : Bf c M) (x : FVec Ideal S1x2x1x4096x64 .f32)
    (hf : M.view.read (Elt Ideal) f = x) (N : Memref sig .tc .vmem S4096x64 .f32) (w : BitVec 32) (hw : w.toNat ≤ 32) (n : Fin 33)
    (e : w = BitVec.ofNat 32 n.val) (r : Fin 128) (d : Fin 64) :
    gaB N (bodyRun.sl.H10_2 c M f) w hw (ix2 r d) = row x 1 (128 * (n.val - 1) + r.val) (by omega) d := by
  subst e
  exact load2 M f x hf N (128 * (n.val - 1)) _ (off2_of n) _ r d (by omega)

/-- The choice between the null row and the row of the bucket. -/
theorem pick_apply (w : BitVec 32) (n : Fin 33) (e : w = BitVec.ofNat 32 n.val) (a b : Cell) (r : Fin 128) (d : Fin 64) (A B : EReal)
    (ha : a (ix2 r d) = A) (hb : b (ix2 r d) = B) :
    (Scalar.select (Scalar.cmpi .eq w 0#32) a b : Cell) (ix2 r d) = if n.val = 0 then A else B := by
  subst e ha hb
  rw [isZero_of]
  by_cases h : n.val = 0
  · rw [if_pos h, if_pos h]; rfl
  · rw [if_neg h, if_neg h]; rfl

variable {E : Env c} {x1 : FVec Ideal S4096x64 .f32} {x2 : FVec Ideal S32x64 .f32} {x3 x4 x5 : FVec Ideal S1x2x1x4096x64 .f32}
    {x6 x7 : FVec Ideal S2x1x1x64 .f32} (H : Holds E x1 x2 x3 x4 x5 x6 x7)

/-- The column a bucket chooses: the least at which the routing weights are largest. -/
def chosen (E : Env c) (half : Fin 2) (u : Fin 32) : Fin 33 := firstTop fun k => Rz E half (ix2 u k)

include H

/-- The keys of the chosen column are rows of the list. -/
theorem kG_apply (half : Fin 2) (u : Fin 32) (r : Fin 128) (d : Fin 64) :
    kG E half u (ix2 r d) = catRow x4 x6 half (chosen E half u) r d := by
  refine pick_apply _ _ (word_apply half u) _ _ r d _ _ (nul_apply _ _ _ H.r6 half r d) ?_
  fin_cases half
  · exact gaA_apply _ _ _ H.r4 _ _ _ (word_apply 0 u) r d
  · exact gaB_apply _ _ _ H.r4 E.M11 _ _ _ (word_apply 1 u) r d

/-- The values of the chosen column are rows of the list. -/
theorem vG_apply (half : Fin 2) (u : Fin 32) (r : Fin 128) (d : Fin 64) :
    vG E half u (ix2 r d) = catRow x5 x7 half (chosen E half u) r d := by
  refine pick_apply _ _ (word_apply half u) _ _ r d _ _ (nul_apply _ _ _ H.r7 half r d) ?_
  fin_cases half
  · exact gaA_apply _ _ _ H.r5 _ _ _ (word_apply 0 u) r d
  · exact gaB_apply _ _ _ H.r5 E.M12 _ _ _ (word_apply 1 u) r d

omit H in
/-- The scale of the chosen bucket: the largest routing weight of the row. -/
theorem val_apply (half : Fin 2) (u : Fin 32) :
    val E half u (ix2 0 0) = Finset.univ.sup fun k : Fin 33 => Rz E half (ix2 u k) := by
  unfold val topOf
  generalize Rz E half = R
  pointwise
  rw [ofBits_neg_inf]
  rfl

end Cert.Proof

end
-- ==== Proof.KProb.lean ====
module

public import proofs.«01_k».proof.Proof.KScan
public import proofs.«01_k».proof.Proof.Spec

@[expose] public section

noncomputable section

namespace Cert.Proof

open Cert.KernelIdeal Cert.KernelIdeal.Gen
open Idealize.ShloMosaic Idealize.SL.Sem

/-- Comparing the words of a column and a bucket. -/
theorem sle33 : ∀ (u : Fin 32) (v : Fin 33), IntOp.cmpi CmpIPredicate.sle (BitVec.ofNat 32 v.val) (BitVec.ofNat 32 u.val) = if v.val ≤ u.val then 1#1 else 0#1 := by
  decide +kernel
/-- The scores, as the kernel writes them. -/
def scOf (SQ SK : Rows) : FVec Ideal S32x33 .f32 :=
  select (cmpi .sle (iota .tc S32x33 32 [1] iota_S32x33_d1_w32) (iota .tc S32x33 32 [0] iota_S32x33_d0_w32))
    (mulf (matmul dot_S32x64_S33x64_S32x33_1_1_0_0_n_n none SQ
      (concatenate S33x64 0 [⟨S1x64, broadcast S1x64 (Scalar.ofBits (F := Ideal) .f32 0x00000000#32)⟩, ⟨S32x64, SK⟩] concatenates_S1x64_S32x64_S33x64_d0)
      (constant S32x33 .f32 0x00000000#32)) (broadcast S32x33 (Scalar.ofBits (F := Ideal) .f32 0x3E000000#32)))
    (broadcast S32x33 (Scalar.ofBits (F := Ideal) .f32 0xFF7FFFFF#32))

/-- The weights, from the scores. -/
def smOf (sc : FVec Ideal S32x33 .f32) : FVec Ideal S32x33 .f32 :=
  let ex := exp (subf sc (broadcastTo S32x33 (shapeCast S32x1 (multiReduction .maximumf [1] S32 sc 0xFF800000#32 reduces_S32x33_S32 (.inl rfl) rfl) shapeCasts_S32_S32x1) broadcasts_S32x1_S32x33))
  select (cmpi .slt (iota .tc S32x33 32 [1] iota_S32x33_d1_w32) (iota .tc S32x33 32 [0] iota_S32x33_d0_w32))
    (divf ex (broadcastTo S32x33 (shapeCast S32x1 (multiReduction .add [1] S32 ex 0x00000000#32 reduces_S32x33_S32 (.inl rfl) rfl) shapeCasts_S32_S32x1) broadcasts_S32x1_S32x33))
    (broadcast S32x33 (Scalar.ofBits (F := Ideal) .f32 0x00000000#32))

/-- The routing weights are those of the scores. -/
theorem rzOf_eq (SQ SK : Rows) : rzOf SQ SK = smOf (scOf SQ SK) := rfl

/-- The 33 rows the scores are taken against: a row of zeros, then the 32 keys. -/
def sk33 (SK : Rows) (v : Fin 33) (d : Fin 64) : EReal := if h : v.val < 1 then 0 else SK (ix2 ⟨v.val - 1, by omega⟩ d)

/-- The scores, column by column. -/
theorem scOf_apply (SQ SK : Rows) (u : Fin 32) (v : Fin 33) : scOf SQ SK (ix2 u v) = score (fun d => SQ (ix2 u d)) (sk33 SK) u v := by
  pointwise [scOf]
  rw [sle33, select_ite]
  rfl

/-- The weights from the scores, column by column. -/
theorem smOf_apply (sc : FVec Ideal S32x33 .f32) (SQ : Fin 64 → EReal) (SK : Fin 33 → Fin 64 → EReal) (u : Fin 32)
    (h : ∀ v, sc (ix2 u v) = score SQ SK u v) (v : Fin 33) : smOf sc (ix2 u v) = prob SQ SK u v := by
  have h' : (fun v => sc (ix2 u v)) = score SQ SK u := funext h
  pointwise [smOf]
  rw [slt33, select_ite, ofBits_neg_inf]
  unfold prob
  rw [← h']
  rfl

/-- The routing weights, column by column. -/
theorem rzOf_apply (SQ SK : Rows) (u : Fin 32) (v : Fin 33) : rzOf SQ SK (ix2 u v) = prob (fun d => SQ (ix2 u d)) (sk33 SK) u v := by
  rw [rzOf_eq]
  exact smOf_apply _ _ _ u (fun v => scOf_apply SQ SK u v) v

end Cert.Proof

end
-- ==== Proof.RefProb.lean ====
module

public import proofs.«01_k».proof.Proof.RefAvg

@[expose] public section

noncomputable section

namespace Cert.Proof

open Cert.ReferenceIdeal Cert.ReferenceIdeal.Gen Cert.ReferenceIdeal.Read
open Idealize.ShloMosaic

/-- Comparing the words of a column and a bucket, the other way. -/
theorem sgt33 : ∀ (u : Fin 32) (v : Fin 33), IntOp.cmpi CmpIPredicate.sgt (BitVec.ofNat 32 v.val) (BitVec.ofNat 32 u.val) = if v.val ≤ u.val then 0#1 else 1#1 := by
  decide +kernel
/-- An argument at the ideal values. -/
abbrev Arg : Type := (⟨S2x16x4096x64, .f32⟩ : BufTy).Contents (Elt Ideal)

/-- The queries' averages at the first position of a bucket. -/
def sqRef (Q : Nat → Fin 64 → EReal) (u : Fin 32) (d : Fin 64) : EReal := avg Q (128 * u.val) d

/-- The scores, column by column. -/
theorem v63_apply (q k : Arg) (b : Fin 2) (h : Fin 16) (u : Fin 32) (v : Fin 33) :
    val_main_v63 (F := Ideal) q k (ix4 b h u v) = score (sqRef (rrow q b h) u) (skRef (rrow k b h)) u v := by
  rw [val_main_v63_apply, val_main_call3_v0_apply, val_main_v62_apply, val_main_v61_apply, val_main_v60_apply]
  refine (congrArg (fun w => Scalar.select w _ _) (sgt33 u v)).trans ?_
  rw [select_ite_not]
  unfold score
  congr 1
  rw [val_main_v59_apply, val_main_v57_apply, val_main_v58_apply]
  show (∑ d : Fin 64, _) * _ = _
  refine congrArg (· * c8) (Finset.sum_congr rfl fun d _ => ?_)
  have e1 : lidx_main_v57 (ix4 b h u v) d = ix4 b h u d := by funext a; fin_cases a <;> rfl
  have e2 : ridx_main_v57 (ix4 b h u v) d = ix4 b h v d := by funext a; fin_cases a <;> rfl
  rw [e1, e2, v46_apply, v56_apply]
  rfl

/-- The largest along the last axis. -/
theorem rowMax33 (y : FVec Ideal S2x16x32x33 .f32) (z : FVec Ideal S_ .f32) (hz : ∀ i, z i = (⊥ : EReal)) (b : Fin 2) (h : Fin 16) (u : Fin 32) :
    Host.reduce (FloatOps.maximumf (F := Ideal) (φ := .f32)) y z reducesTo_S2x16x32x33_S2x16x32_d3 h_S_ (ix3 b h u)
      = Finset.univ.sup fun v : Fin 33 => (y (ix4 b h u v) : EReal) := by
  pointwise []
  rw [hz]
  rfl

/-- The word of minus infinity, written in base 16. -/
theorem ofBits_bot : Ideal.ofBits FTy.f32 0xFF800000#32 = (⊥ : EReal) := ofBits_neg_inf

/-- The maximum of a row's scores. -/
theorem v66_apply (q k : Arg) (b : Fin 2) (h : Fin 16) (u : Fin 32) :
    val_main_v66 (F := Ideal) q k (ix3 b h u) = Finset.univ.sup (score (sqRef (rrow q b h) u) (skRef (rrow k b h)) u) := by
  rw [val_main_v66_apply, val_main_v65_apply]
  have e : val_main_v64 (F := Ideal) q k (ix3 b h u) = _ := rowMax33 _ _ (fun _ => ofBits_bot) b h u
  rw [e]
  have e1 : val_main_cst_10 (F := Ideal) (idx_main_v65 (ix3 b h u)) = (⊥ : EReal) := ofBits_bot
  rw [e1]
  refine (max_eq_right bot_le).trans ?_
  exact congrArg (fun g => Finset.univ.sup g) (funext fun v => v63_apply q k b h u v)

/-- The exponentials, column by column. -/
theorem v70_apply (q k : Arg) (b : Fin 2) (h : Fin 16) (u : Fin 32) (v : Fin 33) :
    val_main_v70 (F := Ideal) q k (ix4 b h u v) = Ideal.exp (score (sqRef (rrow q b h) u) (skRef (rrow k b h)) u v
      - Finset.univ.sup (score (sqRef (rrow q b h) u) (skRef (rrow k b h)) u)) := by
  rw [val_main_v70_apply, val_main_v69_apply, val_main_v68_apply, val_main_v67_apply, v63_apply]
  have e : idx_main_v67 (idx_main_v68 (ix4 b h u v)) = ix3 b h u := by funext a; fin_cases a <;> rfl
  rw [e, v66_apply]
  rfl

/-- The routing weights, column by column. -/
theorem v76_apply (q k : Arg) (b : Fin 2) (h : Fin 16) (u : Fin 32) (v : Fin 33) :
    val_main_v76 (F := Ideal) q k (ix4 b h u v) = prob (sqRef (rrow q b h) u) (skRef (rrow k b h)) u v := by
  rw [val_main_v76_apply, val_main_call4_v1_apply, val_main_v75_apply, val_main_v61_apply, val_main_v60_apply]
  refine (congrArg (fun w => Scalar.select w _ _) (slt33 u v)).trans ?_
  rw [select_ite]
  unfold prob
  congr 1
  · rw [val_main_v74_apply, val_main_v73_apply, val_main_v72_apply, v70_apply]
    have e : idx_main_v72 (idx_main_v73 (ix4 b h u v)) = ix3 b h u := by funext a; fin_cases a <;> rfl
    rw [e, val_main_v71_apply]
    have e0 : val_main_cst_11 (F := Ideal) (Shape.Idx.first h_S_) = (0 : EReal) := Ideal.ofBits_zero_f32
    rw [e0, zero_add]
    refine congrArg (Ideal.div _) (Finset.sum_congr rfl fun w _ => ?_)
    refine (congrArg (val_main_v70 (F := Ideal) q k) ?_).trans (v70_apply q k b h u w)
    funext a; fin_cases a <;> rfl
  · exact Ideal.ofBits_zero_f32

end Cert.Proof

end
-- ==== Proof.RefPick.lean ====
module

public import proofs.«01_k».proof.Proof.RefProb

@[expose] public section

noncomputable section

namespace Cert.Proof

open Cert.ReferenceIdeal Cert.ReferenceIdeal.Gen Cert.ReferenceIdeal.Read
open Idealize.ShloMosaic

/-- 1 where `g` is largest. -/
def bestAt (g : Fin 33 → EReal) (s : Nat) : EReal := if h : s < 33 then (if g ⟨s, h⟩ = Finset.univ.sup g then 1 else 0) else 0

/-- It is never negative. -/
theorem bestAt_nonneg (g : Fin 33 → EReal) (s : Nat) : 0 ≤ bestAt g s := by
  unfold bestAt
  split
  · split
    · exact zero_le_one
    · exact le_rfl
  · exact le_rfl

/-- The column where the running count of the largest is 1, and which is largest, is the first such. -/
theorem first_iff (g : Fin 33 → EReal) (v : Fin 33) :
    (g v = Finset.univ.sup g ∧ ∑ s ∈ Finset.range (v.val + 1), bestAt g s = 1) ↔ v = firstTop g := by
  constructor
  · rintro ⟨h1, h2⟩
    by_contra hne
    have hle : (firstTop g).val < v.val := by
      by_contra hlt
      have : v < firstTop g := by
        refine lt_of_le_of_ne (Fin.le_def.2 (by omega)) hne
      exact absurd h1 (firstTop_lt g v this).ne
    rw [Finset.sum_range_succ] at h2
    have hv : bestAt g v.val = 1 := by unfold bestAt; rw [dif_pos v.isLt, if_pos h1]
    have hc : bestAt g (firstTop g).val = 1 := by unfold bestAt; rw [dif_pos (firstTop g).isLt, if_pos (firstTop_eq g)]
    have h3 : (1 : EReal) ≤ ∑ s ∈ Finset.range v.val, bestAt g s := by
      rw [← hc]
      exact Finset.single_le_sum (f := bestAt g) (fun s _ => bestAt_nonneg g s) (Finset.mem_range.2 hle)
    rw [hv] at h2
    have h4 : (1 : EReal) + 1 ≤ 1 := by
      calc (1 : EReal) + 1 ≤ (∑ s ∈ Finset.range v.val, bestAt g s) + 1 := by gcongr
        _ = 1 := h2
    have h5 : ((1 : ℝ) : EReal) + ((1 : ℝ) : EReal) ≤ ((1 : ℝ) : EReal) := h4
    rw [← EReal.coe_add] at h5
    have := EReal.coe_le_coe_iff.1 h5
    norm_num at this
  · rintro rfl
    refine ⟨firstTop_eq g, ?_⟩
    rw [Finset.sum_range_succ, Finset.sum_eq_zero, zero_add]
    · unfold bestAt; rw [dif_pos (firstTop g).isLt, if_pos (firstTop_eq g)]
    · intro s hs
      have hs := Finset.mem_range.1 hs
      have h := firstTop_lt g ⟨s, by omega⟩ hs
      unfold bestAt
      rw [dif_pos (by omega), if_neg h.ne]

/-- Comparing for equality gives the bit of the equality. -/
theorem oeq_ite (a b : EReal) : FloatOps.cmpf (F := Ideal) (φ := .f32) .oeq a b = if a = b then 1#1 else 0#1 := by
  show Ideal.cmp _ _ _ = _
  unfold Ideal.cmp
  show BitVec.ofBool (decide (a = b)) = _
  by_cases h : a = b
  · rw [if_pos h, decide_eq_true h]; rfl
  · rw [if_neg h, decide_eq_false h]; rfl

/-- The largest weight of a row. -/
theorem v78_apply (q k : Arg) (b : Fin 2) (h : Fin 16) (u : Fin 32) :
    val_main_v78 (F := Ideal) q k (ix4 b h u 0) = Finset.univ.sup (prob (sqRef (rrow q b h) u) (skRef (rrow k b h)) u) := by
  rw [val_main_v78_apply]
  have e : idx_main_v78 (ix4 b h u 0) = ix3 b h u := by funext a; fin_cases a <;> rfl
  rw [e]
  refine (rowMax33 _ _ (fun _ => ofBits_bot) b h u).trans ?_
  exact congrArg (fun g => Finset.univ.sup g) (funext fun v => v76_apply q k b h u v)

/-- Where the largest weight stands. -/
theorem v81_apply (q k : Arg) (b : Fin 2) (h : Fin 16) (u : Fin 32) (v : Fin 33) :
    val_main_v81 (F := Ideal) q k (ix4 b h u v) = bestAt (prob (sqRef (rrow q b h) u) (skRef (rrow k b h)) u) v.val := by
  rw [val_main_v81_apply, val_main_v80_apply, val_main_v79_apply, v76_apply]
  have e : idx_main_v79 (ix4 b h u v) = ix4 b h u 0 := by funext a; fin_cases a <;> rfl
  rw [e, v78_apply, oeq_ite]
  unfold bestAt
  rw [dif_pos v.isLt]
  split
  · show (((1#1 : BitVec 1).toNat : ℝ) : EReal) = 1; simp
  · show (((0#1 : BitVec 1).toNat : ℝ) : EReal) = 0; simp

/-- The running count of the largest. -/
theorem v84_apply (q k : Arg) (b : Fin 2) (h : Fin 16) (u : Fin 32) (v : Fin 33) :
    val_main_v84 (F := Ideal) q k (ix4 b h u v) = ∑ s ∈ Finset.range (v.val + 1), bestAt (prob (sqRef (rrow q b h) u) (skRef (rrow k b h)) u) s := by
  unfold val_main_v84
  refine cumsum4_3 (M := 32) _ _ (fun i => ?_) _ _ _ b h u v (fun s => v81_apply q k b h u s)
  exact Ideal.ofBits_zero_f32

/-- The weight with which bucket `u` takes column `v`: the largest probability at the first column that has it. -/
def choice (g : Fin 33 → EReal) (v : Fin 33) : EReal := if v = firstTop g then Finset.univ.sup g else 0

/-- The largest weight at the first column that has it, zero elsewhere. -/
theorem v88_apply (q k : Arg) (b : Fin 2) (h : Fin 16) (u : Fin 32) (v : Fin 33) :
    val_main_v88 (F := Ideal) q k (ix4 b h u v) = choice (prob (sqRef (rrow q b h) u) (skRef (rrow k b h)) u) v := by
  rw [val_main_v88_apply, val_main_v87_apply, val_main_v83_apply, val_main_v86_apply, val_main_v82_apply, v76_apply, v84_apply,
    val_main_call6_v1_apply]
  have e : idx_main_v82 (ix4 b h u v) = ix4 b h u 0 := by funext a; fin_cases a <;> rfl
  have e' : idx_main_call6_v1 (ix4 b h u v) = ix4 b h u 0 := by funext a; fin_cases a <;> rfl
  have e1 : val_main_v85 (F := Ideal) (ix4 b h u v) = (1 : EReal) := (val_main_v85_apply _).trans Ideal.ofBits_one_f32
  have e0 : val_main_call6_v2 (F := Ideal) (ix4 b h u v) = (0 : EReal) := (val_main_call6_v2_apply _).trans Ideal.ofBits_zero_f32
  rw [e, e', v78_apply, e1, e0, oeq_ite, oeq_ite]
  generalize hg : prob (sqRef (rrow q b h) u) (skRef (rrow k b h)) u = g
  unfold choice
  have hi := first_iff g v
  by_cases h1 : g v = Finset.univ.sup g
  · by_cases h2 : ∑ s ∈ Finset.range (v.val + 1), bestAt g s = 1
    · rw [if_pos h1, if_pos h2, if_pos (hi.1 ⟨h1, h2⟩)]; rfl
    · rw [if_pos h1, if_neg h2, if_neg fun hc => h2 (hi.2 hc).2]; rfl
  · by_cases h2 : ∑ s ∈ Finset.range (v.val + 1), bestAt g s = 1
    · rw [if_neg h1, if_pos h2, if_neg fun hc => h1 (hi.2 hc).1]; rfl
    · rw [if_neg h1, if_neg h2, if_neg fun hc => h1 (hi.2 hc).1]; rfl

end Cert.Proof

end
-- ==== Proof.RefAtt.lean ====
module

public import proofs.«01_k».proof.Proof.RefPick

@[expose] public section

noncomputable section

namespace Cert.Proof

open Cert.ReferenceIdeal Cert.ReferenceIdeal.Gen Cert.ReferenceIdeal.Read
open Idealize.ShloMosaic

/-- A null argument at the ideal values. -/
abbrev Null : Type := (⟨S16x1x64, .f32⟩ : BufTy).Contents (Elt Ideal)

/-- Row `r` of column `v`: the null row at column 0, then the rows of bucket `v - 1`. -/
def catRef (n : Fin 64 → EReal) (K : Nat → Fin 64 → EReal) (v : Fin 33) (r : Nat) (d : Fin 64) : EReal :=
  if v.val < 1 then n d else K (128 * (v.val - 1) + r) d

/-- The 256 rows a bucket attends to: the chosen bucket's, scaled, and its own. -/
def keysRef (g : Fin 33 → EReal) (n : Fin 64 → EReal) (K : Nat → Fin 64 → EReal) (u : Fin 32) (j : Fin 256) (d : Fin 64) : EReal :=
  if j.val < 128 then ∑ v : Fin 33, choice g v * catRef n K v j.val d else K (128 * u.val + (j.val - 128)) d

/-- The keys row `r` of bucket `u` of head `h` may not see. -/
def Masked (h : Fin 16) (u : Fin 32) (r : Fin 128) (j : Fin 256) : Prop :=
  r.val + 128 < j.val ∨ (8 ≤ h.val ∧ u.val = 31 ∧ 1 ≤ r.val ∧ j.val ≤ 128)

instance (h : Fin 16) (u : Fin 32) (r : Fin 128) (j : Fin 256) : Decidable (Masked h u r j) := inferInstanceAs (Decidable (_ ∨ _))

/-- The score of row `r` against key `j`. -/
def logit (g : Fin 33 → EReal) (n : Fin 64 → EReal) (Q K : Nat → Fin 64 → EReal) (h : Fin 16) (u : Fin 32) (r : Fin 128) (j : Fin 256) : EReal :=
  if Masked h u r j then ⊥ else (∑ d, Q (128 * u.val + r.val) d * keysRef g n K u j d) * c8

/-- The softmax of 256 scores. -/
def soft (l : Fin 256 → EReal) (j : Fin 256) : EReal :=
  Ideal.div (Ideal.exp (l j - Finset.univ.sup l)) (∑ w, Ideal.exp (l w - Finset.univ.sup l))

/-- The routing weights of a bucket from its queries and keys. -/
def gRef (Q K : Nat → Fin 64 → EReal) (u : Fin 32) : Fin 33 → EReal := prob (sqRef Q u) (skRef K) u

/-- The attention's result at row `r` of bucket `u`. -/
def attRef (Q K V : Nat → Fin 64 → EReal) (nk nv : Fin 64 → EReal) (h : Fin 16) (u : Fin 32) (r : Fin 128) (d : Fin 64) : EReal :=
  ∑ j : Fin 256, soft (logit (gRef Q K u) nk Q K h u r) j * keysRef (gRef Q K u) nv V u j d

/-- The null row of head `h`. -/
def nrow (x : Null) (h : Fin 16) (d : Fin 64) : EReal := x (ix3 h 0 d)

/-- Comparing the word of a head with 8. -/
theorem sge16 : ∀ h : Fin 16, IntOp.cmpi CmpIPredicate.sge (BitVec.ofNat 32 h.val) 8#32 = if 8 ≤ h.val then 1#1 else 0#1 := by decide
/-- Comparing the word of a bucket with 31. -/
theorem eq32 : ∀ u : Fin 32, IntOp.cmpi CmpIPredicate.eq (BitVec.ofNat 32 u.val) 31#32 = if u.val = 31 then 1#1 else 0#1 := by decide
/-- Comparing the word of a key with 128. -/
theorem sle256 : ∀ j : Fin 256, IntOp.cmpi CmpIPredicate.sle (BitVec.ofNat 32 j.val) 128#32 = if j.val ≤ 128 then 1#1 else 0#1 := by decide +kernel
/-- Comparing the word of a key with that of its row, 128 on. -/
theorem sgt256 : ∀ (r : Fin 128) (j : Fin 256), IntOp.cmpi CmpIPredicate.sgt (BitVec.ofNat 32 j.val) (IntOp.addi (BitVec.ofNat 32 r.val) 128#32) = if r.val + 128 < j.val then 1#1 else 0#1 := by
  decide +kernel

/-- The mask, pair by pair. -/
theorem v18_apply (h : Fin 16) (u : Fin 32) (r : Fin 128) (j : Fin 256) :
    val_main_v18 (F := Ideal) (ix4 h u r j) = if Masked h u r j then 1#1 else 0#1 := by
  have e : val_main_v18 (F := Ideal) (ix4 h u r j) = IntOp.ori (IntOp.cmpi CmpIPredicate.sgt (BitVec.ofNat 32 j.val) (IntOp.addi (BitVec.ofNat 32 r.val) 128#32))
      (IntOp.andi (IntOp.andi (IntOp.andi (IntOp.cmpi CmpIPredicate.sge (BitVec.ofNat 32 h.val) 8#32) (IntOp.cmpi CmpIPredicate.eq (BitVec.ofNat 32 u.val) 31#32))
        (IntOp.cmpi CmpIPredicate.sge (BitVec.ofNat 32 r.val) 1#32)) (IntOp.cmpi CmpIPredicate.sle (BitVec.ofNat 32 j.val) 128#32)) := rfl
  rw [e, sge16, eq32, sge_word, sle256, sgt256]
  unfold Masked
  by_cases h1 : r.val + 128 < j.val <;> by_cases h2 : 8 ≤ h.val <;> by_cases h3 : u.val = 31 <;> by_cases h4 : 1 ≤ r.val <;> by_cases h5 : j.val ≤ 128 <;>
    simp only [h1, h2, h3, h4, h5] <;> rfl

/-- The queries in buckets, index by index. -/
theorem v89_apply (x : Arg) (b : Fin 2) (h : Fin 16) (u : Fin 32) (r : Fin 128) (d : Fin 64) :
    val_main_v89 (F := Ideal) x (ix5 b h u r d) = rrow x b h (128 * u.val + r.val) d := by
  rw [← v24_row x b h ⟨128 * u.val + r.val, by omega⟩ d]
  rw [show (⟨128 * u.val + r.val, by omega⟩ : Fin 4096) = ⟨u.val * 128 + r.val, by omega⟩ from Fin.ext (by show 128 * u.val + r.val = u.val * 128 + r.val; omega)]
  unfold val_main_v89
  generalize val_main_v24 (F := Ideal) x = y
  pointwise []

/-- The keys are put in buckets as the queries are. -/
theorem v92_eq : val_main_v92 (F := Ideal) = val_main_v89 (F := Ideal) := rfl
/-- The own keys are put in buckets as the queries are. -/
theorem v95_eq : val_main_v95 (F := Ideal) = val_main_v89 (F := Ideal) := rfl
/-- The list of values is made as the list of keys. -/
theorem v116_eq : val_main_v116 (F := Ideal) = val_main_v93 (F := Ideal) := rfl
/-- The own values are put in buckets as the queries are. -/
theorem v118_eq : val_main_v118 (F := Ideal) = val_main_v89 (F := Ideal) := rfl

/-- The null row repeated, index by index. -/
theorem v91_apply (n : Null) (b : Fin 2) (h : Fin 16) (r : Fin 128) (d : Fin 64) :
    val_main_v91 (F := Ideal) n (ix5 b h 0 r d) = nrow n h d := by
  rw [val_main_v91_apply, val_main_v90_apply]
  unfold nrow
  congr 1
  funext a; fin_cases a <;> rfl

/-- One column before 32 others, index by index. -/
theorem cat33 (x : FVec Ideal S2x16x1x128x64 .f32) (y : FVec Ideal S2x16x32x128x64 .f32) (b : Fin 2) (h : Fin 16) (v : Fin 33) (r : Fin 128) (d : Fin 64) :
    concatenate S2x16x33x128x64 2 [⟨S2x16x1x128x64, x⟩, ⟨S2x16x32x128x64, y⟩] concatenates_S2x16x1x128x64_S2x16x32x128x64_S2x16x33x128x64_d2 (ix5 b h v r d)
      = if hv : v.val < 1 then x (ix5 b h 0 r d) else y (ix5 b h ⟨v.val - 1, by omega⟩ r d) := by
  by_cases hv : v.val < 1
  · rw [dif_pos hv]
    rw [show v = 0 from Fin.ext (by show v.val = 0; omega)]
    pointwise []
  · rw [dif_neg hv]
    pointwise [hv]

/-- The list of null row and buckets, index by index. -/
theorem v93_apply (k : Arg) (n : Null) (b : Fin 2) (h : Fin 16) (v : Fin 33) (r : Fin 128) (d : Fin 64) :
    val_main_v93 (F := Ideal) k n (ix5 b h v r d) = catRef (nrow n h) (rrow k b h) v r.val d := by
  unfold val_main_v93 catRef
  rw [cat33]
  by_cases hv : v.val < 1
  · rw [dif_pos hv, if_pos hv, v91_apply]
  · rw [dif_neg hv, if_neg hv, v92_eq, v89_apply]

/-- 128 rows before 128 others, index by index. -/
theorem cat256 (x y : FVec Ideal S2x16x32x128x64 .f32) (b : Fin 2) (h : Fin 16) (u : Fin 32) (j : Fin 256) (d : Fin 64) :
    concatenate S2x16x32x256x64 3 [⟨S2x16x32x128x64, x⟩, ⟨S2x16x32x128x64, y⟩] concatenates_S2x16x32x128x64_S2x16x32x128x64_S2x16x32x256x64_d3 (ix5 b h u j d)
      = if hj : j.val < 128 then x (ix5 b h u ⟨j.val, hj⟩ d) else y (ix5 b h u ⟨j.val - 128, by omega⟩ d) := by
  by_cases hj : j.val < 128
  · rw [dif_pos hj]
    pointwise [hj]
  · rw [dif_neg hj]
    pointwise [hj]

/-- The keys of the chosen column, scaled, as a sum over the columns. -/
theorem v94_apply (q k : Arg) (n : Null) (b : Fin 2) (h : Fin 16) (u : Fin 32) (r : Fin 128) (d : Fin 64) :
    val_main_v94 (F := Ideal) q k n (ix5 b h u r d)
      = ∑ v : Fin 33, choice (gRef (rrow q b h) (rrow k b h) u) v * catRef (nrow n h) (rrow k b h) v r.val d := by
  rw [val_main_v94_apply]
  refine Finset.sum_congr rfl fun v _ => ?_
  have e1 : lidx_main_v94 (ix5 b h u r d) v = ix4 b h u v := by funext a; fin_cases a <;> rfl
  have e2 : ridx_main_v94 (ix5 b h u r d) v = ix5 b h v r d := by funext a; fin_cases a <;> rfl
  rw [e1, e2, v88_apply, v93_apply]
  rfl

/-- The values of the chosen column, scaled, as a sum over the columns. -/
theorem v117_apply (q k v : Arg) (n : Null) (b : Fin 2) (h : Fin 16) (u : Fin 32) (r : Fin 128) (d : Fin 64) :
    val_main_v117 (F := Ideal) q k v n (ix5 b h u r d)
      = ∑ w : Fin 33, choice (gRef (rrow q b h) (rrow k b h) u) w * catRef (nrow n h) (rrow v b h) w r.val d := by
  rw [val_main_v117_apply]
  refine Finset.sum_congr rfl fun w _ => ?_
  have e1 : lidx_main_v117 (ix5 b h u r d) w = ix4 b h u w := by funext a; fin_cases a <;> rfl
  have e2 : ridx_main_v117 (ix5 b h u r d) w = ix5 b h w r d := by funext a; fin_cases a <;> rfl
  rw [e1, e2, v88_apply, v116_eq, v93_apply]
  rfl

/-- The 256 keys, index by index. -/
theorem v96_apply (q k : Arg) (n : Null) (b : Fin 2) (h : Fin 16) (u : Fin 32) (j : Fin 256) (d : Fin 64) :
    val_main_v96 (F := Ideal) q k n (ix5 b h u j d) = keysRef (gRef (rrow q b h) (rrow k b h) u) (nrow n h) (rrow k b h) u j d := by
  unfold val_main_v96 keysRef
  rw [cat256]
  by_cases hj : j.val < 128
  · rw [dif_pos hj, if_pos hj, v94_apply]
  · rw [dif_neg hj, if_neg hj, v95_eq, v89_apply]

/-- The 256 values, index by index. -/
theorem v119_apply (q k v : Arg) (n : Null) (b : Fin 2) (h : Fin 16) (u : Fin 32) (j : Fin 256) (d : Fin 64) :
    val_main_v119 (F := Ideal) q k v n (ix5 b h u j d) = keysRef (gRef (rrow q b h) (rrow k b h) u) (nrow n h) (rrow v b h) u j d := by
  unfold val_main_v119 keysRef
  rw [cat256]
  by_cases hj : j.val < 128
  · rw [dif_pos hj, if_pos hj, v117_apply]
  · rw [dif_neg hj, if_neg hj, v118_eq, v89_apply]

/-- The masked scores, pair by pair. -/
theorem v101_apply (q k : Arg) (n : Null) (b : Fin 2) (h : Fin 16) (u : Fin 32) (r : Fin 128) (j : Fin 256) :
    val_main_v101 (F := Ideal) q k n (ix5 b h u r j)
      = logit (gRef (rrow q b h) (rrow k b h) u) (nrow n h) (rrow q b h) (rrow k b h) h u r j := by
  rw [val_main_v101_apply, val_main_call7_v1_apply, val_main_v100_apply]
  have e : idx_main_v100 (idx_main_call7_v1 (ix5 b h u r j)) = ix4 h u r j := by funext a; fin_cases a <;> rfl
  rw [e, v18_apply, select_ite]
  unfold logit
  have eb : val_main_call7_v2 (F := Ideal) (ix5 b h u r j) = (⊥ : EReal) := by
    rw [val_main_call7_v2_apply, val_main_call7_v0_apply]
    exact ofBits_bot
  refine if_congr Iff.rfl eb ?_
  rw [val_main_v99_apply, val_main_v97_apply, val_main_v98_apply]
  show (∑ d : Fin 64, _) * _ = _
  refine congrArg (· * c8) (Finset.sum_congr rfl fun d _ => ?_)
  have e1 : lidx_main_v97 (ix5 b h u r j) d = ix5 b h u r d := by funext a; fin_cases a <;> rfl
  have e2 : ridx_main_v97 (ix5 b h u r j) d = ix5 b h u j d := by funext a; fin_cases a <;> rfl
  rw [e1, e2, v89_apply, v96_apply]

/-- The largest along the last axis. -/
theorem rowMax256 (y : FVec Ideal S2x16x32x128x256 .f32) (z : FVec Ideal S_ .f32) (hz : ∀ i, z i = (⊥ : EReal)) (b : Fin 2) (h : Fin 16) (u : Fin 32) (r : Fin 128) :
    Host.reduce (FloatOps.maximumf (F := Ideal) (φ := .f32)) y z reducesTo_S2x16x32x128x256_S2x16x32x128_d4 h_S_ (ix4 b h u r)
      = Finset.univ.sup fun j : Fin 256 => (y (ix5 b h u r j) : EReal) := by
  pointwise []
  rw [hz]
  rfl

/-- The maximum of a row's scores. -/
theorem v104_apply (q k : Arg) (n : Null) (b : Fin 2) (h : Fin 16) (u : Fin 32) (r : Fin 128) :
    val_main_v104 (F := Ideal) q k n (ix4 b h u r)
      = Finset.univ.sup (logit (gRef (rrow q b h) (rrow k b h) u) (nrow n h) (rrow q b h) (rrow k b h) h u r) := by
  rw [val_main_v104_apply, val_main_v103_apply]
  have e : val_main_v102 (F := Ideal) q k n (ix4 b h u r) = _ := rowMax256 _ _ (fun _ => ofBits_bot) b h u r
  rw [e]
  have e1 : val_main_cst_19 (F := Ideal) (idx_main_v103 (ix4 b h u r)) = (⊥ : EReal) := ofBits_bot
  rw [e1]
  refine (max_eq_right bot_le).trans ?_
  exact congrArg (fun g => Finset.univ.sup g) (funext fun j => v101_apply q k n b h u r j)

/-- The exponentials, pair by pair. -/
theorem v108_apply (q k : Arg) (n : Null) (b : Fin 2) (h : Fin 16) (u : Fin 32) (r : Fin 128) (j : Fin 256) :
    val_main_v108 (F := Ideal) q k n (ix5 b h u r j)
      = Ideal.exp (logit (gRef (rrow q b h) (rrow k b h) u) (nrow n h) (rrow q b h) (rrow k b h) h u r j
        - Finset.univ.sup (logit (gRef (rrow q b h) (rrow k b h) u) (nrow n h) (rrow q b h) (rrow k b h) h u r)) := by
  rw [val_main_v108_apply, val_main_v107_apply, val_main_v106_apply, val_main_v105_apply, v101_apply]
  have e : idx_main_v105 (idx_main_v106 (ix5 b h u r j)) = ix4 b h u r := by funext a; fin_cases a <;> rfl
  rw [e, v104_apply]
  rfl

/-- The softmax, pair by pair. -/
theorem v112_apply (q k : Arg) (n : Null) (b : Fin 2) (h : Fin 16) (u : Fin 32) (r : Fin 128) (j : Fin 256) :
    val_main_v112 (F := Ideal) q k n (ix5 b h u r j)
      = soft (logit (gRef (rrow q b h) (rrow k b h) u) (nrow n h) (rrow q b h) (rrow k b h) h u r) j := by
  rw [val_main_v112_apply, val_main_v111_apply, val_main_v110_apply, v108_apply]
  have e : idx_main_v110 (idx_main_v111 (ix5 b h u r j)) = ix4 b h u r := by funext a; fin_cases a <;> rfl
  rw [e, val_main_v109_apply]
  have e0 : val_main_cst_20 (F := Ideal) (Shape.Idx.first h_S_) = (0 : EReal) := Ideal.ofBits_zero_f32
  rw [e0, zero_add]
  refine congrArg (Ideal.div _) (Finset.sum_congr rfl fun w _ => ?_)
  refine (congrArg (val_main_v108 (F := Ideal) q k n) ?_).trans (v108_apply q k n b h u r w)
  funext a; fin_cases a <;> rfl

/-- The attention's result, index by index. -/
theorem v120_apply (q k v : Arg) (nk nv : Null) (b : Fin 2) (h : Fin 16) (u : Fin 32) (r : Fin 128) (d : Fin 64) :
    val_main_v120 (F := Ideal) q k v nk nv (ix5 b h u r d)
      = attRef (rrow q b h) (rrow k b h) (rrow v b h) (nrow nk h) (nrow nv h) h u r d := by
  rw [val_main_v120_apply]
  unfold attRef
  refine Finset.sum_congr rfl fun j _ => ?_
  have e1 : lidx_main_v120 (ix5 b h u r d) j = ix5 b h u r j := by funext a; fin_cases a <;> rfl
  have e2 : ridx_main_v120 (ix5 b h u r d) j = ix5 b h u j d := by funext a; fin_cases a <;> rfl
  rw [e1, e2, v112_apply, v119_apply]

end Cert.Proof

end
-- ==== Proof.Route.lean ====
module

public import proofs.«01_k».proof.Proof.Tails
public import proofs.«01_k».proof.Proof.KGather
public import proofs.«01_k».proof.Proof.KProb
public import proofs.«01_k».proof.Proof.RefAtt

@[expose] public section

noncomputable section

namespace Cert.Proof

open Cert.KernelIdeal Cert.KernelIdeal.Gen
open Idealize.ShloMosaic Idealize.SL.Sem

variable {c : Dev nD} {E : Env c} {x1 : FVec Ideal S4096x64 .f32} {x2 : FVec Ideal S32x64 .f32} {x3 x4 x5 : FVec Ideal S1x2x1x4096x64 .f32}
    {x6 x7 : FVec Ideal S2x1x1x64 .f32} (H : Holds E x1 x2 x3 x4 x5 x6 x7)

/-- A cast to the same shape changes nothing. -/
theorem same128 (L : FVec Ideal S128x64 .f32) (r : Fin 128) (d : Fin 64) : shapeCast S128x64 L shapeCasts_S128x64_S128x64 (ix2 r d) = L (ix2 r d) := by
  pointwise

/-- A cast to the same shape changes nothing. -/
theorem same32 (L : FVec Ideal S32x64 .f32) (u : Fin 32) (d : Fin 64) : shapeCast S32x64 L shapeCasts_S32x64_S32x64 (ix2 u d) = L (ix2 u d) := by
  pointwise

include H in
/-- A bucket of the table of tails, index by index. -/
theorem wC_apply (u : Fin 32) (r : Fin 128) (d : Fin 64) : wC E u (ix2 r d) = x1 (ix2 ⟨128 * u.val + r.val, by omega⟩ d) := by
  unfold wC
  rw [same128, ← H.r1]
  show E.M1.view.read (Elt Ideal) E.f1 _ = E.M1.view.read (Elt Ideal) E.f1 _
  congr 1
  funext a
  refine Fin.ext ?_
  match a with
  | 0 => show 128 * u.val + 1 * r.val = 128 * u.val + r.val; omega
  | 1 => show 0 + 1 * d.val = d.val; omega

include H in
/-- The table of whole sums, index by index. -/
theorem aC_apply (u : Fin 32) (d : Fin 64) : aC E (ix2 u d) = x2 (ix2 u d) := by
  unfold aC
  rw [same32, ← H.r2]
  show E.M2.view.read (Elt Ideal) E.f2 _ = E.M2.view.read (Elt Ideal) E.f2 _
  congr 1
  funext a
  refine Fin.ext ?_
  match a with
  | 0 => show 0 + 1 * u.val = u.val; omega
  | 1 => show 0 + 1 * d.val = d.val; omega

variable (half : Fin 2) (Q K : Nat → Fin 64 → EReal)

include H in
/-- The sums of the buckets before `u` are the sum of the rows before it. -/
theorem scan_q (hQ : ∀ t ht d, row x3 half t ht d = Q t d) (u : Fin 32) (d : Fin 64) :
    scan (qSum E half) (ix2 u d) = ∑ s ∈ Finset.range (128 * u.val), Q s d := by
  rw [scan_apply, ← sum_buckets (fun s => Q s d)]
  refine Finset.sum_congr rfl fun w hw => ?_
  have hw' : w < 32 := (Finset.mem_range.1 hw).trans u.isLt
  unfold rowAt
  rw [dif_pos hw', qSum, rowsOf_apply, colSum_apply]
  refine Finset.sum_congr rfl fun r _ => ?_
  rw [qC_apply H, hQ]

include H in
/-- The same of the keys. -/
theorem scan_k (hK : ∀ t ht d, row x4 half t ht d = K t d) (u : Fin 32) (d : Fin 64) :
    scan (kSum E half) (ix2 u d) = ∑ s ∈ Finset.range (128 * u.val), K s d := by
  rw [scan_apply, ← sum_buckets (fun s => K s d)]
  refine Finset.sum_congr rfl fun w hw => ?_
  have hw' : w < 32 := (Finset.mem_range.1 hw).trans u.isLt
  unfold rowAt
  rw [dif_pos hw', kSum, rowsOf_apply, colSum_apply]
  refine Finset.sum_congr rfl fun r _ => ?_
  rw [kC_apply H, hK]

/-- The first row of a bucket, lane by lane. -/
theorem first_apply (x : Cell) (d : Fin 64) : extractStridedSlice S1x64 ![0, 0] x slices_S128x64_o0_0_S1x64 (ix2 0 d) = x (ix2 0 d) := by
  pointwise

include H in
/-- The kernel's query of a bucket is the average up to the bucket's first row. -/
theorem sq_match (hQ : ∀ t ht d, row x3 half t ht d = Q t d) (u : Fin 32) (d : Fin 64) : sq E half (ix2 u d) = sqRef Q u d := by
  have e : sq E half (ix2 u d) = Ideal.div (scan (qSum E half) (ix2 u d) + qFirst E half (ix2 u d)) (k0_pay11 (F := Ideal) (ix2 u d)) := rfl
  rw [e, scan_q H half Q hQ, posn_apply, qFirst, rowsOf_apply, first_apply, qC_apply H, hQ]
  unfold sqRef avg
  rw [Finset.sum_range_succ]
  rfl

include H in
/-- The kernel's key of a bucket is the sum of the averages over the bucket. -/
theorem sk_match (h1 : ∀ u r d, x1 (ix2 ⟨128 * (u : Fin 32).val + (r : Fin 128).val, by omega⟩ d) = tails (ix2 u r)) (h2 : ∀ u d, x2 (ix2 u d) = tails (ix2 u 0))
    (hK : ∀ t ht d, row x4 half t ht d = K t d) (k : Nat → Fin 64 → ℝ) (hk : ∀ t d, K t d = (k t d : EReal)) (u : Fin 32) (d : Fin 64) :
    sk E half (ix2 u d) = ∑ r : Fin 128, avg K (128 * u.val + r.val) d := by
  have e : sk E half (ix2 u d) = scan (kSum E half) (ix2 u d) * aC E (ix2 u d) + kWSum E half (ix2 u d) := rfl
  rw [e, scan_k H half K hK, aC_apply H, h2, kWSum, rowsOf_apply, colSum_apply]
  have e2 : ∀ r : Fin 128, mulf (kC E half u) (wC E u) (ix2 r d) = ((k (128 * u.val + r.val) d * tail u.val r.val : ℝ) : EReal) := by
    intro r
    have e3 : mulf (kC E half u) (wC E u) (ix2 r d) = kC E half u (ix2 r d) * wC E u (ix2 r d) := rfl
    rw [e3, kC_apply H, hK, wC_apply H, h1, tails_real, hk, EReal.coe_mul]
  simp only [e2, avg_real K k hk, hk]
  rw [tails_real, ← coe_sum, ← coe_sum, ← coe_sum, ← EReal.coe_mul, ← EReal.coe_add]
  exact congrArg _ (tail_sum (fun s => k s d) u.val)

include H in
/-- The routing weights of the kernel are the reference's. -/
theorem Rz_match (h1 : ∀ u r d, x1 (ix2 ⟨128 * (u : Fin 32).val + (r : Fin 128).val, by omega⟩ d) = tails (ix2 u r)) (h2 : ∀ u d, x2 (ix2 u d) = tails (ix2 u 0))
    (hQ : ∀ t ht d, row x3 half t ht d = Q t d)
    (hK : ∀ t ht d, row x4 half t ht d = K t d) (k : Nat → Fin 64 → ℝ) (hk : ∀ t d, K t d = (k t d : EReal)) (u : Fin 32) :
    (fun v => Rz E half (ix2 u v)) = gRef Q K u := by
  funext v
  rw [Rz_eq, rzOf_apply]
  unfold gRef
  have e1 : (fun d => sq E half (ix2 u d)) = sqRef Q u := funext fun d => sq_match H half Q hQ u d
  have e2 : sk33 (sk E half) = skRef K := by
    funext v d
    unfold sk33 skRef
    by_cases h : v.val < 1
    · rw [dif_pos h, if_pos h]
    · rw [dif_neg h, if_neg h, sk_match H half K h1 h2 hK k hk]
  rw [e1, e2]

end Cert.Proof

end
-- ==== Proof.Att.lean ====
module

public import proofs.«01_k».proof.Proof.Route

@[expose] public section

noncomputable section

namespace Cert.Proof

open Idealize.ShloMosaic

/-- `catRef` over the reals. -/
def catR (n : Fin 64 → ℝ) (k : Nat → Fin 64 → ℝ) (v : Fin 33) (r : Nat) (d : Fin 64) : ℝ :=
  if v.val < 1 then n d else k (128 * (v.val - 1) + r) d

/-- The 256 rows a bucket attends to, over the reals: the chosen column `v`'s times `T`, and its own. -/
def keysR (T : ℝ) (v : Fin 33) (n : Fin 64 → ℝ) (k : Nat → Fin 64 → ℝ) (u : Fin 32) (j : Fin 256) (d : Fin 64) : ℝ :=
  if j.val < 128 then T * catR n k v j.val d else k (128 * u.val + (j.val - 128)) d

/-- The 256 rows a bucket attends to are real numbers where the inputs are. -/
theorem keysRef_real (g : Fin 33 → EReal) (T : ℝ) (hT : Finset.univ.sup g = (T : EReal)) (N : Fin 64 → EReal) (n : Fin 64 → ℝ) (hn : ∀ d, N d = (n d : EReal))
    (K : Nat → Fin 64 → EReal) (k : Nat → Fin 64 → ℝ) (hk : ∀ t d, K t d = (k t d : EReal)) (u : Fin 32) (j : Fin 256) (d : Fin 64) :
    keysRef g N K u j d = (keysR T (firstTop g) n k u j d : EReal) := by
  unfold keysRef keysR
  by_cases hj : j.val < 128
  · rw [if_pos hj, if_pos hj, Finset.sum_eq_single (firstTop g)]
    · unfold choice catRef catR
      rw [if_pos rfl, hT, EReal.coe_mul, coe_ite, hn, hk]
    · intro v _ hv
      unfold choice
      rw [if_neg hv, zero_mul]
    · intro h; exact absurd (Finset.mem_univ _) h
  · rw [if_neg hj, if_neg hj, hk]

/-- The score of row `r` of bucket `u` against key `j`, over the reals. -/
def scR (q : Nat → Fin 64 → ℝ) (kk : Fin 256 → Fin 64 → ℝ) (u : Fin 32) (r : Fin 128) (j : Fin 256) : ℝ :=
  (∑ d, q (128 * u.val + r.val) d * kk j d) * (1 / 8)

/-- No row is kept from its own key. -/
theorem own_ok (h : Fin 16) (u : Fin 32) (r : Fin 128) : ¬ Masked h u r ⟨128 + r.val, by omega⟩ := by
  unfold Masked
  simp only
  omega

/-- The reference's attention, over the reals. -/
theorem att_real (Q K V : Nat → Fin 64 → EReal) (nk nv : Fin 64 → EReal) (q k v : Nat → Fin 64 → ℝ) (mk mv : Fin 64 → ℝ)
    (hq : ∀ t d, Q t d = (q t d : EReal)) (hk : ∀ t d, K t d = (k t d : EReal)) (hv : ∀ t d, V t d = (v t d : EReal))
    (hnk : ∀ d, nk d = (mk d : EReal)) (hnv : ∀ d, nv d = (mv d : EReal))
    (h : Fin 16) (u : Fin 32) (r : Fin 128) (d : Fin 64) (T : ℝ) (hT : Finset.univ.sup (gRef Q K u) = (T : EReal)) :
    attRef Q K V nk nv h u r d
      = (((∑ j : Fin 256, if ¬ Masked h u r j then Real.exp (scR q (keysR T (firstTop (gRef Q K u)) mk k u) u r j) * keysR T (firstTop (gRef Q K u)) mv v u j d else 0)
          / (∑ j : Fin 256, if ¬ Masked h u r j then Real.exp (scR q (keysR T (firstTop (gRef Q K u)) mk k u) u r j) else 0) : ℝ) : EReal) := by
  unfold attRef soft
  simp only [keysRef_real (gRef Q K u) T hT nv mv hnv V v hv]
  refine soft_sum _ _ (fun j => ¬ Masked h u r j) ⟨128 + r.val, by omega⟩ (own_ok h u r) _ fun j => ?_
  unfold logit
  rw [ite_not]
  refine if_congr Iff.rfl rfl ?_
  unfold scR
  simp only [keysRef_real (gRef Q K u) T hT nk mk hnk K k hk, hq]
  rw [c8_eq, EReal.coe_mul, coe_sum]
  simp only [EReal.coe_mul]

/-- The largest routing weight is a real number. -/
theorem top_real (Q K : Nat → Fin 64 → EReal) (q k : Nat → Fin 64 → ℝ)
    (hq : ∀ t d, Q t d = (q t d : EReal)) (hk : ∀ t d, K t d = (k t d : EReal)) (u : Fin 32) : ∃ T : ℝ, Finset.univ.sup (gRef Q K u) = (T : EReal) := by
  have hs : ∀ (v : Fin 33) (d : Fin 64), ∃ x : ℝ, skRef K v d = (x : EReal) := by
    intro v d
    unfold skRef
    split
    · exact ⟨0, rfl⟩
    · simp only [avg_real K k hk]
      rw [← coe_sum]
      exact ⟨_, rfl⟩
  obtain ⟨p, hp⟩ := prob_real (sqRef Q u) (skRef K) u _ (fun v d => (hs v d).choose)
    (fun d => avg_real Q q hq (128 * u.val) d) (fun v d => (hs v d).choose_spec)
  obtain ⟨i, -, hi⟩ := Finset.exists_mem_eq_sup Finset.univ ⟨(0 : Fin 33), Finset.mem_univ _⟩ (gRef Q K u)
  exact ⟨p i, hi.trans (hp i)⟩

/-- The first bucket chooses with weight 0. -/
theorem top_zero (Q K : Nat → Fin 64 → EReal) (u : Fin 32) (hu : u.val = 0) : Finset.univ.sup (gRef Q K u) = 0 := by
  have e : gRef Q K u = fun _ => 0 := by
    funext v
    unfold gRef prob
    rw [if_neg (by omega)]
  rw [e]
  exact Finset.sup_const ⟨(0 : Fin 33), Finset.mem_univ _⟩ 0

/-- A sum over the 256 keys: the chosen bucket's, and the bucket's own. -/
theorem sum256 (f : Fin 256 → ℝ) : ∑ j, f j = (∑ i : Fin 128, f ⟨i.val, by omega⟩) + ∑ i : Fin 128, f ⟨128 + i.val, by omega⟩ :=
  Fin.sum_univ_add (a := 128) (b := 128) f

end Cert.Proof

end
-- ==== Proof.Cell.lean ====
module

public import proofs.«01_k».proof.Proof.Att

@[expose] public section

noncomputable section

namespace Cert.Proof

open Cert.KernelIdeal Cert.KernelIdeal.Gen
open Idealize.ShloMosaic Idealize.SL.Sem

/-- A bucket's quotient, over the reals. -/
theorem cellOf_real (eo eg : FVec Ideal S128x128 .f32) (v vg : Cell) (val : FVec Ideal S1x1 .f32) (r : Fin 128) (d : Fin 64)
    (eor egr vr vgr : Fin 128 → ℝ) (T : ℝ) (ho : ∀ j, eo (ix2 r j) = (eor j : EReal)) (hg : ∀ j, eg (ix2 r j) = (egr j : EReal))
    (hv : ∀ j, v (ix2 j d) = (vr j : EReal)) (hvg : ∀ j, vg (ix2 j d) = (vgr j : EReal)) (hT : val (ix2 0 0) = (T : EReal))
    (hp : (∑ j, egr j) + ∑ j, eor j ≠ 0) :
    cellOf eo eg v vg val (ix2 r d) = (((((∑ j, egr j * (T * vgr j)) + ∑ j, eor j * vr j) / ((∑ j, egr j) + ∑ j, eor j) : ℝ)) : EReal) := by
  rw [cellOf_apply]
  simp only [ho, hg, hv, hvg, hT]
  simp only [← EReal.coe_mul]
  rw [← coe_sum, ← coe_sum, ← coe_sum, ← coe_sum, ← EReal.coe_add, ← EReal.coe_add, div_real _ _ hp]
  simp only [mul_comm T]

/-- The first bucket's quotient, over the reals. -/
theorem cellZ_real (q k v : Cell) (r : Fin 128) (d : Fin 64)
    (eor vr : Fin 128 → ℝ) (ho : ∀ j, eOwn k0_pay352 q k (ix2 r j) = (eor j : EReal))
    (hv : ∀ j, v (ix2 j d) = (vr j : EReal)) (hp : (∑ j, eor j) + 128 ≠ 0) :
    cellZ q k v (ix2 r d) = (((∑ j, eor j * vr j) / ((∑ j, eor j) + 128) : ℝ) : EReal) := by
  rw [cellZ_apply]
  simp only [ho, hv]
  simp only [← EReal.coe_mul]
  rw [← coe_sum, ← coe_sum, ← EReal.coe_add, div_real _ _ hp]

variable {c : Dev nD} {E : Env c} {x1 : FVec Ideal S4096x64 .f32} {x2 : FVec Ideal S32x64 .f32} {x3 x4 x5 : FVec Ideal S1x2x1x4096x64 .f32}
    {x6 x7 : FVec Ideal S2x1x1x64 .f32} (H : Holds E x1 x2 x3 x4 x5 x6 x7)

/-- The rows of a column of the list are real numbers where the inputs are. -/
theorem catRow_real (x : FVec Ideal S1x2x1x4096x64 .f32) (xn : FVec Ideal S2x1x1x64 .f32) (half : Fin 2) (n : Fin 64 → ℝ) (k : Nat → Fin 64 → ℝ)
    (hx : ∀ t ht d, row x half t ht d = (k t d : EReal)) (hn : ∀ d, xn (ix4 half 0 0 d) = (n d : EReal)) (v : Fin 33) (r : Fin 128) (d : Fin 64) :
    catRow x xn half v r d = (catR n k v r.val d : EReal) := by
  unfold catRow catR
  by_cases h : v.val = 0
  · rw [if_pos h, if_pos (by omega), hn]
  · rw [if_neg h, if_neg (by omega), hx]

include H in
/-- A bucket of the kernel's result is the reference's attention over that bucket. -/
theorem cell_match (h1 : ∀ u r d, x1 (ix2 ⟨128 * (u : Fin 32).val + (r : Fin 128).val, by omega⟩ d) = tails (ix2 u r)) (h2 : ∀ u d, x2 (ix2 u d) = tails (ix2 u 0))
    (half : Fin 2) (h : Fin 16) (hh : 8 ≤ h.val ↔ half.val = 1)
    (Q K V : Nat → Fin 64 → EReal) (nk nv : Fin 64 → EReal) (q k v : Nat → Fin 64 → ℝ) (mk mv : Fin 64 → ℝ)
    (hq : ∀ t d, Q t d = (q t d : EReal)) (hk : ∀ t d, K t d = (k t d : EReal)) (hv : ∀ t d, V t d = (v t d : EReal))
    (hnk : ∀ d, nk d = (mk d : EReal)) (hnv : ∀ d, nv d = (mv d : EReal))
    (h3 : ∀ t ht d, row x3 half t ht d = Q t d) (h4 : ∀ t ht d, row x4 half t ht d = K t d) (h5 : ∀ t ht d, row x5 half t ht d = V t d)
    (h6 : ∀ d, x6 (ix4 half 0 0 d) = nk d) (h7 : ∀ d, x7 (ix4 half 0 0 d) = nv d)
    (u : Fin 32) (r : Fin 128) (d : Fin 64) :
    cell E half u (ix2 r d) = attRef Q K V nk nv h u r d := by
  obtain ⟨T, hT⟩ := top_real Q K q k hq hk u
  rw [att_real Q K V nk nv q k v mk mv hq hk hv hnk hnv h u r d T hT, sum256, sum256]
  have hR := Rz_match H half Q K h1 h2 h3 h4 k hk u
  have hval : val E half u (ix2 0 0) = (T : EReal) := by
    rw [val_apply]
    exact (congrArg (fun f : Fin 33 → EReal => Finset.univ.sup f) hR).trans hT
  have hch : chosen E half u = firstTop (gRef Q K u) := congrArg firstTop hR
  have hkr : ∀ t ht d, row x4 half t ht d = (k t d : EReal) := fun t ht d => (h4 t ht d).trans (hk t d)
  have hvr : ∀ t ht d, row x5 half t ht d = (v t d : EReal) := fun t ht d => (h5 t ht d).trans (hv t d)
  have hqc : ∀ (r : Fin 128) d, qC E half u (ix2 r d) = (q (128 * u.val + r.val) d : EReal) := fun r d => by rw [qC_apply H, h3, hq]
  have hkc : ∀ (r : Fin 128) d, kC E half u (ix2 r d) = (k (128 * u.val + r.val) d : EReal) := fun r d => by rw [kC_apply H, hkr]
  have hvc : ∀ (r : Fin 128) d, vC E half u (ix2 r d) = (v (128 * u.val + r.val) d : EReal) := fun r d => by rw [vC_apply H, hvr]
  have hkg : ∀ (j : Fin 128) d, kG E half u (ix2 j d) = (catR mk k (firstTop (gRef Q K u)) j.val d : EReal) := fun j d => by
    rw [kG_apply H, hch, catRow_real x4 x6 half mk k hkr fun d => (h6 d).trans (hnk d)]
  have hvg : ∀ (j : Fin 128) d, vG E half u (ix2 j d) = (catR mv v (firstTop (gRef Q K u)) j.val d : EReal) := fun j d => by
    rw [vG_apply H, hch, catRow_real x5 x7 half mv v hvr fun d => (h7 d).trans (hnv d)]
  generalize firstTop (gRef Q K u) = g at *
  -- the scores
  have hso : ∀ j : Fin 128, ex2 (∑ d : Fin 64, qC E half u (ix2 r d) * qs * kC E half u (ix2 j d))
      = ((Real.exp (scR q (keysR T g mk k u) u r ⟨128 + j.val, by omega⟩) : ℝ) : EReal) := fun j => by
    simp only [hqc, hkc]
    rw [ex2_dot]
    unfold scR keysR
    simp only [show ¬ (128 + j.val < 128) by omega, if_false, Nat.add_sub_cancel_left]
  have hsg : ∀ j : Fin 128, ex2 (∑ d : Fin 64, qC E half u (ix2 r d) * qs * (kG E half u (ix2 j d) * val E half u (ix2 0 0)))
      = ((Real.exp (scR q (keysR T g mk k u) u r ⟨j.val, by omega⟩) : ℝ) : EReal) := fun j => by
    simp only [hqc, hkg, hval, ← EReal.coe_mul (catR _ _ _ _ _)]
    rw [ex2_dot]
    unfold scR keysR
    simp only [j.isLt, if_true, mul_comm T]
  have hxo : ∀ j : Fin 128, keysR T g mv v u ⟨128 + j.val, by omega⟩ d = v (128 * u.val + j.val) d := fun j => by
    unfold keysR
    simp only [show ¬ (128 + j.val < 128) by omega, if_false, Nat.add_sub_cancel_left]
  have hxg : ∀ j : Fin 128, keysR T g mv v u ⟨j.val, by omega⟩ d = T * catR mv v g j.val d := fun j => by
    unfold keysR
    simp only [j.isLt, if_true]
  simp only [hxo, hxg]
  have hmo : ∀ j : Fin 128, (¬ Masked h u r ⟨128 + j.val, by omega⟩) ↔ (j ≤ r ∧ ¬ (half.val = 1 ∧ u.val = 31 ∧ 1 ≤ r.val ∧ j.val = 0)) := fun j => by
    unfold Masked
    rw [Fin.le_def]
    simp only
    omega
  have hmg : ∀ j : Fin 128, (¬ Masked h u r ⟨j.val, by omega⟩) ↔ ¬ (half.val = 1 ∧ u.val = 31 ∧ 1 ≤ r.val) := fun j => by
    unfold Masked
    simp only
    omega
  simp only [hmo, hmg]
  generalize hse : (fun j : Fin 128 => scR q (keysR T g mk k u) u r ⟨128 + j.val, by omega⟩) = so
  generalize hsge : (fun j : Fin 128 => scR q (keysR T g mk k u) u r ⟨j.val, by omega⟩) = sg
  have hse' : ∀ j : Fin 128, scR q (keysR T g mk k u) u r ⟨128 + j.val, by omega⟩ = so j := fun j => congrFun hse j
  have hsge' : ∀ j : Fin 128, scR q (keysR T g mk k u) u r ⟨j.val, by omega⟩ = sg j := fun j => congrFun hsge j
  simp only [hse', hsge'] at hso hsg ⊢
  have hpo : ∀ (P : Fin 128 → Prop) [DecidablePred P], P r → (0 : ℝ) < ∑ j, if P j then Real.exp (so j) else 0 := fun P _ hP =>
    Finset.sum_pos' (fun j _ => by split <;> positivity) ⟨r, Finset.mem_univ _, by rw [if_pos hP]; positivity⟩
  have hnn : ∀ (P : Fin 128 → Prop) [DecidablePred P], (0 : ℝ) ≤ ∑ j, if P j then Real.exp (sg j) else 0 := fun P _ =>
    Finset.sum_nonneg fun j _ => by split <;> positivity
  unfold cell
  by_cases hu : u.val = 0
  · rw [if_pos hu]
    have hT0 : T = 0 := by
      have := hT.symm.trans (top_zero Q K u hu)
      exact_mod_cast this
    have hsg0 : ∀ j, sg j = 0 := fun j => by
      rw [← hsge' j]
      unfold scR keysR
      simp only [j.isLt, if_true, hT0, zero_mul, mul_zero, Finset.sum_const_zero]
    rw [cellZ_real _ _ _ r d (fun j => if j ≤ r then Real.exp (so j) else 0) (fun j => v (128 * u.val + j.val) d)
      (fun j => by rw [eOwn_apply, hso, coe_ite]; rfl) (fun j => hvc j d) (by have := hpo (fun j => j ≤ r) le_rfl; positivity)]
    congr 1
    have hn : ¬ (half.val = 1 ∧ u.val = 31 ∧ 1 ≤ r.val) := by omega
    have hn' : ∀ j : Fin 128, (j ≤ r ∧ ¬ (half.val = 1 ∧ u.val = 31 ∧ 1 ≤ r.val ∧ j.val = 0)) ↔ j ≤ r := fun j => by
      rw [and_iff_left_iff_imp]; omega
    simp only [hn, hn', hsg0, hT0, not_false_eq_true, if_true, Real.exp_zero, zero_mul, mul_zero, Finset.sum_const_zero, zero_add, ite_mul]
    rw [Finset.sum_const, Finset.card_univ, Fintype.card_fin, add_comm]
    norm_num
  · rw [if_neg hu]
    by_cases hl : 32 * half.val + u.val = 63
    · rw [if_pos hl]
      have hm : half.val = 1 ∧ u.val = 31 := by omega
      rw [cellOf_real _ _ _ _ _ r d (fun j => if j ≤ r ∧ ¬ (j.val = 0 ∧ 1 ≤ r.val) then Real.exp (so j) else 0) (fun j => if r.val = 0 then Real.exp (sg j) else 0)
        (fun j => v (128 * u.val + j.val) d) (fun j => catR mv v g j.val d) T
        (fun j => by rw [eOwnL_apply, hso, coe_ite]; rfl) (fun j => by rw [eFarL_apply, hsg, coe_ite]; rfl) (fun j => hvc j d) (fun j => hvg j d) hval
        (add_pos_of_nonneg_of_pos (hnn fun _ => r.val = 0) (hpo (fun j => j ≤ r ∧ ¬ (j.val = 0 ∧ 1 ≤ r.val)) ⟨le_rfl, by omega⟩)).ne']
      have e1 : ∀ j : Fin 128, (j ≤ r ∧ ¬ (half.val = 1 ∧ u.val = 31 ∧ 1 ≤ r.val ∧ j.val = 0)) ↔ (j ≤ r ∧ ¬ (j.val = 0 ∧ 1 ≤ r.val)) := fun j => by
        refine and_congr_right fun _ => not_congr ?_
        omega
      have e2 : (¬ (half.val = 1 ∧ u.val = 31 ∧ 1 ≤ r.val)) ↔ r.val = 0 := by omega
      simp only [e1, e2, ite_mul, zero_mul]
    · rw [if_neg hl]
      rw [cellOf_real _ _ _ _ _ r d (fun j => if j ≤ r then Real.exp (so j) else 0) (fun j => Real.exp (sg j))
        (fun j => v (128 * u.val + j.val) d) (fun j => catR mv v g j.val d) T
        (fun j => by rw [eOwn_apply, hso, coe_ite]; rfl) (fun j => by rw [eFar_apply, hsg]) (fun j => hvc j d) (fun j => hvg j d) hval
        (by have := hpo (fun j => j ≤ r) le_rfl
            have h0 : (0 : ℝ) ≤ ∑ j, Real.exp (sg j) := Finset.sum_nonneg fun j _ => (Real.exp_pos _).le
            exact (add_pos_of_nonneg_of_pos h0 this).ne')]
      have hn : ¬ (half.val = 1 ∧ u.val = 31 ∧ 1 ≤ r.val) := by omega
      have hn' : ∀ j : Fin 128, (j ≤ r ∧ ¬ (half.val = 1 ∧ u.val = 31 ∧ 1 ≤ r.val ∧ j.val = 0)) ↔ j ≤ r := fun j => by
        rw [and_iff_left_iff_imp]; omega
      simp only [hn, hn', not_false_eq_true, if_true, ite_mul, zero_mul]

end Cert.Proof

end
-- ==== Proof.RefOut.lean ====
module

public import proofs.«01_k».proof.Proof.RefAtt

@[expose] public section

noncomputable section

namespace Cert.Proof

open Cert.ReferenceIdeal Cert.ReferenceIdeal.Gen Cert.ReferenceIdeal.Read
open Idealize.ShloMosaic

/-- The rotated position that lands at `p` of head `h`. -/
def unrot16 (h p : Nat) : Nat := if h < 8 then p else (p + 3969) % 4096

/-- A position rotated back is a position. -/
theorem unrot16_lt {h p : Nat} (hp : p < 4096) : unrot16 h p < 4096 := by unfold unrot16; split <;> omega

/-- The result out of its buckets, index by index. -/
theorem v121_apply (q k v : Arg) (nk nv : Null) (b : Fin 2) (h : Fin 16) (t : Fin 4096) (d : Fin 64) :
    val_main_v121 (F := Ideal) q k v nk nv (ix4 b h t d)
      = val_main_v120 (F := Ideal) q k v nk nv (ix5 b h ⟨t.val / 128, by omega⟩ ⟨t.val % 128, by omega⟩ d) := by
  unfold val_main_v121
  generalize val_main_v120 (F := Ideal) q k v nk nv = y
  pointwise []

/-- The second half of the heads rotated back, index by index. -/
theorem v126_apply (q k v : Arg) (nk nv : Null) (b : Fin 2) (h : Fin 8) (p : Fin 4096) (d : Fin 64) :
    val_main_v126 (F := Ideal) q k v nk nv (ix4 b h p d)
      = val_main_v121 (F := Ideal) q k v nk nv (ix4 b ⟨8 + h.val, by omega⟩ ⟨(p.val + 3969) % 4096, by omega⟩ d) := by
  unfold val_main_v126 val_main_v125 val_main_v124 val_main_v122
  generalize val_main_v121 (F := Ideal) q k v nk nv = y
  by_cases hp : p.val < 127
  · rw [show (⟨(p.val + 3969) % 4096, by omega⟩ : Fin 4096) = ⟨3969 + p.val, by omega⟩ from Fin.ext (by show (p.val + 3969) % 4096 = 3969 + p.val; omega)]
    pointwise [hp]
  · rw [show (⟨(p.val + 3969) % 4096, by omega⟩ : Fin 4096) = ⟨p.val - 127, by omega⟩ from Fin.ext (by show (p.val + 3969) % 4096 = p.val - 127; omega)]
    pointwise [hp]

/-- All heads, index by index. -/
theorem v127_apply (q k v : Arg) (nk nv : Null) (b : Fin 2) (h : Fin 16) (p : Fin 4096) (d : Fin 64) :
    val_main_v127 (F := Ideal) q k v nk nv (ix4 b h p d)
      = val_main_v121 (F := Ideal) q k v nk nv (ix4 b h ⟨unrot16 h.val p.val, unrot16_lt p.isLt⟩ d) := by
  by_cases hh : h.val < 8
  · simp only [unrot16, if_pos hh]
    unfold val_main_v127 val_main_v123
    generalize val_main_v126 (F := Ideal) q k v nk nv = z
    generalize val_main_v121 (F := Ideal) q k v nk nv = y
    pointwise [hh]
  · simp only [unrot16, if_neg hh]
    have e := v126_apply q k v nk nv b ⟨h.val - 8, by omega⟩ p d
    rw [show (⟨8 + (⟨h.val - 8, by omega⟩ : Fin 8).val, by omega⟩ : Fin 16) = h from Fin.ext (by show 8 + (h.val - 8) = h.val; omega)] at e
    rw [← e]
    unfold val_main_v127 val_main_v123
    generalize val_main_v126 (F := Ideal) q k v nk nv = z
    generalize val_main_v121 (F := Ideal) q k v nk nv = y
    pointwise [hh]

/-- The reference's result at an index. -/
theorem ref_apply (q k v : Arg) (nk nv : Null) (b : Fin 2) (h : Fin 16) (p : Fin 4096) (d : Fin 64) :
    val_main_v127 (F := Ideal) q k v nk nv (ix4 b h p d)
      = attRef (rrow q b h) (rrow k b h) (rrow v b h) (nrow nk h) (nrow nv h) h
        ⟨unrot16 h.val p.val / 128, by have := unrot16_lt (h := h.val) p.isLt; omega⟩ ⟨unrot16 h.val p.val % 128, by omega⟩ d := by
  rw [v127_apply, v121_apply, v120_apply]

end Cert.Proof

end
-- ==== Proof.KOut.lean ====
module

public import proofs.«01_k».proof.Proof.Cell
public import proofs.«01_k».proof.Proof.RefOut

@[expose] public section

set_option maxRecDepth 16384

noncomputable section

namespace Cert.Proof

open Cert.KernelIdeal Cert.KernelIdeal.Gen
open Idealize.ShloMosaic Idealize.ShloMosaic.TcCoe Idealize.SL.Sem
open Idealize.ShloMosaic.Pipeline (Dat)

/-- What the body writes to its result block, from what the buffers of its operands hold. -/
theorem body_writes (c : Dev nD) (i : grid0.Coords)
    (M1 : Memref sig .tc .vmem S4096x64 .f32) (h1 : M1.IsWhole)
    (M2 : Memref sig .tc .vmem S32x64 .f32) (h2 : M2.IsWhole)
    (M3 : Memref sig .tc .vmem S1x2x1x4096x64 .f32) (h3 : M3.IsWhole)
    (M4 : Memref sig .tc .vmem S1x2x1x4096x64 .f32) (h4 : M4.IsWhole)
    (M5 : Memref sig .tc .vmem S1x2x1x4096x64 .f32) (h5 : M5.IsWhole)
    (M6 : Memref sig .tc .vmem S2x1x1x64 .f32) (h6 : M6.IsWhole)
    (M7 : Memref sig .tc .vmem S2x1x1x64 .f32) (h7 : M7.IsWhole)
    (M8 : Memref sig .tc .vmem S1x2x1x4096x64 .f32) (h8 : M8.IsWhole)
    (M9 : Memref sig .tc .vmem S64x128 .i32) (h9 : M9.IsWhole)
    (M10 : Memref sig .tc .vmem S4096x64 .f32) (h10 : M10.IsWhole)
    (M11 : Memref sig .tc .vmem S4096x64 .f32) (h11 : M11.IsWhole)
    (M12 : Memref sig .tc .vmem S4096x64 .f32) (h12 : M12.IsWhole)
    (f1 : Bf c M1) (f2 : Bf c M2) (f3 : Bf c M3) (f4 : Bf c M4) (f5 : Bf c M5) (f6 : Bf c M6) (f7 : Bf c M7) :
    (bodyRun c i M1 h1 M2 h2 M3 h3 M4 h4 M5 h5 M6 h6 M7 h7 M8 h8 M9 h9 M10 h10 M11 h11 M12 h12 f1 f2 f3 f4 f5 f6 f7).1
      = M8.view.writes (Elt Ideal) M8.view.junk (bodyRun.sl.H8_9 c M1 M2 M3 M4 M5 M6 M7 M9 M10 M11 M12 f1 f2 f3 f4 f5 f6 f7) := by
  unfold bodyRun
  dsimp only

/-- The same, with the buffers and their contents together. -/
theorem body_read (c : Dev nD) (i : grid0.Coords)
    (M1 : Memref sig .tc .vmem S4096x64 .f32) (h1 : M1.IsWhole)
    (M2 : Memref sig .tc .vmem S32x64 .f32) (h2 : M2.IsWhole)
    (M3 : Memref sig .tc .vmem S1x2x1x4096x64 .f32) (h3 : M3.IsWhole)
    (M4 : Memref sig .tc .vmem S1x2x1x4096x64 .f32) (h4 : M4.IsWhole)
    (M5 : Memref sig .tc .vmem S1x2x1x4096x64 .f32) (h5 : M5.IsWhole)
    (M6 : Memref sig .tc .vmem S2x1x1x64 .f32) (h6 : M6.IsWhole)
    (M7 : Memref sig .tc .vmem S2x1x1x64 .f32) (h7 : M7.IsWhole)
    (M8 : Memref sig .tc .vmem S1x2x1x4096x64 .f32) (h8 : M8.IsWhole)
    (M9 : Memref sig .tc .vmem S64x128 .i32) (h9 : M9.IsWhole)
    (M10 : Memref sig .tc .vmem S4096x64 .f32) (h10 : M10.IsWhole)
    (M11 : Memref sig .tc .vmem S4096x64 .f32) (h11 : M11.IsWhole)
    (M12 : Memref sig .tc .vmem S4096x64 .f32) (h12 : M12.IsWhole)
    (f1 : Bf c M1) (f2 : Bf c M2) (f3 : Bf c M3) (f4 : Bf c M4) (f5 : Bf c M5) (f6 : Bf c M6) (f7 : Bf c M7) (y : S1x2x1x4096x64.Idx) :
    M8.view.read (Elt Ideal) (bodyRun c i M1 h1 M2 h2 M3 h3 M4 h4 M5 h5 M6 h6 M7 h7 M8 h8 M9 h9 M10 h10 M11 h11 M12 h12 f1 f2 f3 f4 f5 f6 f7).1 y
      = atPos (⟨M1, M2, M3, M4, M5, M6, M7, M9, M10, M11, M12, f1, f2, f3, f4, f5, f6, f7⟩ : Env c) y := by
  rw [body_writes]
  have e := writes_eq (⟨M1, M2, M3, M4, M5, M6, M7, M9, M10, M11, M12, f1, f2, f3, f4, f5, f6, f7⟩ : Env c)
  dsimp only at e
  rw [e, outBlk_read]

/-- The body's result block, position by position, with the operands' blocks it was given. -/
theorem outBlk_at (c : Dev nD) (i : grid0.Coords)
    (M1 : Memref sig .tc .vmem S4096x64 .f32) (h1 : M1.IsWhole)
    (M2 : Memref sig .tc .vmem S32x64 .f32) (h2 : M2.IsWhole)
    (M3 : Memref sig .tc .vmem S1x2x1x4096x64 .f32) (h3 : M3.IsWhole)
    (M4 : Memref sig .tc .vmem S1x2x1x4096x64 .f32) (h4 : M4.IsWhole)
    (M5 : Memref sig .tc .vmem S1x2x1x4096x64 .f32) (h5 : M5.IsWhole)
    (M6 : Memref sig .tc .vmem S2x1x1x64 .f32) (h6 : M6.IsWhole)
    (M7 : Memref sig .tc .vmem S2x1x1x64 .f32) (h7 : M7.IsWhole)
    (M8 : Memref sig .tc .vmem S1x2x1x4096x64 .f32) (h8 : M8.IsWhole)
    (M9 : Memref sig .tc .vmem S64x128 .i32) (h9 : M9.IsWhole)
    (M10 : Memref sig .tc .vmem S4096x64 .f32) (h10 : M10.IsWhole)
    (M11 : Memref sig .tc .vmem S4096x64 .f32) (h11 : M11.IsWhole)
    (M12 : Memref sig .tc .vmem S4096x64 .f32) (h12 : M12.IsWhole)
    (x1 : FVec Ideal S4096x64 .f32) (x2 : FVec Ideal S32x64 .f32) (x3 x4 x5 : FVec Ideal S1x2x1x4096x64 .f32) (x6 x7 : FVec Ideal S2x1x1x64 .f32) :
    ∃ E : Env c, Holds E x1 x2 x3 x4 x5 x6 x7
      ∧ ∀ y, outBlk c i M1 h1 M2 h2 M3 h3 M4 h4 M5 h5 M6 h6 M7 h7 M8 h8 M9 h9 M10 h10 M11 h11 M12 h12 x1 x2 x3 x4 x5 x6 x7 y = atPos E y := by
  obtain ⟨f1, g1, e1⟩ : ∃ f : Bf c M1, h1.unread x1 = f ∧ M1.view.read (Elt Ideal) f = x1 := ⟨_, rfl, Memref.IsWhole.read_unread (Val := Elt Ideal) h1 x1⟩
  obtain ⟨f2, g2, e2⟩ : ∃ f : Bf c M2, h2.unread x2 = f ∧ M2.view.read (Elt Ideal) f = x2 := ⟨_, rfl, Memref.IsWhole.read_unread (Val := Elt Ideal) h2 x2⟩
  obtain ⟨f3, g3, e3⟩ : ∃ f : Bf c M3, h3.unread x3 = f ∧ M3.view.read (Elt Ideal) f = x3 := ⟨_, rfl, Memref.IsWhole.read_unread (Val := Elt Ideal) h3 x3⟩
  obtain ⟨f4, g4, e4⟩ : ∃ f : Bf c M4, h4.unread x4 = f ∧ M4.view.read (Elt Ideal) f = x4 := ⟨_, rfl, Memref.IsWhole.read_unread (Val := Elt Ideal) h4 x4⟩
  obtain ⟨f5, g5, e5⟩ : ∃ f : Bf c M5, h5.unread x5 = f ∧ M5.view.read (Elt Ideal) f = x5 := ⟨_, rfl, Memref.IsWhole.read_unread (Val := Elt Ideal) h5 x5⟩
  obtain ⟨f6, g6, e6⟩ : ∃ f : Bf c M6, h6.unread x6 = f ∧ M6.view.read (Elt Ideal) f = x6 := ⟨_, rfl, Memref.IsWhole.read_unread (Val := Elt Ideal) h6 x6⟩
  obtain ⟨f7, g7, e7⟩ : ∃ f : Bf c M7, h7.unread x7 = f ∧ M7.view.read (Elt Ideal) f = x7 := ⟨_, rfl, Memref.IsWhole.read_unread (Val := Elt Ideal) h7 x7⟩
  refine ⟨⟨M1, M2, M3, M4, M5, M6, M7, M9, M10, M11, M12, f1, f2, f3, f4, f5, f6, f7⟩, ⟨e1, e2, e3, e4, e5, e6, e7⟩, fun y => ?_⟩
  unfold outBlk
  rw [g1, g2, g3, g4, g5, g6, g7]
  exact body_read c i M1 h1 M2 h2 M3 h3 M4 h4 M5 h5 M6 h6 M7 h7 M8 h8 M9 h9 M10 h10 M11 h11 M12 h12 f1 f2 f3 f4 f5 f6 f7 y

variable (m : (ℓ : Loc nD τ sig) → Buf (Elt Ideal) ℓ)

/-- The queries on a core. -/
abbrev aq (c : Dev nD) : FVec Ideal S2x16x4096x64 .f32 := m ((c : Thread nD τ).loc main_arg0)
/-- The keys on a core. -/
abbrev ak (c : Dev nD) : FVec Ideal S2x16x4096x64 .f32 := m ((c : Thread nD τ).loc main_arg1)
/-- The values on a core. -/
abbrev av (c : Dev nD) : FVec Ideal S2x16x4096x64 .f32 := m ((c : Thread nD τ).loc main_arg2)
/-- The null keys on a core. -/
abbrev ank (c : Dev nD) : FVec Ideal S16x1x64 .f32 := m ((c : Thread nD τ).loc main_arg3)
/-- The null values on a core. -/
abbrev anv (c : Dev nD) : FVec Ideal S16x1x64 .f32 := m ((c : Thread nD τ).loc main_arg4)

/-- Every element is a real number. -/
def Real4 (x : FVec Ideal S2x16x4096x64 .f32) : Prop := ∀ i, ∃ r : ℝ, x i = (r : EReal)
/-- The same of a null argument. -/
def Real3 (x : FVec Ideal S16x1x64 .f32) : Prop := ∀ i, ∃ r : ℝ, x i = (r : EReal)

/-- The five arguments hold real numbers. -/
structure Finite (c : Dev nD) : Prop where
  q : Real4 (aq m c)
  k : Real4 (ak m c)
  v : Real4 (av m c)
  nk : Real3 (ank m c)
  nv : Real3 (anv m c)

/-- The rows of such an argument are rows of real numbers. -/
theorem rrow_real (x : FVec Ideal S2x16x4096x64 .f32) (hx : Real4 x) (b : Fin 2) (h : Fin 16) : ∃ f : Nat → Fin 64 → ℝ, ∀ t d, rrow x b h t d = (f t d : EReal) := by
  have e : ∀ t d, ∃ r : ℝ, rrow x b h t d = (r : EReal) := fun t d => by
    unfold rrow
    split
    · exact hx _
    · exact ⟨0, rfl⟩
  exact ⟨fun t d => (e t d).choose, fun t d => (e t d).choose_spec⟩

/-- The null rows of such an argument are rows of real numbers. -/
theorem nrow_real (x : FVec Ideal S16x1x64 .f32) (hx : Real3 x) (h : Fin 16) : ∃ f : Fin 64 → ℝ, ∀ d, nrow x h d = (f d : EReal) :=
  ⟨fun d => (hx (ix3 h 0 d)).choose, fun d => (hx (ix3 h 0 d)).choose_spec⟩

/-- A block's row of an argument is the reference's row of it. -/
theorem row_rrow (X : FVec Ideal S1x2x1x4096x64 .f32) (x : FVec Ideal S2x16x4096x64 .f32) (b : Fin 2) (half : Fin 2) (h : Fin 16) (hh : 8 ≤ h.val ↔ half.val = 1)
    (e : ∀ r d, X (ix5 0 half 0 r d) = x (ix4 b h r d)) (t : Nat) (ht : t < 4096) (d : Fin 64) : row X half t ht d = rrow x b h t d := by
  unfold row rrow
  rw [dif_pos ht, e]
  have er : rot half t = rot16 h.val t := by
    unfold rot rot16
    by_cases h0 : half.val = 0
    · rw [if_pos h0, if_pos (by omega)]
    · rw [if_neg h0, if_neg (by omega)]
  simp only [er]

/-- The result block at point `t`: the reference's result at the batch and head of the block. -/
theorem resBlk_apply (c : Dev nD) (hf : Finite m c) (t : Fin cfg0.N) (half : Fin 2) (p : Fin 4096) (d : Fin 64) :
    resBlk m c t (ix5 0 half 0 p d)
      = Cert.ReferenceIdeal.Read.val_main_v127 (F := Ideal) (aq m c) (ak m c) (av m c) (ank m c) (anv m c)
        (ix4 ⟨t.val / 8, by have := (idx t).2.2.2.2.2.2.2.2; omega⟩ ⟨half.val * 8 + t.val % 8, by omega⟩ p d) := by
  have ht := (idx t).2.2.2.2.2.2.2.2
  obtain ⟨E, H, hE⟩ := outBlk_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)
    (iblk m c 0 t) (iblk m c 1 t) (iblk m c 2 t) (iblk m c 3 t) (iblk m c 4 t) (iblk m c 5 t) (iblk m c 6 t)
  unfold resBlk
  rw [hE, ref_apply]
  have hh : 8 ≤ (⟨half.val * 8 + t.val % 8, by omega⟩ : Fin 16).val ↔ half.val = 1 := by simp only; omega
  have hb2 := fun r d => blk2 m c t half r d
  have hb3 := fun r d => blk3 m c t half r d
  have hb4 := fun r d => blk4 m c t half r d
  have hb5 := fun d => blk5 m c t half d
  have hb6 := fun d => blk6 m c t half d
  generalize (⟨half.val * 8 + t.val % 8, by omega⟩ : Fin 16) = h at *
  generalize (⟨t.val / 8, by omega⟩ : Fin 2) = b at *
  obtain ⟨q, hq⟩ := rrow_real (aq m c) hf.q b h
  obtain ⟨k, hk⟩ := rrow_real (ak m c) hf.k b h
  obtain ⟨v, hv⟩ := rrow_real (av m c) hf.v b h
  obtain ⟨mk, hmk⟩ := nrow_real (ank m c) hf.nk h
  obtain ⟨mv, hmv⟩ := nrow_real (anv m c) hf.nv h
  have eu : unrot half p.val = unrot16 h.val p.val := by
    unfold unrot unrot16
    by_cases h0 : half.val = 0
    · rw [if_pos h0, if_pos (by omega)]
    · rw [if_neg h0, if_neg (by omega)]
  refine Eq.trans ?_ (cell_match H (fun u r d => blk0 m c t u r d) (fun u d => blk1 m c t u d) half h hh _ _ _ _ _ q k v mk mv hq hk hv hmk hmv
    (row_rrow _ _ b half h hh hb2) (row_rrow _ _ b half h hh hb3) (row_rrow _ _ b half h hh hb4) hb5 hb6 _ _ d)
  show rowOf E half (unrot half p.val) _ d = _
  unfold rowOf
  simp only [eu]

/-- An index of the result block has 0 on its two axes of one place. -/
theorem blkIdx (y : S1x2x1x4096x64.Idx) : y = ix5 0 (y 1) 0 (y 3) (y 4) := by
  funext a
  match a with
  | 0 => exact @Subsingleton.elim (Fin 1) _ _ _
  | 1 => rfl
  | 2 => exact @Subsingleton.elim (Fin 1) _ _ _
  | 3 => rfl
  | 4 => rfl

/-- The result array after the run. -/
def result (c : Dev nD) : FVec Ideal S2x2x8x4096x64 .f32 := fun y =>
  Cert.ReferenceIdeal.Read.val_main_v127 (F := Ideal) (aq m c) (ak m c) (av m c) (ank m c) (anv m c)
    (ix4 (y 0) ⟨(y 1).val * 8 + (y 2).val, by have := (y 1).isLt; have := (y 2).isLt; simp at *; omega⟩ (y 3) (y 4))

/-- Point by point the grid fills the result array. -/
theorem final (c : Dev nD) (hf : Finite m c) : (dats m 0 c).arrAt 7 (cfgs 0).N = result m c := by
  refine (dats m 0 c).arrAt_eq_of_covers 7 _ (by decide +kernel) fun t hfl y => ?_
  blk_simp
  rw [after0_7]
  rw [blkIdx y]
  refine (resBlk_apply m c hf t (y 1) (y 3) (y 4)).trans ?_
  have e := emb7 t (y 1) (y 3) (y 4)
  exact (congrArg (result m c) e).symm

end Cert.Proof

end
-- ==== Proof.Pre.lean ====
module

public import proofs.«01_k».proof.Defs
public import proofs.«01_k».proof.Proof.KOut
public import proofs.«01_k».proof.Proof.Gen.Pre_finite_inputs
public import Idealize.ShloMosaic.Lib.ReduceAll

@[expose] public section

set_option maxRecDepth 16384

noncomputable section

namespace Cert.Proof

open Idealize.ShloMosaic Idealize.ShloMosaic.TcCoe Idealize.SL.Sem

/-- An absolute value below plus infinity is a real number's. -/
theorem real_of_abs (x : EReal) (h : FloatOps.cmpf (F := Ideal) (φ := .f32) .olt (FloatOps.hostAbsf (F := Ideal) (φ := .f32) x) (Ideal.ofBits .f32 0x7F800000#32) = 1#1) : ∃ r : ℝ, x = (r : EReal) := by
  rw [show Ideal.ofBits .f32 0x7F800000#32 = ⊤ from ofBits_inf] at h
  have h' : max x (-x) < ⊤ := by
    by_contra hn
    have e : FloatOps.cmpf (F := Ideal) (φ := .f32) .olt (FloatOps.hostAbsf (F := Ideal) (φ := .f32) x) (⊤ : EReal) = BitVec.ofBool (decide (max x (-x) < ⊤)) := rfl
    rw [e, decide_eq_false hn] at h
    exact absurd h (by decide)
  induction x with
  | bot => simp at h'
  | top => simp at h'
  | coe r => exact ⟨r, rfl⟩

/-- The two ones of a conjunction. -/
theorem andi_ones (a b : BitVec 1) (h : IntOp.andi a b = 1#1) : a = 1#1 ∧ b = 1#1 := by
  revert a b; decide

/-- The precondition says that the five arguments hold real numbers. -/
theorem finite_of_pre (m : (ℓ : Loc Cert.KernelIdeal.nD Cert.KernelIdeal.τ Cert.KernelIdeal.sig) → Buf (Elt Ideal) ℓ)
    (h : Cert.Pre_KernelIdeal_finite_inputs m) (c : Dev Cert.KernelIdeal.nD) : Finite m c := by
  have e := congrFun (h c) ix0
  obtain ⟨e, e4⟩ := andi_ones _ _ e
  obtain ⟨e, e3⟩ := andi_ones _ _ e
  obtain ⟨e, e2⟩ := andi_ones _ _ e
  obtain ⟨e0, e1⟩ := andi_ones _ _ e
  haveI : Subsingleton Cert.Pre_finite_inputs.S_.Idx := ⟨fun a b => funext fun i => i.elim0⟩
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i),
    fun i => real_of_abs _ (Host.reduce_andi_all _ _ _ _ _ e4 i)⟩

end Cert.Proof

end
-- ==== Proof.Value.lean ====
module

public import proofs.«01_k».proof.Proof.KOut
public import proofs.«01_k».proof.Proof.KRun
public import Idealize.ShloMosaic.Lib.Pointwise
public import Idealize.ShloMosaic.Lib.StableHlo.RunRead

@[expose] public section

noncomputable section

namespace Cert.Proof

open Cert.KernelIdeal Cert.KernelIdeal.Gen
open Idealize.ShloMosaic Idealize.ShloMosaic.TcCoe Idealize.SL.Sem

variable (m : (ℓ : Loc nD τ sig) → Buf (Elt Ideal) ℓ)

/-- Joining the two halves of the heads again, index by index. -/
theorem join_apply (x : FVec Ideal S2x2x8x4096x64 .f32) (b : Fin 2) (h : Fin 16) (r : Fin 4096) (d : Fin 64) :
    shapeCast S2x16x4096x64 x shapeCasts_S2x2x8x4096x64_S2x16x4096x64 (ix4 b h r d) = x (ix5 b ⟨h.val / 8, by omega⟩ ⟨h.val % 8, by omega⟩ r d) := by
  pointwise

/-- The reference's result of the five arguments on a core. -/
abbrev refOut (c : Dev nD) : FVec Ideal S2x16x4096x64 .f32 :=
  Cert.ReferenceIdeal.Read.val_main_v127 (F := Ideal) (aq m c) (ak m c) (av m c) (ank m c) (anv m c)

/-- The result array with the halves of the heads joined is the reference's result. -/
theorem join_result (c : Dev nD) : shapeCast S2x16x4096x64 (result m c) shapeCasts_S2x2x8x4096x64_S2x16x4096x64 = refOut m c := by
  funext i
  obtain ⟨b, h, r, d, rfl⟩ : ∃ b h r d, i = ix4 b h r d := ⟨i 0, i 1, i 2, i 3, by funext a; fin_cases a <;> rfl⟩
  rw [join_apply]
  unfold result
  have e : (ix4 b ⟨h.val / 8 * 8 + h.val % 8, by have := h.isLt; omega⟩ r d : S2x16x4096x64.Idx) = ix4 b h r d :=
    congrArg (fun z => (ix4 b z r d : S2x16x4096x64.Idx)) (Fin.ext (Nat.div_add_mod' h.val 8))
  exact congrArg (refOut m c) e

/-- What the kernel's result buffer holds after the run: the reference's result. -/
theorem kernel_value (c : Dev nD) (hf : Finite m c) :
    (Pipeline.afterTail₀ cfgs (dats m) 0 (V0 m) [hostOps1] c main_v23 : FVec Ideal S2x16x4096x64 .f32) = refOut m c := by
  unfold Pipeline.afterTail₀
  have e : (Pipeline.withArrays (cfgs 0).spec c (V0 m c) (fun w => (dats m 0 c).arrAt w (cfgs 0).N) (Proc.devRef .tc main_v22) : FVec Ideal S2x2x8x4096x64 .f32) = result m c :=
    (Pipeline.withArrays_arr (cfgs 0).spec winFacts0.arr_inj c (V0 m c) _ 7).trans (final m c hf)
  refine Eq.trans ?_ (join_result m c)
  rw [← e]
  generalize Pipeline.withArrays (cfgs 0).spec c (V0 m c) (fun w => (dats m 0 c).arrAt w (cfgs 0).N) = W
  show StableHlo.after (List.flatten [hostOps1]) W (Proc.devRef .tc main_v23) = _
  simp only [hostOps1, List.flatten_cons, List.flatten_nil, List.append_nil, List.cons_append, List.nil_append]
  entry_read
  rfl

/-- The run ends with the reference's result in the kernel's result buffer. -/
theorem kernel_run (ρ : Dev nD → PrngReg) (hf : ∀ c, Finite m c) :
    θ_run defs (onTc (τ := τ) (main (F := Ideal))) ⟨m, fun _ => 0, ρ⟩ (fun r => ∀ c : Dev nD, r.2.mem ((c.tc : Thread nD τ).loc main_v23) = refOut m c) :=
  (θ_run defs _ _).mono (fun _ h c => ((h c).2 main_v23 (Pipeline.mem_restRefs_of main_v23 (by decide) (by decide))).trans (kernel_value m c (hf c))) (run_main m ρ)

end Cert.Proof

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.KRun
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem

/-- The kernel runs from any memory, leaves its arguments as they were and every counter at zero. -/
theorem frame_kernel : Cert.quiescent_KernelIdeal (hKernelIdeal := Cert.KernelIdeal.Gen.facts) := fun m ρ _ => frame_pi m ρ

/-- The same for arguments that satisfy the precondition. -/
theorem frame_kernel_pre : Cert.quiescent_KernelIdeal_pre_finite_inputs (hKernelIdeal := Cert.KernelIdeal.Gen.facts)
    (hPre_finite_inputs := Cert.Pre_finite_inputs.Gen.facts) := fun m ρ _ => frame_pi m ρ

/-- The reference runs from any memory, leaves its arguments as they were and every counter at zero. -/
theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The same for arguments that satisfy the precondition. -/
theorem frame_reference_pre : Cert.quiescent_ReferenceIdeal_pre_finite_inputs (hReferenceIdeal := Cert.ReferenceIdeal.Gen.facts)
    (hPre_finite_inputs := Cert.Pre_finite_inputs.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- The reference's result depends on its five arguments only. -/
theorem refVal_congr {q q' k k' v v' : FVec Ideal Cert.ReferenceIdeal.S2x16x4096x64 .f32} {nk nk' nv nv' : FVec Ideal Cert.ReferenceIdeal.S16x1x64 .f32}
    (e0 : q' = q) (e1 : k' = k) (e2 : v' = v) (e3 : nk' = nk) (e4 : nv' = nv) :
    Cert.ReferenceIdeal.Read.val_main_v127 (F := Ideal) q' k' v' nk' nv' = Cert.ReferenceIdeal.Read.val_main_v127 (F := Ideal) q k v nk nv := by
  rw [e0, e1, e2, e3, e4]

/-- From memories that agree on five arguments of real numbers, kernel and reference end with the same result. -/
theorem same_result : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hp hm
  refine ⟨refOut m, ?_, ?_⟩
  · exact (θ_run Cert.KernelIdeal.defs _ _).mono (fun _ h c => ⟨h.1 c, h.2.1 c⟩)
      (θ_run_and (kernel_run m g fun c => finite_of_pre m hp c) (frame_pi m g))
  · refine (θ_run Cert.ReferenceIdeal.defs _ _).mono (fun _ h c => ⟨?_, (h c).2⟩) (Cert.ReferenceIdeal.Value.run (F := Ideal) m' g')
    refine (h c).1.trans ((Cert.ReferenceIdeal.Read.val_main_v127_eq (F := Ideal) _).trans ?_)
    obtain ⟨e0, e1, e2, e3, e4⟩ := hm c
    exact refVal_congr e0 e1 e2 e3 e4

theorem claim : Cert.Claim :=
  ⟨Cert.KernelIdeal.Gen.facts, Cert.ReferenceIdeal.Gen.facts, Cert.Pre_finite_inputs.Gen.facts,
    frame_kernel, frame_kernel_pre, frame_reference, frame_reference_pre, same_result⟩

end Cert.Proof

end
